-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_in [hPre_finite_in : Cert.Pre_finite_in.Facts] (m : (ℓ : Loc Cert.InProjIdeal.nD Cert.InProjIdeal.τ Cert.InProjIdeal.sig) → Buf (Elt Ideal) ℓ) : Prop :=
  ∀ c : Dev Cert.InProjIdeal.nD,
    (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).1 = (fun _ => 1#1)
    ∧ (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2.1 = (fun _ => 1#1)
    ∧ (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2.2 = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_finite_in [hPre_finite_in : Cert.Pre_finite_in.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_finite_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6))).1 = (fun _ => 1#1)
    ∧ (Cert.Pre_finite_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6))).2.1 = (fun _ => 1#1)
    ∧ (Cert.Pre_finite_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6))).2.2 = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.2 = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_finite_sb [hPre_finite_sb : Cert.Pre_finite_sb.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_finite_sb.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).1 = (fun _ => 1#1)
    ∧ (Cert.Pre_finite_sb.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).2.1 = (fun _ => 1#1)
    ∧ (Cert.Pre_finite_sb.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjIdeal_pre_finite_in [hInProjIdeal : Cert.InProjIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6))
      ∧ r.2.sem = fun _ => 0)

def quiescent_InProjReferenceIdeal_pre_finite_in [hInProjReferenceIdeal : Cert.InProjReferenceIdeal.Facts] [hPre_finite_in : Cert.Pre_finite_in.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_finite_in m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_SbReferenceIdeal_pre_finite_sb [hSbReferenceIdeal : Cert.SbReferenceIdeal.Facts] [hPre_finite_sb : Cert.Pre_finite_sb.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_finite_sb m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v120_9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v17) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v47) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_InProj_InProjIdeal : Prop :=
  True

def algebraic_InProjIdeal_InProjReferenceIdeal_pre_finite_in [hInProjIdeal : Cert.InProjIdeal.Facts] [hInProjReferenceIdeal : Cert.InProjReferenceIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_finite_in m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v19_0)) (v1 : (c : Dev Cert.InProjIdeal.nD) → Buf (Elt Ideal) ((c.tc : Thread Cert.InProjIdeal.nD Cert.InProjIdeal.τ).loc Cert.InProjIdeal.main_v19_1)) (v2 : (c : Dev Cert.InProjIdeal.nD) → Buf (Elt Ideal) ((c.tc : Thread Cert.InProjIdeal.nD Cert.InProjIdeal.τ).loc Cert.InProjIdeal.main_v19_2)) (v3 : (c : Dev Cert.InProjIdeal.nD) → Buf (Elt Ideal) ((c.tc : Thread Cert.InProjIdeal.nD Cert.InProjIdeal.τ).loc Cert.InProjIdeal.main_v19_3)) (v4 : (c : Dev Cert.InProjIdeal.nD) → Buf (Elt Ideal) ((c.tc : Thread Cert.InProjIdeal.nD Cert.InProjIdeal.τ).loc Cert.InProjIdeal.main_v19_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v19_0) = v0 c
          ∧ r.2.mem ((c.tc : Thread Cert.InProjIdeal.nD Cert.InProjIdeal.τ).loc Cert.InProjIdeal.main_v19_1) = v1 c
          ∧ r.2.mem ((c.tc : Thread Cert.InProjIdeal.nD Cert.InProjIdeal.τ).loc Cert.InProjIdeal.main_v19_2) = v2 c
          ∧ r.2.mem ((c.tc : Thread Cert.InProjIdeal.nD Cert.InProjIdeal.τ).loc Cert.InProjIdeal.main_v19_3) = v3 c
          ∧ r.2.mem ((c.tc : Thread Cert.InProjIdeal.nD Cert.InProjIdeal.τ).loc Cert.InProjIdeal.main_v19_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v47) = v0 c
          ∧ r.2.mem ((c.tc : Thread Cert.InProjReferenceIdeal.nD Cert.InProjReferenceIdeal.τ).loc Cert.InProjReferenceIdeal.main_v55) = v1 c
          ∧ r.2.mem ((c.tc : Thread Cert.InProjReferenceIdeal.nD Cert.InProjReferenceIdeal.τ).loc Cert.InProjReferenceIdeal.main_v52) = v2 c
          ∧ r.2.mem ((c.tc : Thread Cert.InProjReferenceIdeal.nD Cert.InProjReferenceIdeal.τ).loc Cert.InProjReferenceIdeal.main_v54) = v3 c
          ∧ r.2.mem ((c.tc : Thread Cert.InProjReferenceIdeal.nD Cert.InProjReferenceIdeal.τ).loc Cert.InProjReferenceIdeal.main_v56) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6))

def preserves_Sb_SbIdeal : Prop :=
  True

def algebraic_SbIdeal_SbReferenceIdeal_pre_finite_sb [hSbIdeal : Cert.SbIdeal.Facts] [hSbReferenceIdeal : Cert.SbReferenceIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbIdeal_finite_sb m →
    (∀ c : Dev Cert.SbIdeal.nD,
      m' ((c.tc : Thread Cert.SbReferenceIdeal.nD Cert.SbReferenceIdeal.τ).loc Cert.SbReferenceIdeal.main_arg0) = m ((c.tc : Thread Cert.SbIdeal.nD Cert.SbIdeal.τ).loc Cert.SbIdeal.main_arg0)
      ∧ m' ((c.tc : Thread Cert.SbReferenceIdeal.nD Cert.SbReferenceIdeal.τ).loc Cert.SbReferenceIdeal.main_arg1) = m ((c.tc : Thread Cert.SbIdeal.nD Cert.SbIdeal.τ).loc Cert.SbIdeal.main_arg1)
      ∧ m' ((c.tc : Thread Cert.SbReferenceIdeal.nD Cert.SbReferenceIdeal.τ).loc Cert.SbReferenceIdeal.main_arg2) = m ((c.tc : Thread Cert.SbIdeal.nD Cert.SbIdeal.τ).loc Cert.SbIdeal.main_arg2)
      ∧ m' ((c.tc : Thread Cert.SbReferenceIdeal.nD Cert.SbReferenceIdeal.τ).loc Cert.SbReferenceIdeal.main_arg3) = m ((c.tc : Thread Cert.SbIdeal.nD Cert.SbIdeal.τ).loc Cert.SbIdeal.main_arg3)) →
    ∃ (v0 : (c : Dev Cert.SbIdeal.nD) → Buf (Elt Ideal) ((c.tc : Thread Cert.SbIdeal.nD Cert.SbIdeal.τ).loc Cert.SbIdeal.main_v8)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v8) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v30) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hInProj : Cert.InProj.Facts) (hInProjIdeal : Cert.InProjIdeal.Facts) (hInProjReferenceIdeal : Cert.InProjReferenceIdeal.Facts) (hSb : Cert.Sb.Facts) (hSbIdeal : Cert.SbIdeal.Facts) (hSbReferenceIdeal : Cert.SbReferenceIdeal.Facts) (hPre_finite_in : Cert.Pre_finite_in.Facts) (hPre_finite_sb : Cert.Pre_finite_sb.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_InProj (hInProj := hInProj)
    ∧ quiescent_InProjIdeal (hInProjIdeal := hInProjIdeal)
    ∧ quiescent_InProjIdeal_pre_finite_in (hInProjIdeal := hInProjIdeal) (hPre_finite_in := hPre_finite_in)
    ∧ quiescent_InProjReferenceIdeal (hInProjReferenceIdeal := hInProjReferenceIdeal)
    ∧ quiescent_InProjReferenceIdeal_pre_finite_in (hInProjReferenceIdeal := hInProjReferenceIdeal) (hPre_finite_in := hPre_finite_in)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbReferenceIdeal (hSbReferenceIdeal := hSbReferenceIdeal)
    ∧ quiescent_SbReferenceIdeal_pre_finite_sb (hSbReferenceIdeal := hSbReferenceIdeal) (hPre_finite_sb := hPre_finite_sb)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_InProj_InProjIdeal
    ∧ algebraic_InProjIdeal_InProjReferenceIdeal_pre_finite_in (hInProjIdeal := hInProjIdeal) (hInProjReferenceIdeal := hInProjReferenceIdeal) (hPre_finite_in := hPre_finite_in)
    ∧ preserves_Sb_SbIdeal
    ∧ algebraic_SbIdeal_SbReferenceIdeal_pre_finite_sb (hSbIdeal := hSbIdeal) (hSbReferenceIdeal := hSbReferenceIdeal) (hPre_finite_sb := hPre_finite_sb)
-- ==== Pre_finite_in.lean ====
abbrev S16384x1024 : Shape := ⟨2, ![16384, 1024]⟩
abbrev S1024 : Shape := ⟨1, ![1024]⟩
abbrev S1024x4096 : Shape := ⟨2, ![1024, 4096]⟩
abbrev S64 : Shape := ⟨1, ![64]⟩
abbrev S2x16384x512 : Shape := ⟨3, ![2, 16384, 512]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S16384x1024 .f32) (main_arg1 : FVec F S1024 .f32) (main_arg2 : FVec F S1024x4096 .f32) (main_arg3 : FVec F S64 .f32) (main_arg4 : FVec F S64 .f32) (main_arg5 : FVec F S2x16384x512 .f32) (main_arg6 : FVec F S2x16384x512 .f32) : IVec S16384x1024 1 × IVec S1024 1 × IVec S1024x4096 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  (main_v2, main_v5, main_v8)
-- ==== Pre_finite_sb.lean ====
abbrev S8 : Shape := ⟨1, ![8]⟩
abbrev S16384x512 : Shape := ⟨2, ![16384, 512]⟩
abbrev S2x16384x512 : Shape := ⟨3, ![2, 16384, 512]⟩
abbrev S_ : Shape := ⟨0, ![]⟩
abbrev S1x16384x512 : Shape := ⟨3, ![1, 16384, 512]⟩

class Facts : Prop where
  bcast_S_S8 : S_.BroadcastsInDim S8 (![] : Fin 0 → Fin S8.rank)
  bcast_S_S16384x512 : S_.BroadcastsInDim S16384x512 (![] : Fin 0 → Fin S16384x512.rank)
  slices_S2x16384x512_S1x16384x512_0_0_0 : S2x16384x512.Slices ![0, 0, 0] S1x16384x512
  shapeCasts_S1x16384x512_S16384x512 : S1x16384x512.ShapeCasts S16384x512

variable [Facts]

def fn {F : FTy → Type} [FloatOps F] (main_arg0 : FVec F S8 .f32) (main_arg1 : FVec F S16384x512 .f32) (main_arg2 : FVec F S2x16384x512 .f32) (main_arg3 : FVec F S2x16384x512 .f32) : IVec S8 1 × IVec S16384x512 1 × IVec S16384x512 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S1x16384x512 .f32 := (extractStridedSlice S1x16384x512 ![0, 0, 0] · slices_S2x16384x512_S1x16384x512_0_0_0) main_arg2
  let main_v7 : FVec F S16384x512 .f32 := shapeCast S16384x512 main_v6 shapeCasts_S1x16384x512_S16384x512
  let main_v8 : FVec F S16384x512 .f32 := Host.absf main_v7
  let main_cst_1 : FVec F S_ .f32 := constant S_ .f32 0x7F800000#32
  let main_v9 : FVec F S16384x512 .f32 := broadcastInDim S16384x512 ![] bcast_S_S16384x512 main_cst_1
  let main_v10 : IVec S16384x512 1 := cmpf .olt main_v8 main_v9
  (main_v2, main_v5, main_v10)
-- ==== Kernel.lean ====
abbrev S16384x2048 : Shape := ⟨2, ![16384, 2048]⟩
abbrev S8x4x128x128 : Shape := ⟨4, ![8, 4, 128, 128]⟩
abbrev S512 : Shape := ⟨1, ![512]⟩
abbrev S2048 : Shape := ⟨1, ![2048]⟩
abbrev S_ : Shape := ⟨0, ![]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128 : Shape := ⟨3, ![4, 1, 128]⟩
abbrev S1x512 : Shape := ⟨2, ![1, 512]⟩
abbrev S16384x512 : Shape := ⟨2, ![16384, 512]⟩
abbrev S128x512 : Shape := ⟨2, ![128, 512]⟩
abbrev S1x4x128x128 : Shape := ⟨4, ![1, 4, 128, 128]⟩
abbrev S1x1x128 : Shape := ⟨3, ![1, 1, 128]⟩

abbrev nBuf : Space → Nat
  | .hbm => 91
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S8x4x128x128, .f32⟩
  | .hbm, ⟨2, _⟩ => ⟨S512, .f32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S2048, .f32⟩
  | .hbm, ⟨16, _⟩ => ⟨S2048x1, .f32⟩
  | .hbm, ⟨17, _⟩ => ⟨S1x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x128, .f32⟩
  | .hbm, ⟨24, _⟩ => ⟨S2048x64, .f32⟩
  | .hbm, ⟨25, _⟩ => ⟨S2048x128, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S128, .f32⟩
  | .hbm, ⟨37, _⟩ => ⟨S128x1, .f32⟩
  | .hbm, ⟨38, _⟩ => ⟨S1x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S1x128x128, .f32⟩
  | .hbm, ⟨43, _⟩ => ⟨S_, .f32⟩
  | .hbm, ⟨44, _⟩ => ⟨S1x128x128, .f32⟩
  | .hbm, ⟨45, _⟩ => ⟨S1x128x128, .i1⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S1x128x128, .f32⟩
  | .hbm, ⟨50, _⟩ => ⟨S4x1x1, .f32⟩
  | .hbm, ⟨51, _⟩ => ⟨S4x128x128, .f32⟩
  | .hbm, ⟨52, _⟩ => ⟨S4x128x128, .f32⟩
  | .hbm, ⟨53, _⟩ => ⟨S4x128x128, .f32⟩
  | .hbm, ⟨54, _⟩ => ⟨S4x128x128, .f32⟩
  | .hbm, ⟨55, _⟩ => ⟨S_, .f32⟩
  | .hbm, ⟨56, _⟩ => ⟨S_, .f32⟩
  | .hbm, ⟨57, _⟩ => ⟨S4x128x128, .i1⟩
  | .hbm, ⟨58, _⟩ => ⟨S4x128x128, .f32⟩
  | .hbm, ⟨59, _⟩ => ⟨S4x128x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S4x1, .f32⟩
  | .hbm, ⟨65, _⟩ => ⟨S4x128, .f32⟩
  | .hbm, ⟨66, _⟩ => ⟨S4x128, .f32⟩
  | .hbm, ⟨67, _⟩ => ⟨S4x128, .f32⟩
  | .hbm, ⟨68, _⟩ => ⟨S4x128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S4x1, .f32⟩
  | .hbm, ⟨74, _⟩ => ⟨S4x128, .f32⟩
  | .hbm, ⟨75, _⟩ => ⟨S4x128, .f32⟩
  | .hbm, ⟨76, _⟩ => ⟨S4x128, .f32⟩
  | .hbm, ⟨77, _⟩ => ⟨S4x128, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4x128x1, .f32⟩
  | .hbm, ⟨83, _⟩ => ⟨S4x128x128, .f32⟩
  | .hbm, ⟨84, _⟩ => ⟨S4x128x1, .f32⟩
  | .hbm, ⟨85, _⟩ => ⟨S4x128x128, .f32⟩
  | .hbm, ⟨86, _⟩ => ⟨S4x1x1, .f32⟩
  | .hbm, ⟨87, _⟩ => ⟨S4x1x128, .f32⟩
  | .hbm, ⟨88, _⟩ => ⟨S1x512, .f32⟩
  | .hbm, ⟨89, _⟩ => ⟨S16384x512, .f32⟩
  | .hbm, ⟨90, _⟩ => ⟨S8x4x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | .local _ .vmem, ⟨15, _⟩ => ⟨S4x1x128, .f32⟩
  | .local _ .vmem, ⟨16, _⟩ => ⟨S1x4x128x128, .f32⟩
  | .local _ .vmem, ⟨17, _⟩ => ⟨S1x4x128x128, .f32⟩
  | .local _ .vmem, ⟨18, _⟩ => ⟨S1x512, .f32⟩
  | .local _ .vmem, ⟨19, _⟩ => ⟨S128x512, .f32⟩
  | .local _ .vmem, ⟨20, _⟩ => ⟨S128x512, .f32⟩
  | .local _ .vmem, ⟨21, _⟩ => ⟨S1x4x128x128, .f32⟩
  | .local _ .vmem, ⟨22, _⟩ => ⟨S1x4x128x128, .f32⟩
  | .local _ .vmem, ⟨23, _⟩ => ⟨S4x128x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72_0 : Ref sig .tc := ⟨.hbm, 89, rfl⟩
abbrev main_v72_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v279 : BitVec 1 := Scalar.cmpi .eq arg1 c15_i32
  let v280 : BitVec 32 := Scalar.extui v279
  let c0_i32_164 : BitVec 32 := 0#32
  let v281 : BitVec 1 := Scalar.cmpi .ne v280 c0_i32_164
  v281

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S16384x2048 : Shape := ⟨2, ![16384, 2048]⟩
abbrev S8x4x128x128 : Shape := ⟨4, ![8, 4, 128, 128]⟩
abbrev S512 : Shape := ⟨1, ![512]⟩
abbrev S8x2048x2048 : Shape := ⟨3, ![8, 2048, 2048]⟩
abbrev S8x2048x512 : Shape := ⟨3, ![8, 2048, 512]⟩
abbrev S2048 : Shape := ⟨1, ![2048]⟩
abbrev S8x2048x4x128 : Shape := ⟨4, ![8, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x4x64 : Shape := ⟨4, ![8, 2048, 4, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S8x16x128x4x128 : Shape := ⟨5, ![8, 16, 128, 4, 128]⟩
abbrev S16x8x128x4x128 : Shape := ⟨5, ![16, 8, 128, 4, 128]⟩
abbrev S1x8x128x4x128 : Shape := ⟨5, ![1, 8, 128, 4, 128]⟩
abbrev S8x128x4x128 : Shape := ⟨4, ![8, 128, 4, 128]⟩
abbrev S1x4x128x128 : Shape := ⟨4, ![1, 4, 128, 128]⟩
abbrev S1x128x4x1 : Shape := ⟨4, ![1, 128, 4, 1]⟩
abbrev S1x4x1x1 : Shape := ⟨4, ![1, 4, 1, 1]⟩
abbrev S8x2048x4 : Shape := ⟨3, ![8, 2048, 4]⟩
abbrev S8x2048x4x1 : Shape := ⟨4, ![8, 2048, 4, 1]⟩
abbrev S1x1x512 : Shape := ⟨3, ![1, 1, 512]⟩
abbrev S16384x512 : Shape := ⟨2, ![16384, 512]⟩

abbrev nBuf : Space → Nat
  | .hbm => 264
  | .vmem => 0
  | .smem => 0
  | _ => 0

abbrev hbmTy0_0 (i : Nat) : BufTy := match i % 128 with
  | 0 => ⟨S16384x2048, .f32⟩
  | 1 => ⟨S8x4x128x128, .f32⟩
  | 2 => ⟨S512, .f32⟩
  | 3 => ⟨S8x2048x2048, .f32⟩
  | 4 => ⟨S8x2048x512, .f32⟩
  | 5 => ⟨S8x2048x512, .f32⟩
  | 6 => ⟨S8x2048x512, .f32⟩
  | 7 => ⟨S2048, .i32⟩
  | 8 => ⟨S8x2048x4x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S2048, .f32⟩
  | 18 => ⟨S2048x1, .f32⟩
  | 19 => ⟨S1x64, .f32⟩
  | 20 => ⟨S2048x64, .f32⟩
  | 21 => ⟨S2048x64, .f32⟩
  | 22 => ⟨S2048x64, .f32⟩
  | 23 => ⟨S2048x64, .f32⟩
  | 24 => ⟨S1x2048x1x64, .f32⟩
  | 25 => ⟨S2048x64, .f32⟩
  | 26 => ⟨S1x2048x1x64, .f32⟩
  | 27 => ⟨S8x2048x4x64, .f32⟩
  | 28 => ⟨S8x2048x4x64, .f32⟩
  | 29 => ⟨S8x2048x4x64, .f32⟩
  | 30 => ⟨S8x2048x4x64, .f32⟩
  | 31 => ⟨S8x2048x4x64, .f32⟩
  | 32 => ⟨S8x2048x4x64, .f32⟩
  | 33 => ⟨S8x2048x4x64, .f32⟩
  | 34 => ⟨S8x2048x4x64, .f32⟩
  | 35 => ⟨S8x2048x4x64, .f32⟩
  | 36 => ⟨S8x2048x4x64, .f32⟩
  | 37 => ⟨S8x2048x4x64, .f32⟩
  | 38 => ⟨S8x2048x4x64, .f32⟩
  | 39 => ⟨S8x2048x4x128, .f32⟩
  | 40 => ⟨S8x2048x4x128, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S2048, .f32⟩
  | 50 => ⟨S2048x1, .f32⟩
  | 51 => ⟨S1x64, .f32⟩
  | 52 => ⟨S2048x64, .f32⟩
  | 53 => ⟨S2048x64, .f32⟩
  | 54 => ⟨S2048x64, .f32⟩
  | 55 => ⟨S2048x64, .f32⟩
  | 56 => ⟨S1x2048x1x64, .f32⟩
  | 57 => ⟨S2048x64, .f32⟩
  | 58 => ⟨S1x2048x1x64, .f32⟩
  | 59 => ⟨S8x2048x4x64, .f32⟩
  | 60 => ⟨S8x2048x4x64, .f32⟩
  | 61 => ⟨S8x2048x4x64, .f32⟩
  | 62 => ⟨S8x2048x4x64, .f32⟩
  | 63 => ⟨S8x2048x4x64, .f32⟩
  | 64 => ⟨S8x2048x4x64, .f32⟩
  | 65 => ⟨S8x2048x4x64, .f32⟩
  | 66 => ⟨S8x2048x4x64, .f32⟩
  | 67 => ⟨S8x2048x4x64, .f32⟩
  | 68 => ⟨S8x2048x4x64, .f32⟩
  | 69 => ⟨S8x2048x4x64, .f32⟩
  | 70 => ⟨S8x2048x4x64, .f32⟩
  | 71 => ⟨S8x2048x4x128, .f32⟩
  | 72 => ⟨S_, .f32⟩
  | 73 => ⟨S8x2048x4x128, .f32⟩
  | 74 => ⟨S8x2048x4x128, .f32⟩
  | 75 => ⟨S8x2048x4x128, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S4, .f32⟩
  | 84 => ⟨S4, .f32⟩
  | 85 => ⟨S4, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S1x128x128, .f32⟩
  | 93 => ⟨S_, .f32⟩
  | 94 => ⟨S1x128x128, .f32⟩
  | 95 => ⟨S1x128x128, .i1⟩
  | 96 => ⟨S_, .f32⟩
  | 97 => ⟨S128x128, .f32⟩
  | 98 => ⟨S128x128, .f32⟩
  | 99 => ⟨S1x128x128, .f32⟩
  | 100 => ⟨S4x1x1, .f32⟩
  | 101 => ⟨S4x128x128, .f32⟩
  | 102 => ⟨S4x128x128, .f32⟩
  | 103 => ⟨S4x128x128, .f32⟩
  | 104 => ⟨S4x128x128, .f32⟩
  | 105 => ⟨S_, .f32⟩
  | 106 => ⟨S_, .f32⟩
  | 107 => ⟨S4x128x128, .i1⟩
  | 108 => ⟨S4x128x128, .f32⟩
  | 109 => ⟨S4x128x128, .f32⟩
  | 110 => ⟨S128x1, .f32⟩
  | 111 => ⟨S_, .f32⟩
  | 112 => ⟨S128x1, .f32⟩
  | 113 => ⟨S128x1, .f32⟩
  | 114 => ⟨S1x4, .f32⟩
  | 115 => ⟨S128x4, .f32⟩
  | 116 => ⟨S128x4, .f32⟩
  | 117 => ⟨S128x4, .f32⟩
  | 118 => ⟨S128x4, .f32⟩
  | 119 => ⟨S_, .f32⟩
  | 120 => ⟨S128, .f32⟩
  | 121 => ⟨S128, .f32⟩
  | 122 => ⟨S128x1, .f32⟩
  | 123 => ⟨S1x4, .f32⟩
  | 124 => ⟨S128x4, .f32⟩
  | 125 => ⟨S128x4, .f32⟩
  | 126 => ⟨S128x4, .f32⟩
  | 127 => ⟨S128x4, .f32⟩
  | _ => ⟨S16384x2048, .f32⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S8x16x128x4x128, .f32⟩
  | 5 => ⟨S16x8x128x4x128, .f32⟩
  | 6 => ⟨S8x16x128x4x128, .f32⟩
  | 7 => ⟨S16x8x128x4x128, .f32⟩
  | 8 => ⟨S8x16x128x4x128, .f32⟩
  | 9 => ⟨S16x8x128x4x128, .f32⟩
  | 10 => ⟨S_, .f32⟩
  | 11 => ⟨S16x8x128x4x128, .f32⟩
  | 12 => ⟨S_, .i32⟩
  | 13 => ⟨S_, .i32⟩
  | 14 => ⟨S16x8x128x4x128, .f32⟩
  | 15 => ⟨S16x8x128x4x128, .f32⟩
  | 16 => ⟨S16x8x128x4x128, .f32⟩
  | 17 => ⟨S4x128x128, .f32⟩
  | 18 => ⟨S128x4, .f32⟩
  | 19 => ⟨S4, .f32⟩
  | 20 => ⟨S128x4, .f32⟩
  | 21 => ⟨S_, .i32⟩
  | 22 => ⟨S_, .i32⟩
  | 23 => ⟨S8x4x128x128, .f32⟩
  | 24 => ⟨S16x8x128x4x128, .f32⟩
  | 25 => ⟨S_, .i32⟩
  | 26 => ⟨S_, .i1⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S1x8x128x4x128, .f32⟩
  | 40 => ⟨S8x128x4x128, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S1x8x128x4x128, .f32⟩
  | 52 => ⟨S8x128x4x128, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S1x8x128x4x128, .f32⟩
  | 64 => ⟨S8x128x4x128, .f32⟩
  | 65 => ⟨S8x4x128x128, .f32⟩
  | 66 => ⟨S1x4x128x128, .f32⟩
  | 67 => ⟨S8x4x128x128, .f32⟩
  | 68 => ⟨S8x4x128x128, .f32⟩
  | 69 => ⟨S8x4x128x128, .f32⟩
  | 70 => ⟨S8x128x4x128, .f32⟩
  | 71 => ⟨S8x4x128x128, .f32⟩
  | 72 => ⟨S8x128x4x128, .f32⟩
  | 73 => ⟨S1x128x4x1, .f32⟩
  | 74 => ⟨S8x128x4x128, .f32⟩
  | 75 => ⟨S8x128x4x128, .f32⟩
  | 76 => ⟨S8x128x4x128, .f32⟩
  | 77 => ⟨S1x4x1x1, .f32⟩
  | 78 => ⟨S8x4x128x128, .f32⟩
  | 79 => ⟨S8x4x128x128, .f32⟩
  | 80 => ⟨S1x128x4x1, .f32⟩
  | 81 => ⟨S8x128x4x128, .f32⟩
  | 82 => ⟨S8x128x4x128, .f32⟩
  | 83 => ⟨S8x4x128x128, .f32⟩
  | 84 => ⟨S8x4x128x128, .f32⟩
  | 85 => ⟨S16x8x128x4x128, .i32⟩
  | 86 => ⟨S_, .i32⟩
  | 87 => ⟨S16x8x128x4x128, .i32⟩
  | 88 => ⟨S16x8x128x4x128, .i1⟩
  | 89 => ⟨S1x8x128x4x128, .f32⟩
  | 90 => ⟨S16x8x128x4x128, .f32⟩
  | 91 => ⟨S16x8x128x4x128, .f32⟩
  | 92 => ⟨S_, .i32⟩
  | 93 => ⟨S_, .i32⟩
  | 94 => ⟨S8x16x128x4x128, .f32⟩
  | 95 => ⟨S8x2048x4x128, .f32⟩
  | 96 => ⟨S8x2048x2048, .f32⟩
  | 97 => ⟨S8x2048x512, .f32⟩
  | 98 => ⟨S8x2048x512, .f32⟩
  | 99 => ⟨S8x2048x512, .f32⟩
  | 100 => ⟨S_, .f32⟩
  | 101 => ⟨S8x2048x512, .f32⟩
  | 102 => ⟨S8x2048x512, .f32⟩
  | 103 => ⟨S_, .f32⟩
  | 104 => ⟨S8x2048x512, .f32⟩
  | 105 => ⟨S8x2048x512, .f32⟩
  | 106 => ⟨S8x2048x512, .f32⟩
  | 107 => ⟨S_, .f32⟩
  | 108 => ⟨S8x2048x4, .f32⟩
  | 109 => ⟨S8x2048x4x1, .f32⟩
  | 110 => ⟨S_, .f32⟩
  | 111 => ⟨S8x2048x4x1, .f32⟩
  | 112 => ⟨S8x2048x4x1, .f32⟩
  | 113 => ⟨S8x2048x4x128, .f32⟩
  | 114 => ⟨S8x2048x4x128, .f32⟩
  | 115 => ⟨S8x2048x4x128, .f32⟩
  | 116 => ⟨S_, .f32⟩
  | 117 => ⟨S8x2048x4, .f32⟩
  | 118 => ⟨S8x2048x4x1, .f32⟩
  | 119 => ⟨S_, .f32⟩
  | 120 => ⟨S8x2048x4x1, .f32⟩
  | 121 => ⟨S8x2048x4x1, .f32⟩
  | 122 => ⟨S8x2048x4x128, .f32⟩
  | 123 => ⟨S8x2048x4x128, .f32⟩
  | 124 => ⟨S_, .f32⟩
  | 125 => ⟨S8x2048x4x1, .f32⟩
  | 126 => ⟨S8x2048x4x1, .f32⟩
  | 127 => ⟨S8x2048x4x1, .f32⟩
  | _ => ⟨S16384x2048, .f32⟩

abbrev hbmTy0_2 (i : Nat) : BufTy := match i % 128 with
  | 0 => ⟨S8x2048x4x128, .f32⟩
  | 1 => ⟨S8x2048x4x128, .f32⟩
  | 2 => ⟨S8x2048x512, .f32⟩
  | 3 => ⟨S1x1x512, .f32⟩
  | 4 => ⟨S8x2048x512, .f32⟩
  | 5 => ⟨S8x2048x512, .f32⟩
  | 6 => ⟨S8x2048x512, .f32⟩
  | 7 => ⟨S16384x512, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_cst_3 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_4 : Ref sig .tc := ⟨.hbm, 77, rfl⟩
abbrev main_v69 : Ref sig .tc := ⟨.hbm, 78, rfl⟩
abbrev main_v70 : Ref sig .tc := ⟨.hbm, 79, rfl⟩
abbrev main_cst_5 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_cst_6 : Ref sig .tc := ⟨.hbm, 93, rfl⟩
abbrev main_v83 : Ref sig .tc := ⟨.hbm, 94, rfl⟩
abbrev main_v84 : Ref sig .tc := ⟨.hbm, 95, rfl⟩
abbrev main_cst_7 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v93 : Ref sig .tc := ⟨.hbm, 109, rfl⟩
abbrev main_v94 : Ref sig .tc := ⟨.hbm, 110, rfl⟩
abbrev main_cst_9 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_10 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_11 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_12 : Ref sig .tc := ⟨.hbm, 138, rfl⟩
abbrev main_v119 : Ref sig .tc := ⟨.hbm, 139, rfl⟩
abbrev main_c : Ref sig .tc := ⟨.hbm, 140, rfl⟩
abbrev main_c_13 : Ref sig .tc := ⟨.hbm, 141, rfl⟩
abbrev main_v120_0 : Ref sig .tc := ⟨.hbm, 142, rfl⟩
abbrev main_v120_1 : Ref sig .tc := ⟨.hbm, 143, rfl⟩
abbrev main_v120_2 : Ref sig .tc := ⟨.hbm, 144, rfl⟩
abbrev main_v120_3 : Ref sig .tc := ⟨.hbm, 145, rfl⟩
abbrev main_v120_4 : Ref sig .tc := ⟨.hbm, 146, rfl⟩
abbrev main_v120_5 : Ref sig .tc := ⟨.hbm, 147, rfl⟩
abbrev main_v120_6 : Ref sig .tc := ⟨.hbm, 148, rfl⟩
abbrev main_v120_7 : Ref sig .tc := ⟨.hbm, 149, rfl⟩
abbrev main_v120_8 : Ref sig .tc := ⟨.hbm, 150, rfl⟩
abbrev main_v120_9 : Ref sig .tc := ⟨.hbm, 151, rfl⟩
abbrev main_v120_10 : Ref sig .tc := ⟨.hbm, 152, rfl⟩
abbrev main_while0c_c_29 : Ref sig .tc := ⟨.hbm, 153, rfl⟩
abbrev main_while0c_v150 : Ref sig .tc := ⟨.hbm, 154, rfl⟩
abbrev main_while0b_c_29 : Ref sig .tc := ⟨.hbm, 155, rfl⟩
abbrev main_while0b_v150 : Ref sig .tc := ⟨.hbm, 156, rfl⟩
abbrev main_while0b_call1_c : Ref sig .tc := ⟨.hbm, 157, rfl⟩
abbrev main_while0b_call1_v0 : Ref sig .tc := ⟨.hbm, 158, rfl⟩
abbrev main_while0b_call1_v1 : Ref sig .tc := ⟨.hbm, 159, rfl⟩
abbrev main_while0b_call1_c_0 : Ref sig .tc := ⟨.hbm, 160, rfl⟩
abbrev main_while0b_call1_v2 : Ref sig .tc := ⟨.hbm, 161, rfl⟩
abbrev main_while0b_call1_v3 : Ref sig .tc := ⟨.hbm, 162, rfl⟩
abbrev main_while0b_call1_c_1 : Ref sig .tc := ⟨.hbm, 163, rfl⟩
abbrev main_while0b_call1_c_2 : Ref sig .tc := ⟨.hbm, 164, rfl⟩
abbrev main_while0b_call1_c_3 : Ref sig .tc := ⟨.hbm, 165, rfl⟩
abbrev main_while0b_call1_c_4 : Ref sig .tc := ⟨.hbm, 166, rfl⟩
abbrev main_while0b_call1_v4 : Ref sig .tc := ⟨.hbm, 167, rfl⟩
abbrev main_while0b_v151 : Ref sig .tc := ⟨.hbm, 168, rfl⟩
abbrev main_while0b_call2_c : Ref sig .tc := ⟨.hbm, 169, rfl⟩
abbrev main_while0b_call2_v0 : Ref sig .tc := ⟨.hbm, 170, rfl⟩
abbrev main_while0b_call2_v1 : Ref sig .tc := ⟨.hbm, 171, rfl⟩
abbrev main_while0b_call2_c_0 : Ref sig .tc := ⟨.hbm, 172, rfl⟩
abbrev main_while0b_call2_v2 : Ref sig .tc := ⟨.hbm, 173, rfl⟩
abbrev main_while0b_call2_v3 : Ref sig .tc := ⟨.hbm, 174, rfl⟩
abbrev main_while0b_call2_c_1 : Ref sig .tc := ⟨.hbm, 175, rfl⟩
abbrev main_while0b_call2_c_2 : Ref sig .tc := ⟨.hbm, 176, rfl⟩
abbrev main_while0b_call2_c_3 : Ref sig .tc := ⟨.hbm, 177, rfl⟩
abbrev main_while0b_call2_c_4 : Ref sig .tc := ⟨.hbm, 178, rfl⟩
abbrev main_while0b_call2_v4 : Ref sig .tc := ⟨.hbm, 179, rfl⟩
abbrev main_while0b_v152 : Ref sig .tc := ⟨.hbm, 180, rfl⟩
abbrev main_while0b_call3_c : Ref sig .tc := ⟨.hbm, 181, rfl⟩
abbrev main_while0b_call3_v0 : Ref sig .tc := ⟨.hbm, 182, rfl⟩
abbrev main_while0b_call3_v1 : Ref sig .tc := ⟨.hbm, 183, rfl⟩
abbrev main_while0b_call3_c_0 : Ref sig .tc := ⟨.hbm, 184, rfl⟩
abbrev main_while0b_call3_v2 : Ref sig .tc := ⟨.hbm, 185, rfl⟩
abbrev main_while0b_call3_v3 : Ref sig .tc := ⟨.hbm, 186, rfl⟩
abbrev main_while0b_call3_c_1 : Ref sig .tc := ⟨.hbm, 187, rfl⟩
abbrev main_while0b_call3_c_2 : Ref sig .tc := ⟨.hbm, 188, rfl⟩
abbrev main_while0b_call3_c_3 : Ref sig .tc := ⟨.hbm, 189, rfl⟩
abbrev main_while0b_call3_c_4 : Ref sig .tc := ⟨.hbm, 190, rfl⟩
abbrev main_while0b_call3_v4 : Ref sig .tc := ⟨.hbm, 191, rfl⟩
abbrev main_while0b_v153 : Ref sig .tc := ⟨.hbm, 192, rfl⟩
abbrev main_while0b_v154 : Ref sig .tc := ⟨.hbm, 193, rfl⟩
abbrev main_while0b_v155 : Ref sig .tc := ⟨.hbm, 194, rfl⟩
abbrev main_while0b_v156 : Ref sig .tc := ⟨.hbm, 195, rfl⟩
abbrev main_while0b_v157 : Ref sig .tc := ⟨.hbm, 196, rfl⟩
abbrev main_while0b_v158 : Ref sig .tc := ⟨.hbm, 197, rfl⟩
abbrev main_while0b_v159 : Ref sig .tc := ⟨.hbm, 198, rfl⟩
abbrev main_while0b_v160 : Ref sig .tc := ⟨.hbm, 199, rfl⟩
abbrev main_while0b_v161 : Ref sig .tc := ⟨.hbm, 200, rfl⟩
abbrev main_while0b_v162 : Ref sig .tc := ⟨.hbm, 201, rfl⟩
abbrev main_while0b_v163 : Ref sig .tc := ⟨.hbm, 202, rfl⟩
abbrev main_while0b_v164 : Ref sig .tc := ⟨.hbm, 203, rfl⟩
abbrev main_while0b_v165 : Ref sig .tc := ⟨.hbm, 204, rfl⟩
abbrev main_while0b_v166 : Ref sig .tc := ⟨.hbm, 205, rfl⟩
abbrev main_while0b_v167 : Ref sig .tc := ⟨.hbm, 206, rfl⟩
abbrev main_while0b_v168 : Ref sig .tc := ⟨.hbm, 207, rfl⟩
abbrev main_while0b_v169 : Ref sig .tc := ⟨.hbm, 208, rfl⟩
abbrev main_while0b_v170 : Ref sig .tc := ⟨.hbm, 209, rfl⟩
abbrev main_while0b_v171 : Ref sig .tc := ⟨.hbm, 210, rfl⟩
abbrev main_while0b_v172 : Ref sig .tc := ⟨.hbm, 211, rfl⟩
abbrev main_while0b_v173 : Ref sig .tc := ⟨.hbm, 212, rfl⟩
abbrev main_while0b_v174 : Ref sig .tc := ⟨.hbm, 213, rfl⟩
abbrev main_while0b_v175 : Ref sig .tc := ⟨.hbm, 214, rfl⟩
abbrev main_while0b_v176 : Ref sig .tc := ⟨.hbm, 215, rfl⟩
abbrev main_while0b_v177 : Ref sig .tc := ⟨.hbm, 216, rfl⟩
abbrev main_while0b_v178 : Ref sig .tc := ⟨.hbm, 217, rfl⟩
abbrev main_while0b_call4_v0 : Ref sig .tc := ⟨.hbm, 218, rfl⟩
abbrev main_while0b_v179 : Ref sig .tc := ⟨.hbm, 219, rfl⟩
abbrev main_while0b_c_30 : Ref sig .tc := ⟨.hbm, 220, rfl⟩
abbrev main_while0b_v180 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_call5_v0 : Ref sig .tc := ⟨.hbm, 226, rfl⟩
abbrev main_call5_v1 : Ref sig .tc := ⟨.hbm, 227, rfl⟩
abbrev main_call5_cst : Ref sig .tc := ⟨.hbm, 228, rfl⟩
abbrev main_call5_v2 : Ref sig .tc := ⟨.hbm, 229, rfl⟩
abbrev main_call5_v3 : Ref sig .tc := ⟨.hbm, 230, rfl⟩
abbrev main_call5_cst_0 : Ref sig .tc := ⟨.hbm, 231, rfl⟩
abbrev main_call5_v4 : Ref sig .tc := ⟨.hbm, 232, rfl⟩
abbrev main_call5_v5 : Ref sig .tc := ⟨.hbm, 233, rfl⟩
abbrev main_v125 : Ref sig .tc := ⟨.hbm, 234, rfl⟩
abbrev main_cst_14 : Ref sig .tc := ⟨.hbm, 235, rfl⟩
abbrev main_v126 : Ref sig .tc := ⟨.hbm, 236, rfl⟩
abbrev main_v127 : Ref sig .tc := ⟨.hbm, 237, rfl⟩
abbrev main_cst_15 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_cst_16 : Ref sig .tc := ⟨.hbm, 244, rfl⟩
abbrev main_v133 : Ref sig .tc := ⟨.hbm, 245, rfl⟩
abbrev main_v134 : Ref sig .tc := ⟨.hbm, 246, rfl⟩
abbrev main_cst_17 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_cst_18 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩

abbrev nD : Nat := 1
abbrev τ : Topo := Topo.v7x

variable {F : FTy → Type} [FloatOps F]

abbrev main_while0_count : Scf.Loop 32 := ⟨0#32, 16#32, 1#32⟩
-- ==== Ffn.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnReferenceIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S4x16384x128 : Shape := ⟨3, ![4, 16384, 128]⟩
abbrev S16384x512 : Shape := ⟨2, ![16384, 512]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S1x1024 : Shape := ⟨2, ![1, 1024]⟩
abbrev S1x3072 : Shape := ⟨2, ![1, 3072]⟩
abbrev S256x1024 : Shape := ⟨2, ![256, 1024]⟩
abbrev S4x256x128 : Shape := ⟨3, ![4, 256, 128]⟩
abbrev S256x512 : Shape := ⟨2, ![256, 512]⟩
abbrev S256 : Shape := ⟨1, ![256]⟩
abbrev S256x1 : Shape := ⟨2, ![256, 1]⟩
abbrev S256x3072 : Shape := ⟨2, ![256, 3072]⟩
abbrev S1x256x128 : Shape := ⟨3, ![1, 256, 128]⟩
abbrev S256x128 : Shape := ⟨2, ![256, 128]⟩

abbrev nBuf : Space → Nat
  | .hbm => 21
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x16384x128, .f32⟩
  | .hbm, ⟨3, _⟩ => ⟨S16384x512, .f32⟩
  | .hbm, ⟨4, _⟩ => ⟨S16384x512, .f32⟩
  | .hbm, ⟨5, _⟩ => ⟨S1024x3072, .f32⟩
  | .hbm, ⟨6, _⟩ => ⟨S3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1x1024, .f32⟩
  | .hbm, ⟨13, _⟩ => ⟨S1024x3072, .bf16⟩
  | .hbm, ⟨14, _⟩ => ⟨S1x3072, .f32⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x256x128, .f32⟩
  | .local _ .vmem, ⟨4, _⟩ => ⟨S4x256x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S1024x3072, .bf16⟩
  | .local _ .vmem, ⟨10, _⟩ => ⟨S1x3072, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S16384x1024 : Shape := ⟨2, ![16384, 1024]⟩
abbrev S1024 : Shape := ⟨1, ![1024]⟩
abbrev S4x16384x128 : Shape := ⟨3, ![4, 16384, 128]⟩
abbrev S16384x512 : Shape := ⟨2, ![16384, 512]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x128 : Shape := ⟨3, ![16384, 4, 128]⟩
abbrev S16384x3072 : Shape := ⟨2, ![16384, 3072]⟩
abbrev S1x3072 : Shape := ⟨2, ![1, 3072]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x16384x128, .f32⟩
  | .hbm, ⟨3, _⟩ => ⟨S16384x512, .f32⟩
  | .hbm, ⟨4, _⟩ => ⟨S16384x512, .f32⟩
  | .hbm, ⟨5, _⟩ => ⟨S1024x3072, .f32⟩
  | .hbm, ⟨6, _⟩ => ⟨S3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x4x128, .f32⟩
  | .hbm, ⟨29, _⟩ => ⟨S16384x512, .f32⟩
  | .hbm, ⟨30, _⟩ => ⟨S16384x1024, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x3072, .f32⟩
  | .hbm, ⟨43, _⟩ => ⟨S1x3072, .f32⟩
  | .hbm, ⟨44, _⟩ => ⟨S16384x3072, .f32⟩
  | .hbm, ⟨45, _⟩ => ⟨S16384x3072, .f32⟩
  | .hbm, ⟨46, _⟩ => ⟨S16384x3072, .f32⟩
  | .hbm, ⟨47, _⟩ => ⟨S16384x3072, .f32⟩
  | .hbm, ⟨48, _⟩ => ⟨S_, .f32⟩
  | .hbm, ⟨49, _⟩ => ⟨S16384x3072, .f32⟩
  | .hbm, ⟨50, _⟩ => ⟨S16384x3072, .f32⟩
  | .hbm, ⟨51, _⟩ => ⟨S_, .f32⟩
  | .hbm, ⟨52, _⟩ => ⟨S16384x3072, .f32⟩
  | .hbm, ⟨53, _⟩ => ⟨S16384x3072, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x4096 : Shape := ⟨2, ![1024, 4096]⟩
abbrev S64 : Shape := ⟨1, ![64]⟩
abbrev S2x16384x512 : Shape := ⟨3, ![2, 16384, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S4x16384x128 : Shape := ⟨3, ![4, 16384, 128]⟩
abbrev S16384x512 : Shape := ⟨2, ![16384, 512]⟩
abbrev S16384x2048 : Shape := ⟨2, ![16384, 2048]⟩
abbrev S1024x1024 : Shape := ⟨2, ![1024, 1024]⟩
abbrev S4x1024x128 : Shape := ⟨3, ![4, 1024, 128]⟩
abbrev S1024x512 : Shape := ⟨2, ![1024, 512]⟩
abbrev S1x1024x512 : Shape := ⟨3, ![1, 1024, 512]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 52
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S2x16384x512, .f32⟩
  | .hbm, ⟨6, _⟩ => ⟨S2x16384x512, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S1x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S_, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S1x1024, .f32⟩
  | .hbm, ⟨38, _⟩ => ⟨S1024x4096, .bf16⟩
  | .hbm, ⟨39, _⟩ => ⟨S1x64, .f32⟩
  | .hbm, ⟨40, _⟩ => ⟨S8x64, .f32⟩
  | .hbm, ⟨41, _⟩ => ⟨S512, .f32⟩
  | .hbm, ⟨42, _⟩ => ⟨S1x512, .f32⟩
  | .hbm, ⟨43, _⟩ => ⟨S1x64, .f32⟩
  | .hbm, ⟨44, _⟩ => ⟨S8x64, .f32⟩
  | .hbm, ⟨45, _⟩ => ⟨S512, .f32⟩
  | .hbm, ⟨46, _⟩ => ⟨S1x512, .f32⟩
  | .hbm, ⟨47, _⟩ => ⟨S4x16384x128, .f32⟩
  | .hbm, ⟨48, _⟩ => ⟨S16384x512, .f32⟩
  | .hbm, ⟨49, _⟩ => ⟨S2x16384x512, .f32⟩
  | .hbm, ⟨50, _⟩ => ⟨S2x16384x512, .f32⟩
  | .hbm, ⟨51, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S4x1024x128, .f32⟩
  | .local _ .vmem, ⟨9, _⟩ => ⟨S4x1024x128, .f32⟩
  | .local _ .vmem, ⟨10, _⟩ => ⟨S1024x512, .f32⟩
  | .local _ .vmem, ⟨11, _⟩ => ⟨S1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19_0 : Ref sig .tc := ⟨.hbm, 47, rfl⟩
abbrev main_v19_1 : Ref sig .tc := ⟨.hbm, 48, rfl⟩
abbrev main_v19_2 : Ref sig .tc := ⟨.hbm, 49, rfl⟩
abbrev main_v19_3 : Ref sig .tc := ⟨.hbm, 50, rfl⟩
abbrev main_v19_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .sge arg1 c2_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== InProjReferenceIdeal.lean ====
abbrev S16384x1024 : Shape := ⟨2, ![16384, 1024]⟩
abbrev S1024 : Shape := ⟨1, ![1024]⟩
abbrev S1024x4096 : Shape := ⟨2, ![1024, 4096]⟩
abbrev S64 : Shape := ⟨1, ![64]⟩
abbrev S2x16384x512 : Shape := ⟨3, ![2, 16384, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x4x128 : Shape := ⟨3, ![16384, 4, 128]⟩
abbrev S4x16384x128 : Shape := ⟨3, ![4, 16384, 128]⟩
abbrev S1x16384x512 : Shape := ⟨3, ![1, 16384, 512]⟩
abbrev S16384x2048 : Shape := ⟨2, ![16384, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S2x16384x512, .f32⟩
  | .hbm, ⟨6, _⟩ => ⟨S2x16384x512, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x4096, .f32⟩
  | .hbm, ⟨24, _⟩ => ⟨S16384x512, .f32⟩
  | .hbm, ⟨25, _⟩ => ⟨S16384x512, .f32⟩
  | .hbm, ⟨26, _⟩ => ⟨S16384x8x64, .f32⟩
  | .hbm, ⟨27, _⟩ => ⟨S16384x8x64, .f32⟩
  | .hbm, ⟨28, _⟩ => ⟨S_, .f32⟩
  | .hbm, ⟨29, _⟩ => ⟨S16384x8, .f32⟩
  | .hbm, ⟨30, _⟩ => ⟨S16384x8x1, .f32⟩
  | .hbm, ⟨31, _⟩ => ⟨S_, .f32⟩
  | .hbm, ⟨32, _⟩ => ⟨S16384x8x1, .f32⟩
  | .hbm, ⟨33, _⟩ => ⟨S16384x8x1, .f32⟩
  | .hbm, ⟨34, _⟩ => ⟨S_, .f32⟩
  | .hbm, ⟨35, _⟩ => ⟨S16384x8x1, .f32⟩
  | .hbm, ⟨36, _⟩ => ⟨S16384x8x1, .f32⟩
  | .hbm, ⟨37, _⟩ => ⟨S16384x8x1, .f32⟩
  | .hbm, ⟨38, _⟩ => ⟨S16384x8x64, .f32⟩
  | .hbm, ⟨39, _⟩ => ⟨S16384x8x64, .f32⟩
  | .hbm, ⟨40, _⟩ => ⟨S1x1x64, .f32⟩
  | .hbm, ⟨41, _⟩ => ⟨S16384x8x64, .f32⟩
  | .hbm, ⟨42, _⟩ => ⟨S16384x8x64, .f32⟩
  | .hbm, ⟨43, _⟩ => ⟨S16384x512, .f32⟩
  | .hbm, ⟨44, _⟩ => ⟨S16384x8x64, .f32⟩
  | .hbm, ⟨45, _⟩ => ⟨S16384x8x64, .f32⟩
  | .hbm, ⟨46, _⟩ => ⟨S_, .f32⟩
  | .hbm, ⟨47, _⟩ => ⟨S16384x8, .f32⟩
  | .hbm, ⟨48, _⟩ => ⟨S16384x8x1, .f32⟩
  | .hbm, ⟨49, _⟩ => ⟨S_, .f32⟩
  | .hbm, ⟨50, _⟩ => ⟨S16384x8x1, .f32⟩
  | .hbm, ⟨51, _⟩ => ⟨S16384x8x1, .f32⟩
  | .hbm, ⟨52, _⟩ => ⟨S_, .f32⟩
  | .hbm, ⟨53, _⟩ => ⟨S16384x8x1, .f32⟩
  | .hbm, ⟨54, _⟩ => ⟨S16384x8x1, .f32⟩
  | .hbm, ⟨55, _⟩ => ⟨S16384x8x1, .f32⟩
  | .hbm, ⟨56, _⟩ => ⟨S16384x8x64, .f32⟩
  | .hbm, ⟨57, _⟩ => ⟨S16384x8x64, .f32⟩
  | .hbm, ⟨58, _⟩ => ⟨S1x1x64, .f32⟩
  | .hbm, ⟨59, _⟩ => ⟨S16384x8x64, .f32⟩
  | .hbm, ⟨60, _⟩ => ⟨S16384x8x64, .f32⟩
  | .hbm, ⟨61, _⟩ => ⟨S16384x512, .f32⟩
  | .hbm, ⟨62, _⟩ => ⟨S16384x4x128, .f32⟩
  | .hbm, ⟨63, _⟩ => ⟨S4x16384x128, .f32⟩
  | .hbm, ⟨64, _⟩ => ⟨S2x16384x512, .i32⟩
  | .hbm, ⟨65, _⟩ => ⟨S_, .i32⟩
  | .hbm, ⟨66, _⟩ => ⟨S2x16384x512, .i32⟩
  | .hbm, ⟨67, _⟩ => ⟨S2x16384x512, .i1⟩
  | .hbm, ⟨68, _⟩ => ⟨S1x16384x512, .f32⟩
  | .hbm, ⟨69, _⟩ => ⟨S2x16384x512, .f32⟩
  | .hbm, ⟨70, _⟩ => ⟨S2x16384x512, .f32⟩
  | .hbm, ⟨71, _⟩ => ⟨S1x16384x512, .f32⟩
  | .hbm, ⟨72, _⟩ => ⟨S2x16384x512, .f32⟩
  | .hbm, ⟨73, _⟩ => ⟨S2x16384x512, .f32⟩
  | .hbm, ⟨74, _⟩ => ⟨S16384x512, .f32⟩
  | .hbm, ⟨75, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call0_v0 : Ref sig .tc := ⟨.hbm, 69, rfl⟩
abbrev main_v52 : Ref sig .tc := ⟨.hbm, 70, rfl⟩
abbrev main_v53 : Ref sig .tc := ⟨.hbm, 71, rfl⟩
abbrev main_call1_v0 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Sb.lean ====
abbrev S8 : Shape := ⟨1, ![8]⟩
abbrev S16384x512 : Shape := ⟨2, ![16384, 512]⟩
abbrev S2x16384x512 : Shape := ⟨3, ![2, 16384, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x128 : Shape := ⟨2, ![256, 128]⟩
abbrev S1x2048x128 : Shape := ⟨3, ![1, 2048, 128]⟩
abbrev S2x256x128 : Shape := ⟨3, ![2, 256, 128]⟩
abbrev S1x128 : Shape := ⟨2, ![1, 128]⟩
abbrev S1 : Shape := ⟨1, ![1]⟩
abbrev S1x256x128 : Shape := ⟨3, ![1, 256, 128]⟩

abbrev nBuf : Space → Nat
  | .hbm => 13
  | .vmem => 11
  | .smem => 1
  | _ => 0

abbrev bufTy : (tb : Table) → Fin (tcTables nBuf tb) → BufTy
  | .hbm, ⟨0, _⟩ => ⟨S8, .f32⟩
  | .hbm, ⟨1, _⟩ => ⟨S16384x512, .f32⟩
  | .hbm, ⟨2, _⟩ => ⟨S2x16384x512, .f32⟩
  | .hbm, ⟨3, _⟩ => ⟨S2x16384x512, .f32⟩
  | .hbm, ⟨4, _⟩ => ⟨S256, .i32⟩
  | .hbm, ⟨5, _⟩ => ⟨S256x1, .i32⟩
  | .hbm, ⟨6, _⟩ => ⟨S256, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S256x256, .bf16⟩
  | .hbm, ⟨12, _⟩ => ⟨S16384x512, .f32⟩
  | .local _ .vmem, ⟨0, _⟩ => ⟨S256x128, .f32⟩
  | .local _ .vmem, ⟨1, _⟩ => ⟨S256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S256x256, .bf16⟩
  | .local _ .vmem, ⟨7, _⟩ => ⟨S256x128, .f32⟩
  | .local _ .vmem, ⟨8, _⟩ => ⟨S256x128, .f32⟩
  | .local _ .vmem, ⟨9, _⟩ => ⟨S2x256x128, .f32⟩
  | .local _ .vmem, ⟨10, _⟩ => ⟨S256x128, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 1 → Nat :=
  let arg1 : BitVec 32 := BitVec.ofNat 32 (i 1).val
  let c2_i32 : BitVec 32 := 2#32
  let v18 : BitVec 32 := Scalar.muli arg1 c2_i32
  let v19 : Index := Scalar.indexCast v18
  ![v19.toNat]
def k0_off2 (i : grid0.Coords) : Fin 1 → Nat :=
  let arg1 : BitVec 32 := BitVec.ofNat 32 (i 1).val
  let c2_i32_4 : BitVec 32 := 2#32
  let v21 : BitVec 32 := Scalar.muli arg1 c2_i32_4
  let c1_i32 : BitVec 32 := 1#32
  let v22 : BitVec 32 := Scalar.addi v21 c1_i32
  let v23 : Index := Scalar.indexCast v22
  ![v23.toNat]
def k0_mult1 (i : grid0.Coords) : BitVec 32 :=
  let arg2 : BitVec 32 := BitVec.ofNat 32 (i 2).val
  let c256_i32 : BitVec 32 := 256#32
  let v42 : BitVec 32 := Scalar.muli arg2 c256_i32
  v42
def k0_off3 (i : grid0.Coords) : Fin 3 → Nat :=
  let c0_19 : Index := 0#32
  let arg2 : BitVec 32 := BitVec.ofNat 32 (i 2).val
  let c256_i32 : BitVec 32 := 256#32
  let v42 : BitVec 32 := Scalar.muli arg2 c256_i32
  let v43 : BitVec 32 := v42
  let v44 : Index := Scalar.indexCast v43
  let c0_20 : Index := 0#32
  ![0, v44.toNat, 0]
@[reducible] def k0_t1_loop (i : grid0.Coords) : Scf.Loop 32 :=
  let c0_i32 : BitVec 32 := 0#32
  let arg2 : BitVec 32 := BitVec.ofNat 32 (i 2).val
  let c1_i32_55 : BitVec 32 := 1#32
  let v136 : BitVec 32 := Scalar.shrui arg2 c1_i32_55
  let v137 : BitVec 32 := Scalar.subi v136 c0_i32
  let c1_i32_57 : BitVec 32 := 1#32
  let v139 : BitVec 32 := Scalar.divsi v137 c1_i32_57
  let v140 : BitVec 32 := Scalar.muli v139 c1_i32_57
  let v141 : BitVec 32 := Scalar.addi c0_i32 v140
  let c1_i32_58 : BitVec 32 := 1#32
  ⟨c0_i32, v141, c1_i32_58⟩
def k0_mult2 (i : grid0.Coords) (k0_t1 : Fin (k0_t1_loop i).trips) : BitVec 32 :=
  let arg2 : BitVec 32 := BitVec.ofNat 32 (i 2).val
  let c1_i32_67 : BitVec 32 := 1#32
  let v150 : BitVec 32 := Scalar.subi arg2 c1_i32_67
  let c2_i32_68 : BitVec 32 := 2#32
  let c0_i32 : BitVec 32 := 0#32
  let c1_i32_58 : BitVec 32 := 1#32
  let arg11 : BitVec 32 := Scf.iv c0_i32 c1_i32_58 k0_t1
  let v151 : BitVec 32 := Scalar.muli c2_i32_68 arg11
  let v152 : BitVec 32 := Scalar.subi v150 v151
  let c256_i32_79 : BitVec 32 := 256#32
  let v162 : BitVec 32 := Scalar.muli v152 c256_i32_79
  v162
def k0_mult3 (i : grid0.Coords) (k0_t1 : Fin (k0_t1_loop i).trips) : BitVec 32 :=
  let arg2 : BitVec 32 := BitVec.ofNat 32 (i 2).val
  let c2_i32_69 : BitVec 32 := 2#32
  let v153 : BitVec 32 := Scalar.subi arg2 c2_i32_69
  let c2_i32_70 : BitVec 32 := 2#32
  let c0_i32 : BitVec 32 := 0#32
  let c1_i32_58 : BitVec 32 := 1#32
  let arg11 : BitVec 32 := Scf.iv c0_i32 c1_i32_58 k0_t1
  let v154 : BitVec 32 := Scalar.muli c2_i32_70 arg11
  let v155 : BitVec 32 := Scalar.subi v153 v154
  let c256_i32_80 : BitVec 32 := 256#32
  let v164 : BitVec 32 := Scalar.muli v155 c256_i32_80
  v164
def k0_off4 (i : grid0.Coords) (k0_t1 : Fin (k0_t1_loop i).trips) (c1_i32_67 : BitVec 32) : Fin 3 → Nat :=
  let c0_81 : Index := 0#32
  let arg2 : BitVec 32 := BitVec.ofNat 32 (i 2).val
  let v150 : BitVec 32 := Scalar.subi arg2 c1_i32_67
  let c2_i32_68 : BitVec 32 := 2#32
  let c0_i32 : BitVec 32 := 0#32
  let c1_i32_58 : BitVec 32 := 1#32
  let arg11 : BitVec 32 := Scf.iv c0_i32 c1_i32_58 k0_t1
  let v151 : BitVec 32 := Scalar.muli c2_i32_68 arg11
  let v152 : BitVec 32 := Scalar.subi v150 v151
  let c256_i32_79 : BitVec 32 := 256#32
  let v162 : BitVec 32 := Scalar.muli v152 c256_i32_79
  let v163 : BitVec 32 := v162
  let v166 : Index := Scalar.indexCast v163
  let c0_82 : Index := 0#32
  ![0, v166.toNat, 0]
@[reducible] def k0_t2_loop (i : grid0.Coords) : Scf.Loop 32 :=
  let c0_i32 : BitVec 32 := 0#32
  let arg2 : BitVec 32 := BitVec.ofNat 32 (i 2).val
  let c1_i32_55 : BitVec 32 := 1#32
  let v136 : BitVec 32 := Scalar.shrui arg2 c1_i32_55
  let v137 : BitVec 32 := Scalar.subi v136 c0_i32
  let c1_i32_57 : BitVec 32 := 1#32
  let v139 : BitVec 32 := Scalar.divsi v137 c1_i32_57
  let v140 : BitVec 32 := Scalar.muli v139 c1_i32_57
  let v141 : BitVec 32 := Scalar.addi c0_i32 v140
  let v138 : BitVec 32 := Scalar.addi c0_i32 v137
  let c1_i32_59 : BitVec 32 := 1#32
  ⟨v141, v138, c1_i32_59⟩
def k0_mult4 (i : grid0.Coords) (k0_t2 : Fin (k0_t2_loop i).trips) : BitVec 32 :=
  let arg2 : BitVec 32 := BitVec.ofNat 32 (i 2).val
  let c1_i32_67 : BitVec 32 := 1#32
  let v150 : BitVec 32 := Scalar.subi arg2 c1_i32_67
  let c2_i32_68 : BitVec 32 := 2#32
  let c0_i32 : BitVec 32 := 0#32
  let c1_i32_55 : BitVec 32 := 1#32
  let v136 : BitVec 32 := Scalar.shrui arg2 c1_i32_55
  let v137 : BitVec 32 := Scalar.subi v136 c0_i32
  let c1_i32_57 : BitVec 32 := 1#32
  let v139 : BitVec 32 := Scalar.divsi v137 c1_i32_57
  let v140 : BitVec 32 := Scalar.muli v139 c1_i32_57
  let v141 : BitVec 32 := Scalar.addi c0_i32 v140
  let c1_i32_59 : BitVec 32 := 1#32
  let arg11 : BitVec 32 := Scf.iv v141 c1_i32_59 k0_t2
  let v151 : BitVec 32 := Scalar.muli c2_i32_68 arg11
  let v152 : BitVec 32 := Scalar.subi v150 v151
  let c256_i32_79 : BitVec 32 := 256#32
  let v162 : BitVec 32 := Scalar.muli v152 c256_i32_79
  v162
def k0_mult5 (i : grid0.Coords) (k0_t2 : Fin (k0_t2_loop i).trips) : BitVec 32 :=
  let arg2 : BitVec 32 := BitVec.ofNat 32 (i 2).val
  let c2_i32_69 : BitVec 32 := 2#32
  let v153 : BitVec 32 := Scalar.subi arg2 c2_i32_69
  let c2_i32_70 : BitVec 32 := 2#32
  let c0_i32 : BitVec 32 := 0#32
  let c1_i32_55 : BitVec 32 := 1#32
  let v136 : BitVec 32 := Scalar.shrui arg2 c1_i32_55
  let v137 : BitVec 32 := Scalar.subi v136 c0_i32
  let c1_i32_57 : BitVec 32 := 1#32
  let v139 : BitVec 32 := Scalar.divsi v137 c1_i32_57
  let v140 : BitVec 32 := Scalar.muli v139 c1_i32_57
  let v141 : BitVec 32 := Scalar.addi c0_i32 v140
  let c1_i32_59 : BitVec 32 := 1#32
  let arg11 : BitVec 32 := Scf.iv v141 c1_i32_59 k0_t2
  let v154 : BitVec 32 := Scalar.muli c2_i32_70 arg11
  let v155 : BitVec 32 := Scalar.subi v153 v154
  let c256_i32_80 : BitVec 32 := 256#32
  let v164 : BitVec 32 := Scalar.muli v155 c256_i32_80
  v164
def k0_off5 (i : grid0.Coords) (k0_t2 : Fin (k0_t2_loop i).trips) (c1_i32_67 : BitVec 32) : Fin 3 → Nat :=
  let c0_81 : Index := 0#32
  let arg2 : BitVec 32 := BitVec.ofNat 32 (i 2).val
  let v150 : BitVec 32 := Scalar.subi arg2 c1_i32_67
  let c2_i32_68 : BitVec 32 := 2#32
  let c0_i32 : BitVec 32 := 0#32
  let c1_i32_55 : BitVec 32 := 1#32
  let v136 : BitVec 32 := Scalar.shrui arg2 c1_i32_55
  let v137 : BitVec 32 := Scalar.subi v136 c0_i32
  let c1_i32_57 : BitVec 32 := 1#32
  let v139 : BitVec 32 := Scalar.divsi v137 c1_i32_57
  let v140 : BitVec 32 := Scalar.muli v139 c1_i32_57
  let v141 : BitVec 32 := Scalar.addi c0_i32 v140
  let c1_i32_59 : BitVec 32 := 1#32
  let arg11 : BitVec 32 := Scf.iv v141 c1_i32_59 k0_t2
  let v151 : BitVec 32 := Scalar.muli c2_i32_68 arg11
  let v152 : BitVec 32 := Scalar.subi v150 v151
  let c256_i32_79 : BitVec 32 := 256#32
  let v162 : BitVec 32 := Scalar.muli v152 c256_i32_79
  let v163 : BitVec 32 := v162
  let v166 : Index := Scalar.indexCast v163
  let c0_82 : Index := 0#32
  ![0, v166.toNat, 0]
def k0_cond1 (i : grid0.Coords) : BitVec 1 :=
  let arg2 : BitVec 32 := BitVec.ofNat 32 (i 2).val
  let c1_i32_60 : BitVec 32 := 1#32
  let v144 : BitVec 32 := Scalar.andi arg2 c1_i32_60
  let c1_i32_61 : BitVec 32 := 1#32
  let v145 : BitVec 1 := Scalar.cmpi .eq v144 c1_i32_61
  let v146 : BitVec 32 := Scalar.extui v145
  let c0_i32_62 : BitVec 32 := 0#32
  let v147 : BitVec 1 := Scalar.cmpi .ne v146 c0_i32_62
  v147

def k0_mult6 : BitVec 32 :=
  let c0_i32_75 : BitVec 32 := 0#32
  c0_i32_75
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== SbReferenceIdeal.lean ====
abbrev S8 : Shape := ⟨1, ![8]⟩
abbrev S16384x512 : Shape := ⟨2, ![16384, 512]⟩
abbrev S2x16384x512 : Shape := ⟨3, ![2, 16384, 512]⟩
abbrev S8x2048x8x64 : Shape := ⟨4, ![8, 2048, 8, 64]⟩
abbrev S1x16384x512 : Shape := ⟨3, ![1, 16384, 512]⟩
abbrev S8x8x2048x2048 : Shape := ⟨4, ![8, 8, 2048, 2048]⟩
abbrev S_ : Shape := ⟨0, ![]⟩
abbrev S1x8x1x1 : Shape := ⟨4, ![1, 8, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8, .f32⟩
  | .hbm, ⟨1, _⟩ => ⟨S16384x512, .f32⟩
  | .hbm, ⟨2, _⟩ => ⟨S2x16384x512, .f32⟩
  | .hbm, ⟨3, _⟩ => ⟨S2x16384x512, .f32⟩
  | .hbm, ⟨4, _⟩ => ⟨S8x2048x8x64, .f32⟩
  | .hbm, ⟨5, _⟩ => ⟨S1x16384x512, .f32⟩
  | .hbm, ⟨6, _⟩ => ⟨S16384x512, .f32⟩
  | .hbm, ⟨7, _⟩ => ⟨S8x2048x8x64, .f32⟩
  | .hbm, ⟨8, _⟩ => ⟨S1x16384x512, .f32⟩
  | .hbm, ⟨9, _⟩ => ⟨S16384x512, .f32⟩
  | .hbm, ⟨10, _⟩ => ⟨S8x2048x8x64, .f32⟩
  | .hbm, ⟨11, _⟩ => ⟨S8x8x2048x2048, .f32⟩
  | .hbm, ⟨12, _⟩ => ⟨S_, .f32⟩
  | .hbm, ⟨13, _⟩ => ⟨S8x8x2048x2048, .f32⟩
  | .hbm, ⟨14, _⟩ => ⟨S8x8x2048x2048, .f32⟩
  | .hbm, ⟨15, _⟩ => ⟨S1x8x1x1, .f32⟩
  | .hbm, ⟨16, _⟩ => ⟨S8x8x2048x2048, .f32⟩
  | .hbm, ⟨17, _⟩ => ⟨S8x8x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S8x8x2048x2048, .f32⟩
  | .hbm, ⟨25, _⟩ => ⟨S8x8x2048x2048, .f32⟩
  | .hbm, ⟨26, _⟩ => ⟨S_, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .i1⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S8x8x2048x2048, .f32⟩
  | .hbm, ⟨40, _⟩ => ⟨S8x8x2048x2048, .f32⟩
  | .hbm, ⟨41, _⟩ => ⟨S_, .f32⟩
  | .hbm, ⟨42, _⟩ => ⟨S_, .f32⟩
  | .hbm, ⟨43, _⟩ => ⟨S8x8x2048x2048, .i1⟩
  | .hbm, ⟨44, _⟩ => ⟨S8x8x2048x2048, .f32⟩
  | .hbm, ⟨45, _⟩ => ⟨S8x8x2048x2048, .f32⟩
  | .hbm, ⟨46, _⟩ => ⟨S_, .f32⟩
  | .hbm, ⟨47, _⟩ => ⟨S_, .f32⟩
  | .hbm, ⟨48, _⟩ => ⟨S8x8x2048x2048, .f32⟩
  | .hbm, ⟨49, _⟩ => ⟨S8x8x2048x2048, .f32⟩
  | .hbm, ⟨50, _⟩ => ⟨S8x8x2048x2048, .f32⟩
  | .hbm, ⟨51, _⟩ => ⟨S_, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .f32⟩
  | .hbm, ⟨56, _⟩ => ⟨S8x8x2048x2048, .i1⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S8x8x2048x2048, .f32⟩
  | .hbm, ⟨67, _⟩ => ⟨S8x8x2048x2048, .f32⟩
  | .hbm, ⟨68, _⟩ => ⟨S_, .f32⟩
  | .hbm, ⟨69, _⟩ => ⟨S_, .f32⟩
  | .hbm, ⟨70, _⟩ => ⟨S8x8x2048x2048, .i1⟩
  | .hbm, ⟨71, _⟩ => ⟨S8x8x2048x2048, .f32⟩
  | .hbm, ⟨72, _⟩ => ⟨S8x8x2048x2048, .f32⟩
  | .hbm, ⟨73, _⟩ => ⟨S8x8x64x2048, .f32⟩
  | .hbm, ⟨74, _⟩ => ⟨S8x2048x8x64, .f32⟩
  | .hbm, ⟨75, _⟩ => ⟨S16384x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v20 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_call2_cst : Ref sig .tc := ⟨.hbm, 46, rfl⟩
abbrev main_call2_v0 : Ref sig .tc := ⟨.hbm, 47, rfl⟩
abbrev main_v22 : Ref sig .tc := ⟨.hbm, 48, rfl⟩
abbrev main_v23 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩

abbrev nD : Nat := 1
abbrev τ : Topo := Topo.v7x

variable {F : FTy → Type} [FloatOps F]
-- ==== Proof.RetentionReference.lean ====
/-
  The retention's mathematics — the rotated queries and keys, the carried state, the chunk's output, its group
  normalisation and gate — and the reference program, whose loop over the chunks computes it.
-/
module

public import proofs.«01_k».proof.Proof.Gen.ReferenceIdeal.StepRun
public import Idealize.ShloMosaic.Lib.Pointwise
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem

namespace Cert.ReferenceIdeal.Retention

open Cert.ReferenceIdeal Cert.ReferenceIdeal.Step

/-- Row of chunk `n`, position `i`, of sequence `b`. -/
def row (b : Fin 8) (n : Fin 16) (i : Fin 128) : Fin 16384 := ⟨b.val * 2048 + (n.val * 128 + i.val), by omega⟩

/-- Position of chunk `n`, place `i`, within its sequence. -/
def pos (n : Fin 16) (i : Fin 128) : Fin 2048 := ⟨n.val * 128 + i.val, by omega⟩

/-- Column `d` of head `h` of the projection that starts at column `o`. -/
def col (o : ℕ) (ho : o + 512 ≤ 2048) (h : Fin 4) (d : Fin 128) : Fin 2048 := ⟨o + (h.val * 128 + d.val), by omega⟩

/-- The rotary cosines. -/
def cosT : FVec Ideal S2048x64 .f32 := K_main_v18 (F := Ideal)
/-- The rotary sines. -/
def sinT : FVec Ideal S2048x64 .f32 := K_main_v20 (F := Ideal)
/-- The causal decay between two positions of a chunk, per head. -/
def decay : FVec Ideal S4x128x128 .f32 := K_main_v93 (F := Ideal)
/-- The decay from the chunk's start to a position, per head. -/
def fromStart : FVec Ideal S128x4 .f32 := K_main_v101 (F := Ideal)
/-- The decay from a position to the chunk's end, per head. -/
def toEnd : FVec Ideal S128x4 .f32 := K_main_v109 (F := Ideal)
/-- The decay over a chunk, per head. -/
def overChunk : FVec Ideal S4 .f32 := K_main_v112 (F := Ideal)

section Mathematics
variable (x : FVec Ideal S16384x2048 .f32) (s0 : FVec Ideal S8x4x128x128 .f32) (g : FVec Ideal S512 .f32)

/-- The rotated projection that starts at column `o`: both halves of each head turned by the position's angles. -/
def rot (o : ℕ) (ho : o + 512 ≤ 2048) (b : Fin 8) (n : Fin 16) (i : Fin 128) (h : Fin 4) (d : Fin 128) : EReal :=
  if hd : d.val < 64 then
    x (ix2 (row b n i) (col o ho h d)) * cosT (ix2 (pos n i) ⟨d.val, hd⟩)
      - x (ix2 (row b n i) (col o ho h ⟨64 + d.val, by omega⟩)) * sinT (ix2 (pos n i) ⟨d.val, hd⟩)
  else
    x (ix2 (row b n i) (col o ho h ⟨d.val - 64, by omega⟩)) * sinT (ix2 (pos n i) ⟨d.val - 64, by omega⟩)
      + x (ix2 (row b n i) (col o ho h ⟨64 + (d.val - 64), by omega⟩)) * cosT (ix2 (pos n i) ⟨d.val - 64, by omega⟩)

/-- The queries. -/
def qry (b : Fin 8) (n : Fin 16) (i : Fin 128) (h : Fin 4) (d : Fin 128) : EReal := rot x 0 (by decide) b n i h d
/-- The keys, scaled. -/
def key (b : Fin 8) (n : Fin 16) (i : Fin 128) (h : Fin 4) (d : Fin 128) : EReal :=
  rot x 512 (by decide) b n i h d * Ideal.ofBits FTy.f32 0x3DB504F3#32
/-- The values. -/
def vlu (b : Fin 8) (n : Fin 16) (i : Fin 128) (h : Fin 4) (e : Fin 128) : EReal :=
  x (ix2 (row b n i) (col 1024 (by decide) h e))

/-- The state before chunk `n`. -/
def st : (n : ℕ) → n ≤ 16 → Fin 8 → Fin 4 → Fin 128 → Fin 128 → EReal
  | 0, _, b, h, d, e => s0 (ix4 b h d e)
  | n + 1, hn, b, h, d, e => st n (by omega) b h d e * overChunk (ix1 h)
      + ∑ j : Fin 128, key x b ⟨n, hn⟩ j h d * toEnd (ix2 j h) * vlu x b ⟨n, hn⟩ j h e

/-- A chunk's output before its normalisation: what its own positions give and what the state gives. -/
def att (b : Fin 8) (n : Fin 16) (i : Fin 128) (h : Fin 4) (e : Fin 128) : EReal :=
  ∑ j : Fin 128, (∑ d : Fin 128, qry x b n i h d * key x b n j h d) * decay (ix3 h i j) * vlu x b n j h e
    + (∑ d : Fin 128, qry x b n i h d * st x s0 n.val (by omega) b h d e) * fromStart (ix2 i h)

/-- A head's mean. -/
def mean (o : Fin 128 → EReal) : EReal := Ideal.div (∑ e : Fin 128, o e) (Ideal.ofBits FTy.f32 1124073472#32)

/-- A head's output less its mean, divided by its deviation. -/
def normed (o : Fin 128 → EReal) (e : Fin 128) : EReal :=
  (o e - mean o) * Ideal.rsqrt (mean (fun e => (o e - mean o) * (o e - mean o)) + Ideal.ofBits FTy.f32 897988541#32)

/-- The result at chunk `n`, position `i`, head `h`, column `e`: the gate times the normalised output and its gain. -/
def gated (b : Fin 8) (n : Fin 16) (i : Fin 128) (h : Fin 4) (e : Fin 128) : EReal :=
  x (ix2 (row b n i) (col 1536 (by decide) h e)) * Ideal.logistic (x (ix2 (row b n i) (col 1536 (by decide) h e)))
    * (normed (att x s0 b n i h) e * g (ix1 ⟨h.val * 128 + e.val, by omega⟩))

/-- The output rows. -/
def OUT : FVec Ideal S16384x512 .f32 := fun y => gated x s0 g ⟨(y 0).val / 2048, by have := (y 0).isLt; simp at this; omega⟩
  ⟨(y 0).val % 2048 / 128, by omega⟩ ⟨(y 0).val % 2048 % 128, by omega⟩
  ⟨(y 1).val / 128, by have := (y 1).isLt; simp at this; omega⟩ ⟨(y 1).val % 128, by omega⟩

/-- The state after the last chunk. -/
def LAST : FVec Ideal S8x4x128x128 .f32 := fun y => st x s0 16 le_rfl (y 0) (y 1) (y 2) (y 3)

end Mathematics

variable (x : FVec Ideal S16384x2048 .f32) (s0 : FVec Ideal S8x4x128x128 .f32) (g : FVec Ideal S512 .f32)

/-- The reference's queries, chunk by chunk. -/
theorem q_at (n : Fin 16) (b : Fin 8) (i : Fin 128) (h : Fin 4) (d : Fin 128) :
    A_main_v114 (F := Ideal) x (ix5 n b i h d) = qry x b n i h d := by
  rw [qry, rot, show (cosT : FVec Ideal S2048x64 .f32) = K_main_v18 (F := Ideal) from rfl,
    show (sinT : FVec Ideal S2048x64 .f32) = K_main_v20 (F := Ideal) from rfl]
  pointwise [A_main_v114, A_main_v113, A_main_v34, A_main_v28, A_main_v33, A_main_v25, A_main_v27, A_main_v30, A_main_v32,
    A_main_v22, A_main_v23, A_main_v5, A_main_v1, A_main_v0, K_main_v24, K_main_v26, K_main_v29, K_main_v31, K_main_v19,
    K_main_v21, row, col, pos]

/-- The reference's keys, chunk by chunk. -/
theorem k_at (n : Fin 16) (b : Fin 8) (i : Fin 128) (h : Fin 4) (d : Fin 128) :
    A_main_v116 (F := Ideal) x (ix5 n b i h d) = key x b n i h d := by
  rw [key, rot, show (cosT : FVec Ideal S2048x64 .f32) = K_main_v48 (F := Ideal) from rfl,
    show (sinT : FVec Ideal S2048x64 .f32) = K_main_v50 (F := Ideal) from rfl]
  pointwise [A_main_v116, A_main_v115, A_main_v66, A_main_v64, A_main_v58, A_main_v63, A_main_v60, A_main_v62, A_main_v55,
    A_main_v57, A_main_v52, A_main_v53, A_main_v35, A_main_v2, A_main_v0, K_main_v54, K_main_v56, K_main_v59, K_main_v61,
    K_main_v49, K_main_v51, K_main_v65, K_main_cst_3, row, col, pos]

/-- The reference's values, chunk by chunk. -/
theorem v_at (n : Fin 16) (b : Fin 8) (i : Fin 128) (h : Fin 4) (d : Fin 128) :
    A_main_v118 (F := Ideal) x (ix5 n b i h d) = vlu x b n i h d := by
  rw [vlu]
  pointwise [A_main_v118, A_main_v117, A_main_v67, A_main_v3, A_main_v0, row, col]

/-- The chunk a trip reads starts at the trip's number. -/
theorem start_at : ∀ n : Fin 16, (min (max (Scalar.select (IntOp.cmpi .slt (BitVec.ofNat 32 n.val) 0#32)
      (IntOp.addi (BitVec.ofNat 32 n.val) 16#32) (BitVec.ofNat 32 n.val)).toInt 0) ((16 - 1 : ℕ) : ℤ)).toNat = n.val := by
  decide

/-- Trip `n` reads chunk `n` of the queries. -/
theorem b13_at (s : State Ideal) (n : Fin 16) (b : Fin 8) (i : Fin 128) (h : Fin 4) (d : Fin 128) :
    b13 n.val s (ix4 b i h d) = s.main_v120_0 (ix5 n b i h d) := by
  pointwise [b13, b12]
  refine congrArg s.main_v120_0 (funext fun a => Fin.ext ?_)
  match a with
  | ⟨0, _⟩ => exact start_at n
  | ⟨1, _⟩ => exact Nat.zero_add _
  | ⟨2, _⟩ => exact Nat.zero_add _
  | ⟨3, _⟩ => exact Nat.zero_add _
  | ⟨4, _⟩ => exact Nat.zero_add _

/-- Trip `n` reads chunk `n` of the keys. -/
theorem b25_at (s : State Ideal) (n : Fin 16) (b : Fin 8) (i : Fin 128) (h : Fin 4) (d : Fin 128) :
    b25 n.val s (ix4 b i h d) = s.main_v120_1 (ix5 n b i h d) := by
  pointwise [b25, b24]
  refine congrArg s.main_v120_1 (funext fun a => Fin.ext ?_)
  match a with
  | ⟨0, _⟩ => exact start_at n
  | ⟨1, _⟩ => exact Nat.zero_add _
  | ⟨2, _⟩ => exact Nat.zero_add _
  | ⟨3, _⟩ => exact Nat.zero_add _
  | ⟨4, _⟩ => exact Nat.zero_add _

/-- Trip `n` reads chunk `n` of the values. -/
theorem b37_at (s : State Ideal) (n : Fin 16) (b : Fin 8) (i : Fin 128) (h : Fin 4) (d : Fin 128) :
    b37 n.val s (ix4 b i h d) = s.main_v120_2 (ix5 n b i h d) := by
  pointwise [b37, b36]
  refine congrArg s.main_v120_2 (funext fun a => Fin.ext ?_)
  match a with
  | ⟨0, _⟩ => exact start_at n
  | ⟨1, _⟩ => exact Nat.zero_add _
  | ⟨2, _⟩ => exact Nat.zero_add _
  | ⟨3, _⟩ => exact Nat.zero_add _
  | ⟨4, _⟩ => exact Nat.zero_add _

/-- The state a trip leaves. -/
theorem b57_at (s : State Ideal) (n : ℕ) (b : Fin 8) (h : Fin 4) (d e : Fin 128) :
    b57 n s (ix4 b h d e) = s.main_v120_9 (ix4 b h d e) * overChunk (ix1 h)
      + ∑ j : Fin 128, b25 n s (ix4 b j h d) * toEnd (ix2 j h) * b37 n s (ix4 b j h e) := by
  rw [overChunk, toEnd]
  pointwise [b57, b56, b55, b54, b53, b52, b51, b50]

/-- The chunk's output a trip computes. -/
theorem b49_at (s : State Ideal) (n : ℕ) (b : Fin 8) (i : Fin 128) (h : Fin 4) (e : Fin 128) :
    b49 n s (ix4 b i h e) = ∑ j : Fin 128, b37 n s (ix4 b j h e)
        * ((∑ d : Fin 128, b13 n s (ix4 b i h d) * b25 n s (ix4 b j h d)) * decay (ix3 h i j))
      + (∑ d : Fin 128, s.main_v120_9 (ix4 b h d e) * b13 n s (ix4 b i h d)) * fromStart (ix2 i h) := by
  rw [decay, fromStart]
  pointwise [b49, b48, b47, b46, b45, b44, b43, b42, b41, b40, b39, b38]

/-- Two chunk numbers are compared as the numbers they are. -/
theorem eq_at : ∀ k n : Fin 16, IntOp.cmpi CmpIPredicate.eq (BitVec.ofNat 32 k.val) (BitVec.ofNat 32 n.val)
    = if k = n then 1#1 else 0#1 := by
  decide

/-- The outputs after a trip: the trip's own chunk, and the others as they were. -/
theorem b64_at (s : State Ideal) (n k : Fin 16) (b : Fin 8) (i : Fin 128) (h : Fin 4) (e : Fin 128) :
    b64 n.val s (ix5 k b i h e) = if k = n then b49 n.val s (ix4 b i h e) else s.main_v120_10 (ix5 k b i h e) := by
  pointwise [b64, b63, b62, b61, b60, b59, b58]
  show Scalar.select (IntOp.cmpi CmpIPredicate.eq (BitVec.ofNat 32 k.val) (BitVec.ofNat 32 n.val)) _ _ = _
  rw [eq_at]
  by_cases hk : k = n
  · rw [if_pos hk, if_pos hk]; rfl
  · rw [if_neg hk, if_neg hk]; rfl

/-- The reference's sequence of states. -/
def refIter : ℕ → State Ideal
  | 0 => init s0 x
  | n + 1 => step n (refIter n)

/-- No trip changes the queries. -/
theorem iter_q : ∀ n, (refIter x s0 n).main_v120_0 = A_main_v114 x
  | 0 => rfl
  | n + 1 => iter_q n
/-- No trip changes the keys. -/
theorem iter_k : ∀ n, (refIter x s0 n).main_v120_1 = A_main_v116 x
  | 0 => rfl
  | n + 1 => iter_k n
/-- No trip changes the values. -/
theorem iter_v : ∀ n, (refIter x s0 n).main_v120_2 = A_main_v118 x
  | 0 => rfl
  | n + 1 => iter_v n

/-- The carried state before chunk `n`. -/
theorem iter_st : ∀ (n : ℕ) (hn : n ≤ 16) (b : Fin 8) (h : Fin 4) (d e : Fin 128),
    (refIter x s0 n).main_v120_9 (ix4 b h d e) = st x s0 n hn b h d e := by
  intro n
  induction n with
  | zero => intro hn b h d e; rfl
  | succ n ih =>
    intro hn b h d e
    show b57 n (refIter x s0 n) (ix4 b h d e) = _
    rw [b57_at, st, ih (by omega)]
    refine congrArg (_ + ·) (Finset.sum_congr rfl fun j _ => ?_)
    rw [b25_at _ ⟨n, hn⟩, b37_at _ ⟨n, hn⟩, iter_k, iter_v, k_at, v_at]

/-- The output of chunk `n`, as its trip computes it. -/
theorem iter_o (n : Fin 16) (b : Fin 8) (i : Fin 128) (h : Fin 4) (e : Fin 128) :
    b49 n.val (refIter x s0 n.val) (ix4 b i h e) = att x s0 b n i h e := by
  rw [b49_at, att]
  simp only [b13_at, b25_at, b37_at, iter_q, iter_k, iter_v, q_at, k_at, v_at, iter_st x s0 n.val (by omega)]
  refine congrArg₂ (· + ·) (Finset.sum_congr rfl fun j _ => mul_comm _ _) (congrArg (· * _) (Finset.sum_congr rfl fun d _ => mul_comm _ _))

/-- The outputs after `N` trips: every chunk before `N` is there. -/
theorem iter_out : ∀ (N : ℕ) (hN : N ≤ 16) (k : Fin 16) (hk : k.val < N) (b : Fin 8) (i : Fin 128) (h : Fin 4) (e : Fin 128),
    (refIter x s0 N).main_v120_10 (ix5 k b i h e) = att x s0 b k i h e := by
  intro N
  induction N with
  | zero => intro hN k hk; exact absurd hk (Nat.not_lt_zero _)
  | succ N ih =>
    intro hN k hk b i h e
    show b64 N (refIter x s0 N) (ix5 k b i h e) = _
    rw [b64_at _ ⟨N, hN⟩]
    by_cases hkN : k = ⟨N, hN⟩
    · rw [if_pos hkN, hkN]; exact iter_o x s0 ⟨N, hN⟩ b i h e
    · rw [if_neg hkN]
      exact ih (by omega) k (by have : k.val ≠ N := fun h => hkN (Fin.ext h); omega) b i h e

/-- The reference's output rows, of the last state's outputs. -/
theorem rows_at (s : State Ideal) (r : Fin 16384) (l : Fin 512) : R_main_v149 s x g (ix2 r l)
    = x (ix2 r ⟨1536 + l.val, by omega⟩) * Ideal.logistic (x (ix2 r ⟨1536 + l.val, by omega⟩))
      * (normed (fun e : Fin 128 => s.main_v120_10 (ix5 ⟨r.val % 2048 / 128, by omega⟩ ⟨r.val / 2048, by omega⟩
          ⟨r.val % 2048 % 128, by omega⟩ ⟨l.val / 128, by omega⟩ e)) ⟨l.val % 128, by omega⟩ * g (ix1 l)) := by
  rw [normed, mean, mean, Ideal.logistic]
  pointwise [R_main_v149]

/-- The reference's output rows. -/
theorem out_eq (N : ℕ) (hN : N = 16) : R_main_v149 (refIter x s0 N) x g = OUT x s0 g := by
  funext y
  obtain ⟨r, l, rfl⟩ : ∃ (r : Fin 16384) (l : Fin 512), y = ix2 r l := ⟨y 0, y 1, by blk_ext⟩
  have hr : row ⟨r.val / 2048, by omega⟩ ⟨r.val % 2048 / 128, by omega⟩ ⟨r.val % 2048 % 128, by omega⟩ = r :=
    Fin.ext (by show r.val / 2048 * 2048 + (r.val % 2048 / 128 * 128 + r.val % 2048 % 128) = r.val; omega)
  have hl : col 1536 (by decide) ⟨l.val / 128, by omega⟩ ⟨l.val % 128, by omega⟩ = ⟨1536 + l.val, by omega⟩ :=
    Fin.ext (by show 1536 + (l.val / 128 * 128 + l.val % 128) = 1536 + l.val; omega)
  have hg : (⟨l.val / 128 * 128 + l.val % 128, by omega⟩ : Fin 512) = l :=
    Fin.ext (by show l.val / 128 * 128 + l.val % 128 = l.val; omega)
  have ho : (fun e : Fin 128 => (refIter x s0 N).main_v120_10 (ix5 ⟨r.val % 2048 / 128, by omega⟩ ⟨r.val / 2048, by omega⟩
      ⟨r.val % 2048 % 128, by omega⟩ ⟨l.val / 128, by omega⟩ e)) = att x s0 ⟨r.val / 2048, by omega⟩
      ⟨r.val % 2048 / 128, by omega⟩ ⟨r.val % 2048 % 128, by omega⟩ ⟨l.val / 128, by omega⟩ := funext fun e =>
    iter_out x s0 N (by omega) _ (by show r.val % 2048 / 128 < N; omega) _ _ _ e
  rw [rows_at, ho]
  show _ = gated x s0 g ⟨r.val / 2048, by omega⟩ ⟨r.val % 2048 / 128, by omega⟩ ⟨r.val % 2048 % 128, by omega⟩
    ⟨l.val / 128, by omega⟩ ⟨l.val % 128, by omega⟩
  rw [gated, hr, hl, hg]

/-- The reference's last state. -/
theorem last_eq : (refIter x s0 16).main_v120_9 = LAST x s0 := by
  funext y
  obtain ⟨b, h, d, e, rfl⟩ : ∃ (b : Fin 8) (h : Fin 4) (d e : Fin 128), y = ix4 b h d e := ⟨y 0, y 1, y 2, y 3, by blk_ext⟩
  exact iter_st x s0 16 le_rfl b h d e

end Cert.ReferenceIdeal.Retention

end
-- ==== Proof.RetentionPoint.lean ====
/-
  One point of the retention kernel: the state and the output rows it leaves, of the blocks it is shown and the state
  before it.
-/
module

public import proofs.«01_k».proof.Proof.Gen.KernelIdeal.Value
public import proofs.«01_k».proof.Proof.RetentionReference
public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.ReferenceIdeal.Retention

variable (m : (ℓ : Loc nD τ sig) → Buf (Elt Ideal) ℓ)

/-- A block's head `h` turned by the tables of its rows. -/
def turned (X : FVec Ideal S128x512 .f32) (C S : FVec Ideal S128x128 .f32) (i : Fin 128) (h : Fin 4) (d : Fin 128) : EReal :=
  X (ix2 i ⟨h.val * 128 + d.val, by omega⟩) * C (ix2 i d)
    + X (ix2 i ⟨h.val * 128 + (d.val + 128 - 64) % 128, by omega⟩) * S (ix2 i d)

/-- The state after a point, of the state `P` before it and the point's blocks. -/
def stateOf (P : Fin 4 → Fin 128 → Fin 128 → EReal) (K V : FVec Ideal S128x512 .f32) (C S : FVec Ideal S128x128 .f32)
    (Z : FVec Ideal S4x128x128 .f32) (G : FVec Ideal S4x1x128 .f32) (h : Fin 4) (d e : Fin 128) : EReal :=
  P h d e * G (ix3 h 0 e) + ∑ j : Fin 128, turned K C S j h d * Ideal.ofBits FTy.f32 0x3DB504F3#32 * Z (ix3 h j d)
    * V (ix2 j ⟨h.val * 128 + e.val, by omega⟩)

/-- A point's output before its normalisation. -/
def attOf (P : Fin 4 → Fin 128 → Fin 128 → EReal) (Q K V : FVec Ideal S128x512 .f32) (C S : FVec Ideal S128x128 .f32)
    (D X : FVec Ideal S4x128x128 .f32) (i : Fin 128) (h : Fin 4) (e : Fin 128) : EReal :=
  ∑ j : Fin 128, (∑ d : Fin 128, turned Q C S i h d * (turned K C S j h d * Ideal.ofBits FTy.f32 0x3DB504F3#32))
      * D (ix3 h i j) * V (ix2 j ⟨h.val * 128 + e.val, by omega⟩)
    + (∑ d : Fin 128, turned Q C S i h d * P h d e) * X (ix3 h i e)

/-- A point's output. -/
def outOf (P : Fin 4 → Fin 128 → Fin 128 → EReal) (Q K V T : FVec Ideal S128x512 .f32) (C S : FVec Ideal S128x128 .f32)
    (D X : FVec Ideal S4x128x128 .f32) (N : FVec Ideal S1x512 .f32) (i : Fin 128) (h : Fin 4) (e : Fin 128) : EReal :=
  T (ix2 i ⟨h.val * 128 + e.val, by omega⟩) * Ideal.logistic (T (ix2 i ⟨h.val * 128 + e.val, by omega⟩))
    * (normed (attOf P Q K V C S D X i h) e * N (ix2 0 ⟨h.val * 128 + e.val, by omega⟩))

/-- Where some piece of `L` lies over it, what was stored before `L` is not seen. -/
theorem canon_under {s : Shape} {e : EltTy} (q : View.Piece (Elt Ideal) s e) (y : s.Idx) :
    ∀ L : List (View.Piece (Elt Ideal) s e), (∃ p ∈ L, y ∈ p.1.set) → View.canon (L ++ [q]) y = View.canon L y
  | [], h => by obtain ⟨p, hp, _⟩ := h; cases hp
  | p :: L, h => by
    by_cases hy : y ∈ p.1.set
    · rw [← p.1.map_emb_univ] at hy
      obtain ⟨x, -, rfl⟩ := Finset.mem_map.1 hy
      exact (View.canon_cons_emb p.1 p.2 (L ++ [q]) x).trans (View.canon_cons_emb p.1 p.2 L x).symm
    · rw [List.cons_append, View.canon_cons_of_not_mem _ _ hy, View.canon_cons_of_not_mem _ _ hy]
      refine canon_under q y L ?_
      obtain ⟨p', hp, hp'⟩ := h
      rcases List.mem_cons.1 hp with rfl | hp
      · exact absurd hp' hy
      · exact ⟨p', hp, hp'⟩

/-- A head's square of a state holds the head's indices. -/
theorem in_head (k : ℕ) (hd : Fin 4) (d e : Fin 128) (h : hd.val = k) {inb} :
    (ix3 hd d e : S4x128x128.Idx) ∈ (Rect.unit (s := S4x128x128) ![k, 0, 0] ![1, 128, 128] inb).set := by
  refine Rect.mem_set_unit.2 fun a => ?_
  match a with
  | ⟨0, _⟩ => exact ⟨h.ge, by show hd.val < k + 1; omega⟩
  | ⟨1, _⟩ => exact ⟨Nat.zero_le _, by show d.val < 0 + 128; omega⟩
  | ⟨2, _⟩ => exact ⟨Nat.zero_le _, by show e.val < 0 + 128; omega⟩

variable (c : Dev nD) (t : Fin cfg0.N)

/-- The state the point before left. -/
abbrev before : FVec Ideal S4x128x128 .f32 := (outsAt0 m c (t.val - 1) (Nat.lt_of_le_of_lt (Nat.sub_le _ _) t.isLt)).2.2

/-- The state after the first point of a sequence. -/
theorem state_A (h0 : t.val % 16 = 0) (h1 : ¬t.val % 16 = 15) (hd : Fin 4) (d e : Fin 128) :
    ((outsAt0 m c t.val t.isLt).2.2 : FVec Ideal S4x128x128 .f32) (ix3 hd d e) = stateOf (fun h d e => (iblk m c 10 t : FVec Ideal S1x4x128x128 .f32) (ix4 0 h d e))
      (iblk m c 1 t) (iblk m c 2 t) (iblk m c 4 t) (iblk m c 5 t) (iblk m c 8 t) (iblk m c 9 t) hd d e := by
  rw [outsAt0_A m c t h0 h1]
  frame_out
  have hz : ∀ a : Fin 3, (![0, 0, 0] : Fin 3 → ℕ) a = 0 := by decide
  simp only [View.readCov_fill (s := S4x128x128) _ _ _ _ _ hz]
  clear h0 h1
  generalize iblk m c 1 t = K
  generalize iblk m c 2 t = V
  generalize iblk m c 4 t = C
  generalize iblk m c 5 t = S
  generalize iblk m c 8 t = Z
  generalize iblk m c 9 t = G
  generalize iblk m c 10 t = I
  refine (canon_under _ _ [_, _, _, _] ?_).trans ?_
  · have h4 : hd.val = 3 ∨ hd.val = 2 ∨ hd.val = 1 ∨ hd.val = 0 := by omega
    rcases h4 with h4 | h4 | h4 | h4
    · refine ⟨_, .head _, ?_⟩
      exact in_head (inb := inb_S4x128x128_S1x128x128_3_0_0) _ hd d e h4
    · refine ⟨_, .tail _ (.head _), ?_⟩
      exact in_head (inb := inb_S4x128x128_S1x128x128_2_0_0) _ hd d e h4
    · refine ⟨_, .tail _ (.tail _ (.head _)), ?_⟩
      exact in_head (inb := inb_S4x128x128_S1x128x128_1_0_0) _ hd d e h4
    · refine ⟨_, .tail _ (.tail _ (.tail _ (.head _))), ?_⟩
      exact in_head (inb := inb_S4x128x128_S1x128x128_0_0_0) _ hd d e h4
  canon_tiles x h
  all_goals obtain rfl : d = x 1 := Fin.ext h1
  all_goals obtain rfl : e = x 2 := Fin.ext h2
  all_goals first
    | (have e0 : hd.val = 3 + (x 0).val := h0
       obtain rfl : hd = 3 := Fin.ext (show hd.val = 3 by omega))
    | (have e0 : hd.val = 2 + (x 0).val := h0
       obtain rfl : hd = 2 := Fin.ext (show hd.val = 2 by omega))
    | (have e0 : hd.val = 1 + (x 0).val := h0
       obtain rfl : hd = 1 := Fin.ext (show hd.val = 1 by omega))
    | (have e0 : hd.val = (x 0).val := h0
       obtain rfl : hd = 0 := Fin.ext (show hd.val = 0 by omega))
  all_goals pointwise [k0_pay38, k0_pay37, k0_pay36, k0_pay35, k0_pay34, k0_pay33, k0_pay22, k0_pay21, k0_pay20, k0_pay19,
      k0_pay18, k0_pay17, k0_pay15, k0_pay14, k0_pay12, k0_pay11, k0_pay9, k0_pay8, k0_pay6, k0_pay5, k0_pay4, stateOf, turned]

/-- The output rows of the first point of a sequence. -/
theorem out_A (h0 : t.val % 16 = 0) (h1 : ¬t.val % 16 = 15) (i : Fin 128) (hd : Fin 4) (e : Fin 128) :
    ((outsAt0 m c t.val t.isLt).1 : FVec Ideal S128x512 .f32) (ix2 i ⟨hd.val * 128 + e.val, by omega⟩) = outOf (fun h d e => (iblk m c 10 t : FVec Ideal S1x4x128x128 .f32) (ix4 0 h d e))
      (iblk m c 0 t) (iblk m c 1 t) (iblk m c 2 t) (iblk m c 3 t) (iblk m c 4 t) (iblk m c 5 t) (iblk m c 6 t) (iblk m c 7 t)
      (iblk m c 11 t) i hd e := by
  rw [outsAt0_A m c t h0 h1]
  frame_out
  have hz : ∀ a : Fin 3, (![0, 0, 0] : Fin 3 → ℕ) a = 0 := by decide
  simp only [View.readCov_fill (s := S4x128x128) _ _ _ _ _ hz]
  clear h0 h1
  generalize iblk m c 0 t = Q
  generalize iblk m c 1 t = K
  generalize iblk m c 2 t = V
  generalize iblk m c 3 t = T
  generalize iblk m c 4 t = C
  generalize iblk m c 5 t = S
  generalize iblk m c 6 t = D
  generalize iblk m c 7 t = X
  generalize iblk m c 11 t = N
  generalize iblk m c 10 t = I
  canon_tiles x h
  all_goals obtain rfl : i = x 0 := Fin.ext h0
  all_goals first
    | (have e1 : hd.val * 128 + e.val = 384 + (x 1).val := h1
       obtain rfl : hd = 3 := Fin.ext (show hd.val = 3 by omega)
       obtain rfl : e = x 1 := Fin.ext (by have e2 : 3 * 128 + e.val = 384 + (x 1).val := e1; omega))
    | (have e1 : hd.val * 128 + e.val = 256 + (x 1).val := h1
       obtain rfl : hd = 2 := Fin.ext (show hd.val = 2 by omega)
       obtain rfl : e = x 1 := Fin.ext (by have e2 : 2 * 128 + e.val = 256 + (x 1).val := e1; omega))
    | (have e1 : hd.val * 128 + e.val = 128 + (x 1).val := h1
       obtain rfl : hd = 1 := Fin.ext (show hd.val = 1 by omega)
       obtain rfl : e = x 1 := Fin.ext (by have e2 : 1 * 128 + e.val = 128 + (x 1).val := e1; omega))
    | (have e1 : hd.val * 128 + e.val = (x 1).val := h1
       obtain rfl : hd = 0 := Fin.ext (show hd.val = 0 by omega)
       obtain rfl : e = x 1 := Fin.ext (by have e2 : 0 * 128 + e.val = (x 1).val := e1; omega))
  all_goals pointwise [k0_pay1, k0_pay2, k0_pay39, k0_pay40, k0_pay41, k0_pay42, k0_pay32, k0_pay31, k0_pay30, k0_pay29, k0_pay28, k0_pay27,
      k0_pay26, k0_pay25, k0_pay24, k0_pay23, k0_pay22, k0_pay21, k0_pay20, k0_pay19, k0_pay18, k0_pay17, k0_pay16, k0_pay15,
      k0_pay14, k0_pay13, k0_pay12, k0_pay11, k0_pay10, k0_pay9, k0_pay8, k0_pay7, k0_pay6, k0_pay5, k0_pay4,
    outOf, normed, mean, attOf, turned]
  all_goals rfl

/-- The state after a point between. -/
theorem state_B (h0 : ¬t.val % 16 = 0) (h1 : ¬t.val % 16 = 15) (hd : Fin 4) (d e : Fin 128) :
    ((outsAt0 m c t.val t.isLt).2.2 : FVec Ideal S4x128x128 .f32) (ix3 hd d e) = stateOf (fun h d e => before m c t (ix3 h d e))
      (iblk m c 1 t) (iblk m c 2 t) (iblk m c 4 t) (iblk m c 5 t) (iblk m c 8 t) (iblk m c 9 t) hd d e := by
  rw [outsAt0_B m c t h0 h1]
  frame_out
  unfold before
  rw [read_unread_whole]
  clear h0 h1
  generalize iblk m c 1 t = K
  generalize iblk m c 2 t = V
  generalize iblk m c 4 t = C
  generalize iblk m c 5 t = S
  generalize iblk m c 8 t = Z
  generalize iblk m c 9 t = G
  generalize (outsAt0 m c (t.val - 1) (Nat.lt_of_le_of_lt (Nat.sub_le _ _) t.isLt)).2.2 = P
  canon_tiles x h
  all_goals obtain rfl : d = x 1 := Fin.ext h1
  all_goals obtain rfl : e = x 2 := Fin.ext h2
  all_goals first
    | (have e0 : hd.val = 3 + (x 0).val := h0
       obtain rfl : hd = 3 := Fin.ext (show hd.val = 3 by omega))
    | (have e0 : hd.val = 2 + (x 0).val := h0
       obtain rfl : hd = 2 := Fin.ext (show hd.val = 2 by omega))
    | (have e0 : hd.val = 1 + (x 0).val := h0
       obtain rfl : hd = 1 := Fin.ext (show hd.val = 1 by omega))
    | (have e0 : hd.val = (x 0).val := h0
       obtain rfl : hd = 0 := Fin.ext (show hd.val = 0 by omega))
  all_goals pointwise [k0_pay38, k0_pay37, k0_pay36, k0_pay35, k0_pay34, k0_pay33, k0_pay22, k0_pay21, k0_pay20, k0_pay19,
      k0_pay18, k0_pay17, k0_pay15, k0_pay14, k0_pay12, k0_pay11, k0_pay9, k0_pay8, k0_pay6, k0_pay5, stateOf, turned]

/-- The output rows of a point between. -/
theorem out_B (h0 : ¬t.val % 16 = 0) (h1 : ¬t.val % 16 = 15) (i : Fin 128) (hd : Fin 4) (e : Fin 128) :
    ((outsAt0 m c t.val t.isLt).1 : FVec Ideal S128x512 .f32) (ix2 i ⟨hd.val * 128 + e.val, by omega⟩) = outOf (fun h d e => before m c t (ix3 h d e))
      (iblk m c 0 t) (iblk m c 1 t) (iblk m c 2 t) (iblk m c 3 t) (iblk m c 4 t) (iblk m c 5 t) (iblk m c 6 t) (iblk m c 7 t)
      (iblk m c 11 t) i hd e := by
  rw [outsAt0_B m c t h0 h1]
  frame_out
  unfold before
  rw [read_unread_whole]
  clear h0 h1
  generalize iblk m c 0 t = Q
  generalize iblk m c 1 t = K
  generalize iblk m c 2 t = V
  generalize iblk m c 3 t = T
  generalize iblk m c 4 t = C
  generalize iblk m c 5 t = S
  generalize iblk m c 6 t = D
  generalize iblk m c 7 t = X
  generalize iblk m c 11 t = N
  generalize (outsAt0 m c (t.val - 1) (Nat.lt_of_le_of_lt (Nat.sub_le _ _) t.isLt)).2.2 = P
  canon_tiles x h
  all_goals obtain rfl : i = x 0 := Fin.ext h0
  all_goals first
    | (have e1 : hd.val * 128 + e.val = 384 + (x 1).val := h1
       obtain rfl : hd = 3 := Fin.ext (show hd.val = 3 by omega)
       obtain rfl : e = x 1 := Fin.ext (by have e2 : 3 * 128 + e.val = 384 + (x 1).val := e1; omega))
    | (have e1 : hd.val * 128 + e.val = 256 + (x 1).val := h1
       obtain rfl : hd = 2 := Fin.ext (show hd.val = 2 by omega)
       obtain rfl : e = x 1 := Fin.ext (by have e2 : 2 * 128 + e.val = 256 + (x 1).val := e1; omega))
    | (have e1 : hd.val * 128 + e.val = 128 + (x 1).val := h1
       obtain rfl : hd = 1 := Fin.ext (show hd.val = 1 by omega)
       obtain rfl : e = x 1 := Fin.ext (by have e2 : 1 * 128 + e.val = 128 + (x 1).val := e1; omega))
    | (have e1 : hd.val * 128 + e.val = (x 1).val := h1
       obtain rfl : hd = 0 := Fin.ext (show hd.val = 0 by omega)
       obtain rfl : e = x 1 := Fin.ext (by have e2 : 0 * 128 + e.val = (x 1).val := e1; omega))
  all_goals pointwise [k0_pay1, k0_pay2, k0_pay39, k0_pay40, k0_pay41, k0_pay42, k0_pay32, k0_pay31, k0_pay30, k0_pay29, k0_pay28, k0_pay27,
      k0_pay26, k0_pay25, k0_pay24, k0_pay23, k0_pay22, k0_pay21, k0_pay20, k0_pay19, k0_pay18, k0_pay17, k0_pay16, k0_pay15,
      k0_pay14, k0_pay13, k0_pay12, k0_pay11, k0_pay10, k0_pay9, k0_pay8, k0_pay7, k0_pay6, k0_pay5,
    outOf, normed, mean, attOf, turned]
  all_goals rfl

/-- The state after the last point of a sequence. -/
theorem state_C (h0 : ¬t.val % 16 = 0) (h1 : t.val % 16 = 15) (hd : Fin 4) (d e : Fin 128) :
    ((outsAt0 m c t.val t.isLt).2.2 : FVec Ideal S4x128x128 .f32) (ix3 hd d e) = stateOf (fun h d e => before m c t (ix3 h d e))
      (iblk m c 1 t) (iblk m c 2 t) (iblk m c 4 t) (iblk m c 5 t) (iblk m c 8 t) (iblk m c 9 t) hd d e := by
  rw [outsAt0_C m c t h0 h1]
  frame_out
  unfold before
  rw [read_unread_whole]
  clear h0 h1
  generalize iblk m c 1 t = K
  generalize iblk m c 2 t = V
  generalize iblk m c 4 t = C
  generalize iblk m c 5 t = S
  generalize iblk m c 8 t = Z
  generalize iblk m c 9 t = G
  generalize (outsAt0 m c (t.val - 1) (Nat.lt_of_le_of_lt (Nat.sub_le _ _) t.isLt)).2.2 = P
  canon_tiles x h
  all_goals obtain rfl : d = x 1 := Fin.ext h1
  all_goals obtain rfl : e = x 2 := Fin.ext h2
  all_goals first
    | (have e0 : hd.val = 3 + (x 0).val := h0
       obtain rfl : hd = 3 := Fin.ext (show hd.val = 3 by omega))
    | (have e0 : hd.val = 2 + (x 0).val := h0
       obtain rfl : hd = 2 := Fin.ext (show hd.val = 2 by omega))
    | (have e0 : hd.val = 1 + (x 0).val := h0
       obtain rfl : hd = 1 := Fin.ext (show hd.val = 1 by omega))
    | (have e0 : hd.val = (x 0).val := h0
       obtain rfl : hd = 0 := Fin.ext (show hd.val = 0 by omega))
  all_goals pointwise [k0_pay38, k0_pay37, k0_pay36, k0_pay35, k0_pay34, k0_pay33, k0_pay22, k0_pay21, k0_pay20, k0_pay19,
      k0_pay18, k0_pay17, k0_pay15, k0_pay14, k0_pay12, k0_pay11, k0_pay9, k0_pay8, k0_pay6, k0_pay5, stateOf, turned]

/-- The output rows of the last point of a sequence. -/
theorem out_C (h0 : ¬t.val % 16 = 0) (h1 : t.val % 16 = 15) (i : Fin 128) (hd : Fin 4) (e : Fin 128) :
    ((outsAt0 m c t.val t.isLt).1 : FVec Ideal S128x512 .f32) (ix2 i ⟨hd.val * 128 + e.val, by omega⟩) = outOf (fun h d e => before m c t (ix3 h d e))
      (iblk m c 0 t) (iblk m c 1 t) (iblk m c 2 t) (iblk m c 3 t) (iblk m c 4 t) (iblk m c 5 t) (iblk m c 6 t) (iblk m c 7 t)
      (iblk m c 11 t) i hd e := by
  rw [outsAt0_C m c t h0 h1]
  frame_out
  unfold before
  rw [read_unread_whole]
  clear h0 h1
  generalize iblk m c 0 t = Q
  generalize iblk m c 1 t = K
  generalize iblk m c 2 t = V
  generalize iblk m c 3 t = T
  generalize iblk m c 4 t = C
  generalize iblk m c 5 t = S
  generalize iblk m c 6 t = D
  generalize iblk m c 7 t = X
  generalize iblk m c 11 t = N
  generalize (outsAt0 m c (t.val - 1) (Nat.lt_of_le_of_lt (Nat.sub_le _ _) t.isLt)).2.2 = P
  canon_tiles x h
  all_goals obtain rfl : i = x 0 := Fin.ext h0
  all_goals first
    | (have e1 : hd.val * 128 + e.val = 384 + (x 1).val := h1
       obtain rfl : hd = 3 := Fin.ext (show hd.val = 3 by omega)
       obtain rfl : e = x 1 := Fin.ext (by have e2 : 3 * 128 + e.val = 384 + (x 1).val := e1; omega))
    | (have e1 : hd.val * 128 + e.val = 256 + (x 1).val := h1
       obtain rfl : hd = 2 := Fin.ext (show hd.val = 2 by omega)
       obtain rfl : e = x 1 := Fin.ext (by have e2 : 2 * 128 + e.val = 256 + (x 1).val := e1; omega))
    | (have e1 : hd.val * 128 + e.val = 128 + (x 1).val := h1
       obtain rfl : hd = 1 := Fin.ext (show hd.val = 1 by omega)
       obtain rfl : e = x 1 := Fin.ext (by have e2 : 1 * 128 + e.val = 128 + (x 1).val := e1; omega))
    | (have e1 : hd.val * 128 + e.val = (x 1).val := h1
       obtain rfl : hd = 0 := Fin.ext (show hd.val = 0 by omega)
       obtain rfl : e = x 1 := Fin.ext (by have e2 : 0 * 128 + e.val = (x 1).val := e1; omega))
  all_goals pointwise [k0_pay1, k0_pay2, k0_pay39, k0_pay40, k0_pay41, k0_pay42, k0_pay32, k0_pay31, k0_pay30, k0_pay29, k0_pay28, k0_pay27,
      k0_pay26, k0_pay25, k0_pay24, k0_pay23, k0_pay22, k0_pay21, k0_pay20, k0_pay19, k0_pay18, k0_pay17, k0_pay16, k0_pay15,
      k0_pay14, k0_pay13, k0_pay12, k0_pay11, k0_pay10, k0_pay9, k0_pay8, k0_pay7, k0_pay6, k0_pay5,
    outOf, normed, mean, attOf, turned]
  all_goals rfl

end Cert.KernelIdeal.Value
end
-- ==== Proof.RetentionTables.lean ====
/-
  The retention kernel's tables: what @main computes before the call is what the reference computes.
-/
module

public import proofs.«01_k».proof.Proof.Gen.KernelIdeal.Value
public import proofs.«01_k».proof.Proof.RetentionReference
public import Idealize.ShloMosaic.Lib.Pointwise
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.ReferenceIdeal.Retention Cert.ReferenceIdeal.Step

section Tables
variable (σ : Valuation τ sig (Elt Ideal))

/-- Counting from zero is counting. -/
theorem count_from_zero : addi (broadcastInDim S2048 ![] bcast_S_S2048 (constantI S_ 32 0#32)) (iotaInDim S2048 32 0)
    = iotaInDim S2048 32 0 := by
  funext i
  exact BitVec.zero_add _

/-- The logarithms of the heads' decays. -/
theorem host_v27 : (StableHlo.after (hostOps0 (F := Ideal)) σ (Proc.tc.devRef main_v27) : FVec Ideal S4 .f32) = K_main_v75 (F := Ideal) := by
  after_results
  rfl

/-- The places of a chunk. -/
theorem host_v28 : (StableHlo.after (hostOps0 (F := Ideal)) σ (Proc.tc.devRef main_v28) : FVec Ideal S128 .f32) = K_main_v76 (F := Ideal) := by
  after_results
  rfl

/-- Which pairs of places are causal. -/
theorem host_v36 : (StableHlo.after (hostOps0 (F := Ideal)) σ (Proc.tc.devRef main_v36) : Vec Ideal S1x128x128 .i1) = K_main_v84 (F := Ideal) := by
  after_results
  rfl

/-- The decay between two places, unmasked. -/
theorem host_v44 : (StableHlo.after (hostOps0 (F := Ideal)) σ (Proc.tc.devRef main_v44) : FVec Ideal S4x128x128 .f32) = K_main_v92 (F := Ideal) := by
  after_results
  rfl

/-- The decay of a pair that is not causal. -/
theorem host_cst_5 : (StableHlo.after (hostOps0 (F := Ideal)) σ (Proc.tc.devRef main_cst_5) : FVec Ideal S_ .f32) = K_main_cst_8 (F := Ideal) := by
  after_results
  rfl

/-- These operations leave the table alone. -/
theorem kept0_1_v17 : StableHlo.after (hostOps0_1 (F := Ideal)) σ (Proc.tc.devRef main_v17) = σ (Proc.tc.devRef main_v17) := by
  after_results

/-- These operations leave the table alone. -/
theorem kept0_1_v19 : StableHlo.after (hostOps0_1 (F := Ideal)) σ (Proc.tc.devRef main_v19) = σ (Proc.tc.devRef main_v19) := by
  after_results

/-- These operations leave the table alone. -/
theorem kept0_1_v27 : StableHlo.after (hostOps0_1 (F := Ideal)) σ (Proc.tc.devRef main_v27) = σ (Proc.tc.devRef main_v27) := by
  after_results

/-- These operations leave the table alone. -/
theorem kept0_1_v28 : StableHlo.after (hostOps0_1 (F := Ideal)) σ (Proc.tc.devRef main_v28) = σ (Proc.tc.devRef main_v28) := by
  after_results

/-- These operations leave the table alone. -/
theorem kept0_2_v17 : StableHlo.after (hostOps0_2 (F := Ideal)) σ (Proc.tc.devRef main_v17) = σ (Proc.tc.devRef main_v17) := by
  after_results

/-- These operations leave the table alone. -/
theorem kept0_2_v19 : StableHlo.after (hostOps0_2 (F := Ideal)) σ (Proc.tc.devRef main_v19) = σ (Proc.tc.devRef main_v19) := by
  after_results

/-- These operations leave the table alone. -/
theorem kept0_2_v45 : StableHlo.after (hostOps0_2 (F := Ideal)) σ (Proc.tc.devRef main_v45) = σ (Proc.tc.devRef main_v45) := by
  after_results

/-- These operations leave the gain alone. -/
theorem kept0_arg2 : StableHlo.after (hostOps0 (F := Ideal)) σ (Proc.tc.devRef main_arg2) = σ (Proc.tc.devRef main_arg2) := by
  after_results

/-- These operations leave the gain alone. -/
theorem kept0_1_arg2 : StableHlo.after (hostOps0_1 (F := Ideal)) σ (Proc.tc.devRef main_arg2) = σ (Proc.tc.devRef main_arg2) := by
  after_results

/-- The cosines, twice side by side. -/
theorem host_v17 (p : Fin 2048) (d : Fin 128) : (StableHlo.after (hostOps0 (F := Ideal)) σ (Proc.tc.devRef main_v17)
    : FVec Ideal S2048x128 .f32) (ix2 p d) = cosT (ix2 p ⟨d.val % 64, by omega⟩) := by
  show _ = K_main_v18 (F := Ideal) _
  after_results
  rw [count_from_zero]
  by_cases h : d.val < 64
  · pointwise [h, K_main_v18, K_main_v17, K_main_v16, K_main_v15, K_main_v14, K_main_v13, K_main_v12, K_main_v11, K_main_v10,
      K_main_v9, K_main_v8, K_main_v7, K_main_v6, K_main_v4, K_main_cst, K_main_cst_0]
    rw [Nat.mod_eq_of_lt h]
  · pointwise [h, K_main_v18, K_main_v17, K_main_v16, K_main_v15, K_main_v14, K_main_v13, K_main_v12, K_main_v11, K_main_v10,
      K_main_v9, K_main_v8, K_main_v7, K_main_v6, K_main_v4, K_main_cst, K_main_cst_0]
    rw [show d.val % 64 = d.val - 64 by omega]

/-- The sines, the first copy negated. -/
theorem host_v19 (p : Fin 2048) (d : Fin 128) : (StableHlo.after (hostOps0 (F := Ideal)) σ (Proc.tc.devRef main_v19)
    : FVec Ideal S2048x128 .f32) (ix2 p d) = if d.val < 64 then -sinT (ix2 p ⟨d.val % 64, by omega⟩)
      else sinT (ix2 p ⟨d.val % 64, by omega⟩) := by
  after_results
  rw [count_from_zero]
  by_cases h : d.val < 64
  · rw [if_pos h]
    show _ = -K_main_v20 (F := Ideal) _
    pointwise [h, K_main_v20, K_main_v17, K_main_v16, K_main_v15, K_main_v14, K_main_v13, K_main_v12, K_main_v11, K_main_v10,
      K_main_v9, K_main_v8, K_main_v7, K_main_v6, K_main_v4, K_main_cst, K_main_cst_0]
    rw [Nat.mod_eq_of_lt h]
  · rw [if_neg h]
    show _ = K_main_v20 (F := Ideal) _
    pointwise [h, K_main_v20, K_main_v17, K_main_v16, K_main_v15, K_main_v14, K_main_v13, K_main_v12, K_main_v11, K_main_v10,
      K_main_v9, K_main_v8, K_main_v7, K_main_v6, K_main_v4, K_main_cst, K_main_cst_0]
    rw [show d.val % 64 = d.val - 64 by omega]

/-- The decay between two places. -/
theorem host_v45 (h36 : (σ (Proc.tc.devRef main_v36) : Vec Ideal S1x128x128 .i1) = K_main_v84 (F := Ideal))
    (h44 : (σ (Proc.tc.devRef main_v44) : FVec Ideal S4x128x128 .f32) = K_main_v92 (F := Ideal))
    (h5 : (σ (Proc.tc.devRef main_cst_5) : FVec Ideal S_ .f32) = K_main_cst_8 (F := Ideal)) :
    (StableHlo.after (hostOps0_1 (F := Ideal)) σ (Proc.tc.devRef main_v45) : FVec Ideal S4x128x128 .f32) = decay := by
  after_results
  show _ = K_main_v93 (F := Ideal)
  rw [h36, h44, h5]
  rfl

section
variable (h27 : (σ (Proc.tc.devRef main_v27) : FVec Ideal S4 .f32) = K_main_v75 (F := Ideal))
  (h28 : (σ (Proc.tc.devRef main_v28) : FVec Ideal S128 .f32) = K_main_v76 (F := Ideal))
include h27 h28

/-- The decay from the chunk's start, spread over a row. -/
theorem host_v66 (h : Fin 4) (i e : Fin 128) : (StableHlo.after (hostOps0_2 (F := Ideal)) σ (Proc.tc.devRef main_v66)
    : FVec Ideal S4x128x128 .f32) (ix3 h i e) = fromStart (ix2 i h) := by
  after_results
  rw [h27, h28]
  show _ = K_main_v101 (F := Ideal) _
  pointwise [K_main_v101, K_main_v100, K_main_v99, K_main_v98, K_main_v97, K_main_v96, K_main_v95, K_main_v94, K_main_cst_9]

/-- The decay to the chunk's end, spread over a row. -/
theorem host_v68 (h : Fin 4) (j d : Fin 128) : (StableHlo.after (hostOps0_2 (F := Ideal)) σ (Proc.tc.devRef main_v68)
    : FVec Ideal S4x128x128 .f32) (ix3 h j d) = toEnd (ix2 j h) := by
  after_results
  rw [h27, h28]
  show _ = K_main_v109 (F := Ideal) _
  pointwise [K_main_v109, K_main_v108, K_main_v107, K_main_v106, K_main_v105, K_main_v104, K_main_v103, K_main_v102, K_main_cst_10]

omit h28 in
/-- The decay over a chunk, spread over a row. -/
theorem host_v70 (h : Fin 4) (e : Fin 128) : (StableHlo.after (hostOps0_2 (F := Ideal)) σ (Proc.tc.devRef main_v70)
    : FVec Ideal S4x1x128 .f32) (ix3 h 0 e) = overChunk (ix1 h) := by
  after_results
  rw [h27]
  show _ = K_main_v112 (F := Ideal) _
  pointwise [K_main_v112, K_main_v111, K_main_v110, K_main_cst_11]
end

/-- The gain as a row. -/
theorem host_v71 (l : Fin 512) : (StableHlo.after (hostOps0_2 (F := Ideal)) σ (Proc.tc.devRef main_v71)
    : FVec Ideal S1x512 .f32) (ix2 0 l) = (σ (Proc.tc.devRef main_arg2) : FVec Ideal S512 .f32) (ix1 l) := by
  after_results
  pointwise []

end Tables

variable (m : (ℓ : Loc nD τ sig) → Buf (Elt Ideal) ℓ) (c : Dev nD)

/-- What the host operations leave, segment by segment. -/
theorem entry_eq (b : DevRef τ sig) : StableHlo.after [hostOps0 (F := Ideal), hostOps0_1, hostOps0_2].flatten (fun b => m (c, b)) b
    = StableHlo.after (hostOps0_2 (F := Ideal)) (StableHlo.after (hostOps0_1 (F := Ideal))
        (StableHlo.after (hostOps0 (F := Ideal)) (fun b => m (c, b)))) b := by
  simp only [List.flatten_cons, List.flatten_nil, List.append_nil, StableHlo.after_append]

/-- The cosine table the kernel is given. -/
theorem V17 (p : Fin 2048) (d : Fin 128) :
    (V m c main_v17 : FVec Ideal S2048x128 .f32) (ix2 p d) = cosT (ix2 p ⟨d.val % 64, by omega⟩) := by
  unfold V
  rw [entry_eq, kept0_2_v17, kept0_1_v17]
  exact host_v17 _ p d

/-- The sine table. -/
theorem V19 (p : Fin 2048) (d : Fin 128) : (V m c main_v19 : FVec Ideal S2048x128 .f32) (ix2 p d)
    = if d.val < 64 then -sinT (ix2 p ⟨d.val % 64, by omega⟩) else sinT (ix2 p ⟨d.val % 64, by omega⟩) := by
  unfold V
  rw [entry_eq, kept0_2_v19, kept0_1_v19]
  exact host_v19 _ p d

/-- The decay between places. -/
theorem V45 : (V m c main_v45 : FVec Ideal S4x128x128 .f32) = decay := by
  unfold V
  rw [entry_eq, kept0_2_v45]
  exact host_v45 _ (host_v36 _) (host_v44 _) (host_cst_5 _)

/-- The decay from the chunk's start. -/
theorem V66 (h : Fin 4) (i e : Fin 128) : (V m c main_v66 : FVec Ideal S4x128x128 .f32) (ix3 h i e) = fromStart (ix2 i h) := by
  unfold V
  rw [entry_eq]
  exact host_v66 _ ((kept0_1_v27 _).trans (host_v27 _)) ((kept0_1_v28 _).trans (host_v28 _)) h i e

/-- The decay to the chunk's end. -/
theorem V68 (h : Fin 4) (j d : Fin 128) : (V m c main_v68 : FVec Ideal S4x128x128 .f32) (ix3 h j d) = toEnd (ix2 j h) := by
  unfold V
  rw [entry_eq]
  exact host_v68 _ ((kept0_1_v27 _).trans (host_v27 _)) ((kept0_1_v28 _).trans (host_v28 _)) h j d

/-- The decay over a chunk. -/
theorem V70 (h : Fin 4) (e : Fin 128) : (V m c main_v70 : FVec Ideal S4x1x128 .f32) (ix3 h 0 e) = overChunk (ix1 h) := by
  unfold V
  rw [entry_eq]
  exact host_v70 _ ((kept0_1_v27 _).trans (host_v27 _)) h e

/-- The gain. -/
theorem V71 (l : Fin 512) : (V m c main_v71 : FVec Ideal S1x512 .f32) (ix2 0 l)
    = (m ((c : Thread nD τ).loc main_arg2) : FVec Ideal S512 .f32) (ix1 l) := by
  unfold V
  rw [entry_eq, host_v71, kept0_1_arg2, kept0_arg2]

end Cert.KernelIdeal.Value
end
-- ==== Proof.RetentionValue.lean ====
/-
  The retention's value: the kernel's grid walks each sequence chunk by chunk, and what it leaves in its two results is
  the reference's output rows and last state.
-/
module

public import proofs.«01_k».proof.Proof.RetentionPoint
public import proofs.«01_k».proof.Proof.RetentionTables

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.ReferenceIdeal.Retention

variable (m : (ℓ : Loc nD τ sig) → Buf (Elt Ideal) ℓ)

/-- Which block each window shows at point `t`. -/
theorem idx_at : ∀ t : Fin cfg0.N, win0_0.index t = ![t.val, 0] ∧ win0_1.index t = ![t.val, 1]
    ∧ win0_2.index t = ![t.val, 2] ∧ win0_3.index t = ![t.val, 3] ∧ win0_4.index t = ![t.val % 16, 0]
    ∧ win0_5.index t = ![t.val % 16, 0] ∧ win0_6.index t = ![0, 0, 0] ∧ win0_7.index t = ![0, 0, 0]
    ∧ win0_8.index t = ![0, 0, 0] ∧ win0_9.index t = ![0, 0, 0] ∧ win0_10.index t = ![t.val / 16, 0, 0, 0]
    ∧ win0_11.index t = ![0, 0] ∧ win0_12.index t = ![t.val, 0] ∧ win0_13.index t = ![t.val / 16, 0, 0, 0] :=
  (by decide +kernel : ∀ t : Fin grid0.N, _)

/-- The projections. -/
abbrev aX (c : Dev nD) : FVec Ideal S16384x2048 .f32 := m ((c : Thread nD τ).loc main_arg0)
/-- The state before the first chunk. -/
abbrev aS (c : Dev nD) : FVec Ideal S8x4x128x128 .f32 := m ((c : Thread nD τ).loc main_arg1)
/-- The gain. -/
abbrev aG (c : Dev nD) : FVec Ideal S512 .f32 := m ((c : Thread nD τ).loc main_arg2)

variable (c : Dev nD)

section Point
variable (t : Fin cfg0.N) (b : Fin 8) (n : Fin 16) (ht : t.val = b.val * 16 + n.val)
include ht

/-- A block of queries. -/
theorem blk0 (i : Fin 128) (l : Fin 512) :
    (iblk m c 0 t : FVec Ideal S128x512 .f32) (ix2 i l) = aX m c (ix2 (row b n i) ⟨0 + l.val, by omega⟩) := by
  unfold row
  blk_point [iblk, V, idx_at t]

/-- A block of keys. -/
theorem blk1 (i : Fin 128) (l : Fin 512) :
    (iblk m c 1 t : FVec Ideal S128x512 .f32) (ix2 i l) = aX m c (ix2 (row b n i) ⟨512 + l.val, by omega⟩) := by
  unfold row
  blk_point [iblk, V, idx_at t]

/-- A block of values. -/
theorem blk2 (i : Fin 128) (l : Fin 512) :
    (iblk m c 2 t : FVec Ideal S128x512 .f32) (ix2 i l) = aX m c (ix2 (row b n i) ⟨1024 + l.val, by omega⟩) := by
  unfold row
  blk_point [iblk, V, idx_at t]

/-- A block of gates. -/
theorem blk3 (i : Fin 128) (l : Fin 512) :
    (iblk m c 3 t : FVec Ideal S128x512 .f32) (ix2 i l) = aX m c (ix2 (row b n i) ⟨1536 + l.val, by omega⟩) := by
  unfold row
  blk_point [iblk, V, idx_at t]

/-- The cosines of a chunk's positions. -/
theorem blk4 (i d : Fin 128) :
    (iblk m c 4 t : FVec Ideal S128x128 .f32) (ix2 i d) = cosT (ix2 (pos n i) ⟨d.val % 64, by omega⟩) := by
  have e : ((cfg0.win 4).blk t).view.emb (ix2 i d) = (ix2 (⟨n.val * 128 + i.val, by omega⟩ : Fin 2048) d : S2048x128.Idx) := by
    blk_ext [idx_at t]
  refine Eq.trans ?_ (V17 m c (pos n i) d)
  show V m c main_v17 (((cfg0.win 4).blk t).view.emb (ix2 i d)) = _
  rw [e]
  rfl

/-- The sines of a chunk's positions, negated in the first half. -/
theorem blk5 (i d : Fin 128) :
    (iblk m c 5 t : FVec Ideal S128x128 .f32) (ix2 i d)
      = if d.val < 64 then -sinT (ix2 (pos n i) ⟨d.val % 64, by omega⟩) else sinT (ix2 (pos n i) ⟨d.val % 64, by omega⟩) := by
  have e : ((cfg0.win 5).blk t).view.emb (ix2 i d) = (ix2 (⟨n.val * 128 + i.val, by omega⟩ : Fin 2048) d : S2048x128.Idx) := by
    blk_ext [idx_at t]
  refine Eq.trans ?_ (V19 m c (pos n i) d)
  show V m c main_v19 (((cfg0.win 5).blk t).view.emb (ix2 i d)) = _
  rw [e]
  rfl

/-- A sequence's first state. -/
theorem blk10 (h : Fin 4) (d e : Fin 128) :
    (iblk m c 10 t : FVec Ideal S1x4x128x128 .f32) (ix4 0 h d e) = aS m c (ix4 b h d e) := by
  blk_point [iblk, V, idx_at t]

end Point

section Tables
variable (t : Fin cfg0.N)

/-- The decay within a chunk. -/
theorem blk6 (h : Fin 4) (i j : Fin 128) :
    (iblk m c 6 t : FVec Ideal S4x128x128 .f32) (ix3 h i j) = decay (ix3 h i j) := by
  have e : ((cfg0.win 6).blk t).view.emb (ix3 h i j) = (ix3 h i j : S4x128x128.Idx) := by blk_ext [idx_at t]
  refine Eq.trans ?_ (congrFun (V45 m c) (ix3 h i j))
  show V m c main_v45 (((cfg0.win 6).blk t).view.emb (ix3 h i j)) = _
  rw [e]

/-- The decay from the chunk's start. -/
theorem blk7 (h : Fin 4) (i e : Fin 128) :
    (iblk m c 7 t : FVec Ideal S4x128x128 .f32) (ix3 h i e) = fromStart (ix2 i h) := by
  have e' : ((cfg0.win 7).blk t).view.emb (ix3 h i e) = (ix3 h i e : S4x128x128.Idx) := by blk_ext [idx_at t]
  refine Eq.trans ?_ (V66 m c h i e)
  show V m c main_v66 (((cfg0.win 7).blk t).view.emb (ix3 h i e)) = _
  rw [e']

/-- The decay to the chunk's end. -/
theorem blk8 (h : Fin 4) (j d : Fin 128) :
    (iblk m c 8 t : FVec Ideal S4x128x128 .f32) (ix3 h j d) = toEnd (ix2 j h) := by
  have e' : ((cfg0.win 8).blk t).view.emb (ix3 h j d) = (ix3 h j d : S4x128x128.Idx) := by blk_ext [idx_at t]
  refine Eq.trans ?_ (V68 m c h j d)
  show V m c main_v68 (((cfg0.win 8).blk t).view.emb (ix3 h j d)) = _
  rw [e']

/-- The decay over a chunk. -/
theorem blk9 (h : Fin 4) (e : Fin 128) :
    (iblk m c 9 t : FVec Ideal S4x1x128 .f32) (ix3 h 0 e) = overChunk (ix1 h) := by
  have e' : ((cfg0.win 9).blk t).view.emb (ix3 h 0 e) = (ix3 h 0 e : S4x1x128.Idx) := by blk_ext [idx_at t]
  refine Eq.trans ?_ (V70 m c h e)
  show V m c main_v70 (((cfg0.win 9).blk t).view.emb (ix3 h 0 e)) = _
  rw [e']

/-- The gain. -/
theorem blk11 (l : Fin 512) : (iblk m c 11 t : FVec Ideal S1x512 .f32) (ix2 0 l) = aG m c (ix1 l) := by
  have e' : ((cfg0.win 11).blk t).view.emb (ix2 0 l) = (ix2 0 l : S1x512.Idx) := by blk_ext [idx_at t]
  refine Eq.trans ?_ (V71 m c l)
  show V m c main_v71 (((cfg0.win 11).blk t).view.emb (ix2 0 l)) = _
  rw [e']

end Tables

section Chunk
variable (t : Fin cfg0.N) (b : Fin 8) (n : Fin 16) (ht : t.val = b.val * 16 + n.val)
include ht

/-- Turning a block by the tables is the rotation. -/
theorem turned_eq (X : FVec Ideal S128x512 .f32) (o : ℕ) (ho : o + 512 ≤ 2048)
    (hX : ∀ (i : Fin 128) (l : Fin 512), X (ix2 i l) = aX m c (ix2 (row b n i) ⟨o + l.val, by omega⟩))
    (i : Fin 128) (h : Fin 4) (d : Fin 128) :
    turned X (iblk m c 4 t) (iblk m c 5 t) i h d = rot (aX m c) o ho b n i h d := by
  rw [turned, rot, blk4 m c t b n ht, blk5 m c t b n ht, hX, hX]
  by_cases hd : d.val < 64
  · rw [dif_pos hd, if_pos hd, mul_neg, ← sub_eq_add_neg]
    simp only [col, Nat.mod_eq_of_lt hd, show (d.val + 128 - 64) % 128 = 64 + d.val by omega]
  · rw [dif_neg hd, if_neg hd, add_comm]
    simp only [col, show d.val % 64 = d.val - 64 by omega, show (d.val + 128 - 64) % 128 = d.val - 64 by omega,
      show 64 + (d.val - 64) = d.val by omega]

variable (P : Fin 4 → Fin 128 → Fin 128 → EReal) (hP : ∀ h d e, P h d e = st (aX m c) (aS m c) n.val (by omega) b h d e)
include hP

/-- The state after a chunk. -/
theorem stateOf_eq (h : Fin 4) (d e : Fin 128) :
    stateOf P (iblk m c 1 t) (iblk m c 2 t) (iblk m c 4 t) (iblk m c 5 t) (iblk m c 8 t) (iblk m c 9 t) h d e
      = st (aX m c) (aS m c) (n.val + 1) (by omega) b h d e := by
  rw [stateOf, st, hP, blk9]
  refine congrArg (_ + ·) (Finset.sum_congr rfl fun j _ => ?_)
  rw [turned_eq m c t b n ht _ 512 (by decide) (blk1 m c t b n ht), blk8, blk2 m c t b n ht]
  rfl

/-- A chunk's output before its normalisation. -/
theorem attOf_eq (i : Fin 128) (h : Fin 4) (e : Fin 128) :
    attOf P (iblk m c 0 t) (iblk m c 1 t) (iblk m c 2 t) (iblk m c 4 t) (iblk m c 5 t) (iblk m c 6 t) (iblk m c 7 t) i h e
      = att (aX m c) (aS m c) b n i h e := by
  rw [attOf, att, blk7]
  simp only [turned_eq m c t b n ht _ 512 (by decide) (blk1 m c t b n ht),
    turned_eq m c t b n ht _ 0 (by decide) (blk0 m c t b n ht), blk6, blk2 m c t b n ht, hP]
  rfl

/-- A chunk's output. -/
theorem outOf_eq (i : Fin 128) (h : Fin 4) (e : Fin 128) :
    outOf P (iblk m c 0 t) (iblk m c 1 t) (iblk m c 2 t) (iblk m c 3 t) (iblk m c 4 t) (iblk m c 5 t) (iblk m c 6 t)
      (iblk m c 7 t) (iblk m c 11 t) i h e = gated (aX m c) (aS m c) (aG m c) b n i h e := by
  rw [outOf, gated, blk3 m c t b n ht, blk11]
  rw [show attOf P (iblk m c 0 t) (iblk m c 1 t) (iblk m c 2 t) (iblk m c 4 t) (iblk m c 5 t) (iblk m c 6 t) (iblk m c 7 t) i h
    = att (aX m c) (aS m c) b n i h from funext fun e => attOf_eq m c t b n ht P hP i h e]
  rfl

end Chunk

/-- The carried state after each point is the state after its chunk. -/
theorem after_eq : ∀ (k : ℕ) (hk : k < 16) (t : Fin cfg0.N) (b : Fin 8), t.val = b.val * 16 + k → ∀ (h : Fin 4) (d e : Fin 128),
    ((outsAt0 m c t.val t.isLt).2.2 : FVec Ideal S4x128x128 .f32) (ix3 h d e) = st (aX m c) (aS m c) (k + 1) hk b h d e := by
  intro k
  induction k with
  | zero =>
    intro hk t b ht h d e
    rw [state_A m c t (by omega) (by omega)]
    exact stateOf_eq m c t b ⟨0, hk⟩ ht _ (fun h d e => blk10 m c t b ⟨0, hk⟩ ht h d e) h d e
  | succ k ih =>
    intro hk t b ht h d e
    have hl : t.val - 1 < cfg0.N := Nat.lt_of_le_of_lt (Nat.sub_le _ _) t.isLt
    have hP := ih (by omega) ⟨t.val - 1, hl⟩ b (by show t.val - 1 = _; omega)
    by_cases h15 : t.val % 16 = 15
    · rw [state_C m c t (by omega) h15]
      exact stateOf_eq m c t b ⟨k + 1, hk⟩ ht _ hP h d e
    · rw [state_B m c t (by omega) h15]
      exact stateOf_eq m c t b ⟨k + 1, hk⟩ ht _ hP h d e

/-- The output rows each point stores. -/
theorem block_eq (t : Fin cfg0.N) (b : Fin 8) (n : Fin 16) (ht : t.val = b.val * 16 + n.val) (i : Fin 128) (h : Fin 4)
    (e : Fin 128) : ((outsAt0 m c t.val t.isLt).1 : FVec Ideal S128x512 .f32) (ix2 i ⟨h.val * 128 + e.val, by omega⟩)
      = gated (aX m c) (aS m c) (aG m c) b n i h e := by
  obtain ⟨n, hn⟩ := n
  have hl : t.val - 1 < cfg0.N := Nat.lt_of_le_of_lt (Nat.sub_le _ _) t.isLt
  cases n with
  | zero =>
    have ht' : t.val = b.val * 16 + 0 := ht
    rw [out_A m c t (by omega) (by omega)]
    exact outOf_eq m c t b ⟨0, hn⟩ ht _ (fun h d e => blk10 m c t b ⟨0, hn⟩ ht h d e) i h e
  | succ k =>
    have ht' : t.val = b.val * 16 + (k + 1) := ht
    have hP := after_eq m c k (by omega) ⟨t.val - 1, hl⟩ b (by show t.val - 1 = _; omega)
    by_cases h15 : t.val % 16 = 15
    · rw [out_C m c t (by omega) h15]
      exact outOf_eq m c t b ⟨k + 1, hn⟩ ht _ hP i h e
    · rw [out_B m c t (by omega) h15]
      exact outOf_eq m c t b ⟨k + 1, hn⟩ ht _ hP i h e

/-- Reading the whole state and adding a leading axis shows the state's own entries. -/
theorem whole_cast (W : FVec Ideal S4x128x128 .f32) (h : Fin 4) (d e : Fin 128) :
    k0_pay3 (F := Ideal) (fun j => W ((Rect.unit (s := S4x128x128) ![0, 0, 0] ![4, 128, 128]
      inb_S4x128x128_S4x128x128_0_0_0).toLoadRect.idx j)) (ix4 0 h d e) = W (ix3 h d e) := by
  have e' : (fun j => W ((Rect.unit (s := S4x128x128) ![0, 0, 0] ![4, 128, 128]
      inb_S4x128x128_S4x128x128_0_0_0).toLoadRect.idx j)) = W := by
    funext j
    refine congrArg W (funext fun a => Fin.ext ?_)
    fin_cases a <;> exact (Nat.zero_add _).trans (Nat.one_mul _)
  refine (congrArg (fun v => k0_pay3 (F := Ideal) v (ix4 0 h d e)) e').trans ?_
  pointwise [k0_pay3]

/-- The state stored at a sequence's last point is the carried one. -/
theorem last_state (t : Fin cfg0.N) (h15 : t.val % 16 = 15) (h : Fin 4) (d e : Fin 128) :
    ((outsAt0 m c t.val t.isLt).2.1 : FVec Ideal S1x4x128x128 .f32) (ix4 0 h d e)
      = ((outsAt0 m c t.val t.isLt).2.2 : FVec Ideal S4x128x128 .f32) (ix3 h d e) := by
  rw [outsAt0_C m c t (by omega) h15]
  frame_out
  rw [View.readCov_eq_canon']
  exact whole_cast _ h d e

/-- The output rows, by chunk and head. -/
theorem OUT_at (x : FVec Ideal S16384x2048 .f32) (s0 : FVec Ideal S8x4x128x128 .f32) (g : FVec Ideal S512 .f32) (b : Fin 8)
    (n : Fin 16) (i : Fin 128) (h : Fin 4) (e : Fin 128) :
    OUT x s0 g (ix2 (row b n i) ⟨h.val * 128 + e.val, by omega⟩) = gated x s0 g b n i h e := by
  have e0 : (⟨(row b n i).val / 2048, by omega⟩ : Fin 8) = b := Fin.ext (by show (b.val * 2048 + (n.val * 128 + i.val)) / 2048 = _; omega)
  have e1 : (⟨(row b n i).val % 2048 / 128, by omega⟩ : Fin 16) = n :=
    Fin.ext (by show (b.val * 2048 + (n.val * 128 + i.val)) % 2048 / 128 = _; omega)
  have e2 : (⟨(row b n i).val % 2048 % 128, by omega⟩ : Fin 128) = i :=
    Fin.ext (by show (b.val * 2048 + (n.val * 128 + i.val)) % 2048 % 128 = _; omega)
  have e3 : (⟨(h.val * 128 + e.val) / 128, by omega⟩ : Fin 4) = h := Fin.ext (by show (h.val * 128 + e.val) / 128 = _; omega)
  have e4 : (⟨(h.val * 128 + e.val) % 128, by omega⟩ : Fin 128) = e := Fin.ext (by show (h.val * 128 + e.val) % 128 = _; omega)
  show gated x s0 g ⟨(row b n i).val / 2048, _⟩ ⟨(row b n i).val % 2048 / 128, _⟩ ⟨(row b n i).val % 2048 % 128, _⟩
    ⟨(h.val * 128 + e.val) / 128, _⟩ ⟨(h.val * 128 + e.val) % 128, _⟩ = _
  rw [e0, e1, e2, e3, e4]

/-- The kernel's first result array. -/
theorem rows : (dats m 0 c).arrAt 12 (cfgs 0).N = OUT (aX m c) (aS m c) (aG m c) := by
  refine (dats m 0 c).arrAt_eq_of_covers 12 _ (by decide +kernel) fun t hf y => ?_
  have ht : t.val < 128 := lt_of_lt_of_eq t.isLt N_0
  obtain ⟨b, n, hbn⟩ : ∃ (b : Fin 8) (n : Fin 16), t.val = b.val * 16 + n.val :=
    ⟨⟨t.val / 16, by omega⟩, ⟨t.val % 16, by omega⟩, by show t.val = t.val / 16 * 16 + t.val % 16; omega⟩
  obtain ⟨i, l, rfl⟩ : ∃ (i : Fin 128) (l : Fin 512), y = ix2 i l := ⟨y 0, y 1, by blk_ext⟩
  obtain ⟨h, e, rfl⟩ : ∃ (h : Fin 4) (e : Fin 128), l = ⟨h.val * 128 + e.val, by omega⟩ :=
    ⟨⟨l.val / 128, by omega⟩, ⟨l.val % 128, by omega⟩, Fin.ext (by show l.val = l.val / 128 * 128 + l.val % 128; omega)⟩
  have e' : ((cfg0.win 12).blk t).view.emb (ix2 i ⟨h.val * 128 + e.val, by omega⟩)
      = (ix2 (row b n i) ⟨h.val * 128 + e.val, by omega⟩ : S16384x512.Idx) := by
    unfold row
    blk_ext [idx_at t]
  rw [e', OUT_at]
  blk_simp
  rw [after0_12]
  exact block_eq m c t b n hbn i h e

/-- The kernel's second result array. -/
theorem states : (dats m 0 c).arrAt 13 (cfgs 0).N = LAST (aX m c) (aS m c) := by
  refine (dats m 0 c).arrAt_eq_of_covers 13 _ (by decide +kernel) fun t hf y => ?_
  have ht : t.val < 128 := lt_of_lt_of_eq t.isLt N_0
  have h15 : t.val % 16 = 15 := (flush0_13 t).mp hf
  obtain ⟨b, hb⟩ : ∃ b : Fin 8, t.val = b.val * 16 + 15 := ⟨⟨t.val / 16, by omega⟩, by show t.val = t.val / 16 * 16 + 15; omega⟩
  obtain ⟨h, d, e, rfl⟩ : ∃ (h : Fin 4) (d e : Fin 128), y = ix4 0 h d e := ⟨y 1, y 2, y 3, by blk_ext⟩
  have e' : ((cfg0.win 13).blk t).view.emb (ix4 0 h d e) = (ix4 b h d e : S8x4x128x128.Idx) := by
    blk_ext [idx_at t]
  rw [e']
  blk_simp
  rw [after0_13]
  exact (last_state m c t h15 h d e).trans (after_eq m c 15 (by omega) t b hb h d e)

end Cert.KernelIdeal.Value

namespace Cert.Proof

open Cert.KernelIdeal.Value Cert.ReferenceIdeal.Retention in
/-- The retention kernel and its reference compute the same rows and the same last state. -/
theorem retention_algebraic : Cert.algebraic_KernelIdeal_ReferenceIdeal := by
  intro m g m' g' _ hagree
  refine ⟨fun c => OUT (aX m c) (aS m c) (aG m c), fun c => LAST (aX m c) (aS m c),
    (θ_run _ _ _).mono (fun _ h c => ⟨(h c).1.trans (rows m c), (h c).2.1.trans (states m c), (h c).2.2⟩)
      (Cert.KernelIdeal.Value.run_blocks (F := Ideal) m g), ?_⟩
  have hrun := Cert.ReferenceIdeal.StepRun.run_iter (F := Ideal) m' g'
    (fun c => refIter (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)))
    (fun c => rfl) (fun c n => rfl)
  refine (θ_run _ _ _).mono (fun _ h c => ⟨(h c).1.trans ?_, (h c).2.1.trans ?_, (h c).2.2⟩) hrun
  · rw [out_eq _ _ _ 16 rfl, (hagree c).1, (hagree c).2.1, (hagree c).2.2]
  · rw [last_eq, (hagree c).1, (hagree c).2.1]

end Cert.Proof

end
-- ==== Proof.FfnValue.lean ====
/-
  The feed-forward block's value: what the accumulating kernel leaves in its result, and why it is the reference's
  `x + relu(rms_norm(x) @ w_up)² @ w_down`.
-/
module

public import proofs.«01_k».proof.Proof.Gen.FfnIdeal.Value
public import proofs.«01_k».proof.Proof.Gen.FfnReferenceIdeal.Run
public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- Entry `l` of the normalised row `r`: the row divided by its root mean square, times the gain. -/
def hid (X : FVec Ideal S16384x1024 .f32) (n : FVec Ideal S1024 .f32) (r : Fin 16384) (l : Fin 1024) : EReal :=
  X (ix2 r l) * Ideal.rsqrt (Ideal.div (∑ x : Fin 1024, X (ix2 r x) * X (ix2 r x)) (Ideal.ofBits FTy.f32 1149239296#32)
    + Ideal.ofBits FTy.f32 897988541#32) * n (ix1 l)

/-- Hidden unit `u` of row `r` times its row of the second matrix, at column `q`. -/
def unitAt (X : FVec Ideal S16384x1024 .f32) (n : FVec Ideal S1024 .f32) (wu : FVec Ideal S1024x4096 .f32)
    (wd : FVec Ideal S4096x1024 .f32) (r : Fin 16384) (q : Fin 1024) (u : Fin 4096) : EReal :=
  max (∑ l : Fin 1024, hid X n r l * wu (ix2 l u)) 0 * max (∑ l : Fin 1024, hid X n r l * wu (ix2 l u)) 0 * wd (ix2 u q)

/-- The first store of a row block is the normalised block. -/
theorem pay1_at (X : Vec Ideal S1024x1024 .f32) (n : Vec Ideal S1x1024 .f32) (r l : Fin 1024) :
    k0_pay1 X n (ix2 r l) = X (ix2 r l) * Ideal.rsqrt (Ideal.div (∑ x : Fin 1024, X (ix2 r x) * X (ix2 r x))
      (Ideal.ofBits FTy.f32 1149239296#32) + Ideal.ofBits FTy.f32 897988541#32) * n (ix2 0 l) := by
  pointwise [k0_pay1]

/-- The accumulator starts at the row block itself. -/
theorem pay2_at (X : Vec Ideal S1024x1024 .f32) (r l : Fin 1024) : k0_pay2 X (ix2 r l) = X (ix2 r l) := by
  pointwise [k0_pay2]

/-- A step adds one tile of hidden units. -/
theorem pay3_at (h wu : Vec Ideal S1024x1024 .bf16) (a : Vec Ideal S1024x1024 .f32) (wd : Vec Ideal S1024x1024 .bf16)
    (r q : Fin 1024) : k0_pay3 h wu a wd (ix2 r q) = a (ix2 r q) + ∑ u : Fin 1024,
      max (∑ l : Fin 1024, h (ix2 r l) * wu (ix2 l u)) 0 * max (∑ l : Fin 1024, h (ix2 r l) * wu (ix2 l u)) 0
        * wd (ix2 u q) := by
  pointwise [k0_pay3]

/-- Which block each window shows at point `t`. -/
theorem idx_at : ∀ t : Fin cfg0.N, win0_0.index t = ![t.val / 4, 0] ∧ win0_1.index t = ![0, 0]
    ∧ win0_2.index t = ![0, t.val % 4] ∧ win0_3.index t = ![t.val % 4, 0] ∧ win0_4.index t = ![t.val / 4, 0] :=
  (by decide +kernel : ∀ t : Fin grid0.N, _)

/-- The rows. -/
abbrev aX (c : Dev nD) : FVec Ideal S16384x1024 .f32 := m ((c : Thread nD τ).loc main_arg0)
/-- The gain. -/
abbrev aN (c : Dev nD) : FVec Ideal S1024 .f32 := m ((c : Thread nD τ).loc main_arg1)
/-- The first matrix. -/
abbrev aU (c : Dev nD) : FVec Ideal S1024x4096 .f32 := m ((c : Thread nD τ).loc main_arg2)
/-- The second matrix. -/
abbrev aD (c : Dev nD) : FVec Ideal S4096x1024 .f32 := m ((c : Thread nD τ).loc main_arg3)

variable (c : Dev nD)

/-- The row block at point `t`. -/
theorem blk0 (t : Fin cfg0.N) (r : Fin 1024) (R : Fin 16384) (hR : (R : ℕ) = t.val / 4 * 1024 + r) (l : Fin 1024) :
    (iblk m c 0 t : FVec Ideal S1024x1024 .f32) (ix2 r l) = aX m c (ix2 R l) := by
  blk_point [iblk, V, idx_at t]

/-- The gain at point `t`. -/
theorem blk1 (t : Fin cfg0.N) (l : Fin 1024) : (iblk m c 1 t : FVec Ideal S1x1024 .f32) (ix2 0 l) = aN m c (ix1 l) := by
  blk_point [iblk, V, idx_at t]

/-- The tile of the first matrix at point `t`. -/
theorem blk2 (t : Fin cfg0.N) (l u : Fin 1024) (U : Fin 4096) (hU : (U : ℕ) = t.val % 4 * 1024 + u) :
    (iblk m c 2 t : FVec Ideal S1024x1024 .bf16) (ix2 l u) = aU m c (ix2 l U) := by
  blk_point [iblk, V, idx_at t]

/-- The tile of the second matrix at point `t`. -/
theorem blk3 (t : Fin cfg0.N) (u q : Fin 1024) (U : Fin 4096) (hU : (U : ℕ) = t.val % 4 * 1024 + u) :
    (iblk m c 3 t : FVec Ideal S1024x1024 .bf16) (ix2 u q) = aD m c (ix2 U q) := by
  blk_point [iblk, V, idx_at t]

/-- The carried hidden block at every point is the normalised row block. -/
theorem hid_eq : ∀ (k : ℕ) (t : Fin cfg0.N), t.val % 4 = k → ∀ (r : Fin 1024) (R : Fin 16384), (R : ℕ) = t.val / 4 * 1024 + r →
    ∀ l : Fin 1024, ((outsAt0 m c t.val t.isLt).2.1 : FVec Ideal S1024x1024 .bf16) (ix2 r l) = hid (aX m c) (aN m c) R l := by
  intro k
  induction k with
  | zero =>
    intro t ht r R hR l
    rw [outsAt0_A m c t ht (by omega)]
    frame_out
    rw [pay1_at, hid]
    simp only [blk0 m c t r R hR, blk1 m c t]
  | succ k ih =>
    intro t ht r R hR l
    have hl : t.val - 1 < cfg0.N := Nat.lt_of_le_of_lt (Nat.sub_le _ _) t.isLt
    have ih' := ih ⟨t.val - 1, hl⟩ (by show (t.val - 1) % 4 = k; omega) r R (by show (R : ℕ) = (t.val - 1) / 4 * 1024 + r; omega) l
    by_cases h3 : t.val % 4 = 3
    · rw [outsAt0_C m c t (by omega) h3]
      frame_out
      exact ih'
    · rw [outsAt0_B m c t (by omega) h3]
      frame_out
      exact ih'

/-- The tile `s` of hidden units a step adds. -/
def tileAt (s : Fin 4) (R : Fin 16384) (q : Fin 1024) : EReal :=
  ∑ u : Fin 1024, unitAt (aX m c) (aN m c) (aU m c) (aD m c) R q ⟨s.val * 1024 + u.val, by omega⟩

/-- A step's product, over the carried hidden block, is its tile. -/
theorem step_tile (t : Fin cfg0.N) (s : Fin 4) (hs : t.val % 4 = s.val) (h : Vec Ideal S1024x1024 .bf16) (r : Fin 1024)
    (R : Fin 16384) (hR : (R : ℕ) = t.val / 4 * 1024 + r) (hh : ∀ l : Fin 1024, h (ix2 r l) = hid (aX m c) (aN m c) R l)
    (a : Vec Ideal S1024x1024 .f32) (q : Fin 1024) :
    k0_pay3 h (iblk m c 2 t) a (iblk m c 3 t) (ix2 r q) = a (ix2 r q) + tileAt m c s R q := by
  rw [pay3_at, tileAt]
  refine congrArg (a (ix2 r q) + ·) (Finset.sum_congr rfl fun u _ => ?_)
  have e2 := fun l : Fin 1024 => blk2 m c t l u ⟨s.val * 1024 + u.val, by omega⟩ (by rw [hs])
  have e3 := blk3 m c t u q ⟨s.val * 1024 + u.val, by omega⟩ (by rw [hs])
  rw [unitAt]
  simp only [hh, e2, e3]

/-- The carried sum after the first point of a row block. -/
theorem acc_zero (t : Fin cfg0.N) (ht : t.val % 4 = 0) (r : Fin 1024) (R : Fin 16384)
    (hR : (R : ℕ) = t.val / 4 * 1024 + r) (q : Fin 1024) :
    ((outsAt0 m c t.val t.isLt).2.2 : FVec Ideal S1024x1024 .f32) (ix2 r q) = aX m c (ix2 R q) + tileAt m c 0 R q := by
  have hh := hid_eq m c 0 t ht r R hR
  rw [outsAt0_A m c t ht (by omega)] at hh ⊢
  frame_out at hh
  frame_out
  rw [step_tile m c t 0 ht _ r R hR hh, pay2_at, blk0 m c t r R hR]

/-- The carried sum after a later point. -/
theorem acc_succ (t : Fin cfg0.N) (s : Fin 4) (hs : t.val % 4 = s.val) (h0 : s.val ≠ 0) (r : Fin 1024) (R : Fin 16384)
    (hR : (R : ℕ) = t.val / 4 * 1024 + r) (q : Fin 1024) :
    ((outsAt0 m c t.val t.isLt).2.2 : FVec Ideal S1024x1024 .f32) (ix2 r q)
      = ((outsAt0 m c (t.val - 1) (Nat.lt_of_le_of_lt (Nat.sub_le _ _) t.isLt)).2.2 : FVec Ideal S1024x1024 .f32) (ix2 r q)
        + tileAt m c s R q := by
  have hl : t.val - 1 < cfg0.N := Nat.lt_of_le_of_lt (Nat.sub_le _ _) t.isLt
  have hh : ∀ l : Fin 1024, ((outsAt0 m c (t.val - 1) hl).2.1 : FVec Ideal S1024x1024 .bf16) (ix2 r l)
      = hid (aX m c) (aN m c) R l :=
    hid_eq m c (s.val - 1) ⟨t.val - 1, hl⟩ (by show (t.val - 1) % 4 = _; omega) r R
      (by show (R : ℕ) = (t.val - 1) / 4 * 1024 + r; omega)
  by_cases h3 : t.val % 4 = 3
  · rw [outsAt0_C m c t (by omega) h3]
    frame_out
    generalize outsAt0 m c (t.val - 1) hl = P at hh ⊢
    rw [read_unread_whole, read_unread_whole, step_tile m c t s hs _ r R hR hh]
  · rw [outsAt0_B m c t (by omega) h3]
    frame_out
    generalize outsAt0 m c (t.val - 1) hl = P at hh ⊢
    rw [read_unread_whole, read_unread_whole, step_tile m c t s hs _ r R hR hh]

/-- The block stored at the last point of a row block is the carried sum there. -/
theorem out_last (t : Fin cfg0.N) (h3 : t.val % 4 = 3) :
    ((outsAt0 m c t.val t.isLt).1 : FVec Ideal S1024x1024 .f32) = (outsAt0 m c t.val t.isLt).2.2 := by
  rw [outsAt0_C m c t (by omega) h3]
  frame_out

/-- The row block stored at the last point: the row plus all four tiles. -/
theorem out_at (t : Fin cfg0.N) (h3 : t.val % 4 = 3) (r : Fin 1024) (R : Fin 16384)
    (hR : (R : ℕ) = t.val / 4 * 1024 + r) (q : Fin 1024) :
    ((outsAt0 m c t.val t.isLt).1 : FVec Ideal S1024x1024 .f32) (ix2 r q)
      = aX m c (ix2 R q) + ∑ s : Fin 4, tileAt m c s R q := by
  have hl : ∀ d, t.val - d < cfg0.N := fun d => Nat.lt_of_le_of_lt (Nat.sub_le _ _) t.isLt
  rw [out_last m c t h3, acc_succ m c t 3 h3 (by decide) r R hR,
    acc_succ m c ⟨t.val - 1, hl 1⟩ 2 (by show (t.val - 1) % 4 = 2; omega) (by decide) r R
      (by show (R : ℕ) = (t.val - 1) / 4 * 1024 + r; omega),
    acc_succ m c ⟨t.val - 1 - 1, by have := hl 2; omega⟩ 1 (by show (t.val - 1 - 1) % 4 = 1; omega) (by decide) r R
      (by show (R : ℕ) = (t.val - 1 - 1) / 4 * 1024 + r; omega),
    acc_zero m c ⟨t.val - 1 - 1 - 1, by have := hl 3; omega⟩ (by show (t.val - 1 - 1 - 1) % 4 = 0; omega) r R
      (by show (R : ℕ) = (t.val - 1 - 1 - 1) / 4 * 1024 + r; omega), Fin.sum_univ_four]
  simp only [add_assoc]

/-- The feed-forward block's result: the row plus every hidden unit's share. -/
def RES (X : FVec Ideal S16384x1024 .f32) (n : FVec Ideal S1024 .f32) (U : FVec Ideal S1024x4096 .f32)
    (D : FVec Ideal S4096x1024 .f32) : FVec Ideal S16384x1024 .f32 :=
  fun i => X (ix2 (i 0) (i 1)) + ∑ u : Fin 4096, unitAt X n U D (i 0) (i 1) u

/-- The kernel's result array. -/
theorem final : (dats m 0 c).arrAt 4 (cfgs 0).N = RES (aX m c) (aN m c) (aU m c) (aD m c) := by
  refine (dats m 0 c).arrAt_eq_of_covers 4 _ (by decide +kernel) fun t hf y => ?_
  have ht : t.val < 64 := lt_of_lt_of_eq t.isLt N_0
  have h3 := (flush0_4 t).mp hf
  obtain ⟨r, q, rfl⟩ : ∃ r q : Fin 1024, y = ix2 r q := ⟨y 0, y 1, by blk_ext⟩
  obtain ⟨R, hR⟩ : ∃ R : Fin 16384, (R : ℕ) = t.val / 4 * 1024 + r := ⟨⟨t.val / 4 * 1024 + r, by omega⟩, rfl⟩
  have e : ((cfg0.win 4).blk t).view.emb (ix2 r q) = (ix2 R q : S16384x1024.Idx) := by
    blk_ext [idx_at t]
  rw [e]
  blk_simp
  rw [after0_4, out_at m c t h3 r R hR q]
  show _ = aX m c (ix2 R q) + ∑ u : Fin 4096, unitAt (aX m c) (aN m c) (aU m c) (aD m c) R q u
  rw [Fin.sum_univ_tiles 4 1024 rfl]
  rfl

end Cert.FfnIdeal.Value

namespace Cert.Proof

open Cert.FfnIdeal.Value in
/-- The feed-forward kernel and its reference compute the same array. -/
theorem ffn_algebraic : Cert.algebraic_FfnIdeal_FfnReferenceIdeal := by
  pair_intro
  · run_from Cert.FfnIdeal.Gen.run_main m g
  · run_from Cert.FfnReferenceIdeal.Value.run m' g'
    rw [final]
    funext i
    obtain ⟨r, q, rfl⟩ : ∃ (r : Fin 16384) (q : Fin 1024), i = ix2 r q := ⟨i 0, i 1, by blk_ext⟩
    show _ = aX m c (ix2 r q) + ∑ u : Fin 4096, unitAt (aX m c) (aN m c) (aU m c) (aD m c) r q u
    pointwise [unitAt, hid]

end Cert.Proof

end
-- ==== Proof.MergeValue.lean ====
/-
  The merge of the three branches: what each row block of the kernel's result holds, and why it is the reference's
  `x + (gate_a * (glu(y) @ wbs) + gate_b * (ob @ wbb) + gate_c * (oc @ wbr)) @ w_o`.
-/
module

public import proofs.«01_k».proof.Proof.Gen.MergeIdeal.Value
public import proofs.«01_k».proof.Proof.Gen.MergeReferenceIdeal.Run
public import Idealize.ShloMosaic.Lib.Pointwise
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- Entry `l` of the normalised row `r`: the row divided by its root mean square, times the gain. -/
def hid (X : FVec Ideal S16384x1024 .f32) (n : FVec Ideal S1024 .f32) (r : Fin 16384) (l : Fin 1024) : EReal :=
  X (ix2 r l) * Ideal.rsqrt (Ideal.div (∑ x : Fin 1024, X (ix2 r x) * X (ix2 r x)) (Ideal.ofBits FTy.f32 1149239296#32)
    + Ideal.ofBits FTy.f32 897988541#32) * n (ix1 l)

/-- Gate `j` of row `r`, of the three gates' joint matrix and bias. -/
def gate (X : FVec Ideal S16384x1024 .f32) (n : FVec Ideal S1024 .f32) (W : FVec Ideal S1024x3072 .f32)
    (b : FVec Ideal S3072 .f32) (r : Fin 16384) (j : Fin 3072) : EReal :=
  Ideal.logistic (∑ l : Fin 1024, hid X n r l * W (ix2 l j) + b (ix1 j))

/-- Column `k` of row `r` of the state-space branch, its four groups of 128 columns side by side. -/
def ssm (Y : FVec Ideal S4x16384x128 .f32) (r : Fin 16384) (k : Fin 512) : EReal :=
  Y (ix3 ⟨k.val / 128, by omega⟩ r ⟨k.val % 128, by omega⟩)

/-- Column `j` of row `r` of the gated linear unit's joint product. -/
def glu (Y : FVec Ideal S4x16384x128 .f32) (G : FVec Ideal S512x1024 .f32) (r : Fin 16384) (j : Fin 1024) : EReal :=
  ∑ k : Fin 512, ssm Y r k * G (ix2 k j)

/-- Column `j` of the merged row `r`. -/
def merged (X : FVec Ideal S16384x1024 .f32) (n : FVec Ideal S1024 .f32) (Y : FVec Ideal S4x16384x128 .f32)
    (ob oc : FVec Ideal S16384x512 .f32) (W : FVec Ideal S1024x3072 .f32) (b : FVec Ideal S3072 .f32)
    (G ws wb wr : FVec Ideal S512x1024 .f32) (r : Fin 16384) (j : Fin 1024) : EReal :=
  gate X n W b r ⟨j.val, by omega⟩
      * (∑ k : Fin 512, glu Y G r ⟨k.val, by omega⟩ * Ideal.logistic (glu Y G r ⟨512 + k.val, by omega⟩) * ws (ix2 k j))
    + gate X n W b r ⟨1024 + j.val, by omega⟩ * (∑ k : Fin 512, ob (ix2 r k) * wb (ix2 k j))
    + gate X n W b r ⟨2048 + j.val, by omega⟩ * (∑ k : Fin 512, oc (ix2 r k) * wr (ix2 k j))

/-- The merge's result. -/
def RES (X : FVec Ideal S16384x1024 .f32) (n : FVec Ideal S1024 .f32) (Y : FVec Ideal S4x16384x128 .f32)
    (ob oc : FVec Ideal S16384x512 .f32) (W : FVec Ideal S1024x3072 .f32) (b : FVec Ideal S3072 .f32)
    (G ws wb wr : FVec Ideal S512x1024 .f32) (wo : FVec Ideal S1024x1024 .f32) : FVec Ideal S16384x1024 .f32 :=
  fun i => X (ix2 (i 0) (i 1)) + ∑ j : Fin 1024, merged X n Y ob oc W b G ws wb wr (i 0) j * wo (ix2 j (i 1))

/-- The gates of a row block. -/
theorem pay2_at (X : Vec Ideal S256x1024 .f32) (n : Vec Ideal S1x1024 .f32) (W : Vec Ideal S1024x3072 .bf16)
    (b : Vec Ideal S1x3072 .f32) (r : Fin 256) (j : Fin 3072) : k0_pay2 X n W b (ix2 r j) =
      Ideal.logistic (∑ l : Fin 1024, X (ix2 r l) * Ideal.rsqrt (Ideal.div (∑ x : Fin 1024, X (ix2 r x) * X (ix2 r x))
        (Ideal.ofBits FTy.f32 1149239296#32) + Ideal.ofBits FTy.f32 897988541#32) * n (ix2 0 l) * W (ix2 l j)
        + b (ix2 0 j)) := by
  pointwise [k0_pay2]

/-- The four groups of columns of a row block side by side. -/
theorem pay3_at (B : Vec Ideal S4x256x128 .f32) (r : Fin 256) (k : Fin 512) :
    k0_pay3 (View.ld B r0_4) (View.ld B r0_5) (View.ld B r0_6) (View.ld B r0_7) (ix2 r k)
      = B (ix3 ⟨k.val / 128, by omega⟩ r ⟨k.val % 128, by omega⟩) := by
  pointwise [k0_pay3]
  blk_point []

/-- The stored row block, of its gates and its state-space columns. -/
theorem pay1_at (v0 v23 v33 v34 v43 v48 v50 v56 v58 v64) (r : Fin 256) (q : Fin 1024) :
    k0_pay1 (F := Ideal) v0 v23 v33 v34 v43 v48 v50 v56 v58 v64 (ix2 r q) = v0 (ix2 r q) + ∑ j : Fin 1024,
      (v23 (ix2 r ⟨j.val, by omega⟩) * (∑ k : Fin 512, (∑ x : Fin 512, v33 (ix2 r x) * v34 (ix2 x ⟨k.val, by omega⟩))
          * Ideal.logistic (∑ x : Fin 512, v33 (ix2 r x) * v34 (ix2 x ⟨512 + k.val, by omega⟩)) * v43 (ix2 k j))
        + v23 (ix2 r ⟨1024 + j.val, by omega⟩) * (∑ k : Fin 512, v48 (ix2 r k) * v50 (ix2 k j))
        + v23 (ix2 r ⟨2048 + j.val, by omega⟩) * (∑ k : Fin 512, v56 (ix2 r k) * v58 (ix2 k j))) * v64 (ix2 j q) := by
  pointwise [k0_pay1]

/-- Which block each window shows at point `t`. -/
theorem idx_at : ∀ t : Fin cfg0.N, win0_0.index t = ![t.val, 0] ∧ win0_1.index t = ![0, 0]
    ∧ win0_2.index t = ![0, t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val, 0] :=
  (by decide +kernel : ∀ t : Fin grid0.N, _)

/-- The rows. -/
abbrev aX (c : Dev nD) : FVec Ideal S16384x1024 .f32 := m ((c : Thread nD τ).loc main_arg0)
/-- The gain. -/
abbrev aN (c : Dev nD) : FVec Ideal S1024 .f32 := m ((c : Thread nD τ).loc main_arg1)
/-- The state-space branch. -/
abbrev aY (c : Dev nD) : FVec Ideal S4x16384x128 .f32 := m ((c : Thread nD τ).loc main_arg2)
/-- The attention branch. -/
abbrev aB (c : Dev nD) : FVec Ideal S16384x512 .f32 := m ((c : Thread nD τ).loc main_arg3)
/-- The retention branch. -/
abbrev aC (c : Dev nD) : FVec Ideal S16384x512 .f32 := m ((c : Thread nD τ).loc main_arg4)
/-- The gates' matrix. -/
abbrev aW (c : Dev nD) : FVec Ideal S1024x3072 .f32 := m ((c : Thread nD τ).loc main_arg5)
/-- The gates' bias. -/
abbrev ab (c : Dev nD) : FVec Ideal S3072 .f32 := m ((c : Thread nD τ).loc main_arg6)
/-- The gated linear unit's matrix. -/
abbrev aG (c : Dev nD) : FVec Ideal S512x1024 .f32 := m ((c : Thread nD τ).loc main_arg7)
/-- The state-space branch's matrix. -/
abbrev aS (c : Dev nD) : FVec Ideal S512x1024 .f32 := m ((c : Thread nD τ).loc main_arg8)
/-- The attention branch's matrix. -/
abbrev aE (c : Dev nD) : FVec Ideal S512x1024 .f32 := m ((c : Thread nD τ).loc main_arg9)
/-- The retention branch's matrix. -/
abbrev aR (c : Dev nD) : FVec Ideal S512x1024 .f32 := m ((c : Thread nD τ).loc main_arg10)
/-- The output matrix. -/
abbrev aO (c : Dev nD) : FVec Ideal S1024x1024 .f32 := m ((c : Thread nD τ).loc main_arg11)

variable (c : Dev nD)

section Blocks
variable (t : Fin cfg0.N) (r : Fin 256) (R : Fin 16384) (hR : (R : ℕ) = t.val * 256 + r)
include hR in
/-- Window 0 at point `t`. -/
theorem blk0 (l : Fin 1024) : (iblk m c 0 t : FVec Ideal S256x1024 .f32) (ix2 r l) = aX m c (ix2 R l) := by
  blk_point [iblk, V, idx_at t]

/-- Window 1 at point `t`. -/
theorem blk1 (l : Fin 1024) : (iblk m c 1 t : FVec Ideal S1x1024 .f32) (ix2 0 l) = aN m c (ix1 l) := by
  blk_point [iblk, V, idx_at t]
include hR in
/-- Window 2 at point `t`. -/
theorem blk2 (g : Fin 4) (l : Fin 128) : (iblk m c 2 t : FVec Ideal S4x256x128 .f32) (ix3 g r l) = aY m c (ix3 g R l) := by
  blk_point [iblk, V, idx_at t]
include hR in
/-- Window 3 at point `t`. -/
theorem blk3 (l : Fin 512) : (iblk m c 3 t : FVec Ideal S256x512 .f32) (ix2 r l) = aB m c (ix2 R l) := by
  blk_point [iblk, V, idx_at t]
include hR in
/-- Window 4 at point `t`. -/
theorem blk4 (l : Fin 512) : (iblk m c 4 t : FVec Ideal S256x512 .f32) (ix2 r l) = aC m c (ix2 R l) := by
  blk_point [iblk, V, idx_at t]

/-- Window 5 at point `t`. -/
theorem blk5 (l : Fin 1024) (j : Fin 3072) : (iblk m c 5 t : FVec Ideal S1024x3072 .bf16) (ix2 l j) = aW m c (ix2 l j) := by
  blk_point [iblk, V, idx_at t]

/-- Window 6 at point `t`. -/
theorem blk6 (l : Fin 3072) : (iblk m c 6 t : FVec Ideal S1x3072 .f32) (ix2 0 l) = ab m c (ix1 l) := by
  blk_point [iblk, V, idx_at t]

/-- Window 7 at point `t`. -/
theorem blk7 (l : Fin 512) (j : Fin 1024) : (iblk m c 7 t : FVec Ideal S512x1024 .bf16) (ix2 l j) = aG m c (ix2 l j) := by
  blk_point [iblk, V, idx_at t]

/-- Window 8 at point `t`. -/
theorem blk8 (l : Fin 512) (j : Fin 1024) : (iblk m c 8 t : FVec Ideal S512x1024 .bf16) (ix2 l j) = aS m c (ix2 l j) := by
  blk_point [iblk, V, idx_at t]

/-- Window 9 at point `t`. -/
theorem blk9 (l : Fin 512) (j : Fin 1024) : (iblk m c 9 t : FVec Ideal S512x1024 .bf16) (ix2 l j) = aE m c (ix2 l j) := by
  blk_point [iblk, V, idx_at t]

/-- Window 10 at point `t`. -/
theorem blk10 (l : Fin 512) (j : Fin 1024) : (iblk m c 10 t : FVec Ideal S512x1024 .bf16) (ix2 l j) = aR m c (ix2 l j) := by
  blk_point [iblk, V, idx_at t]

/-- Window 11 at point `t`. -/
theorem blk11 (l : Fin 1024) (j : Fin 1024) : (iblk m c 11 t : FVec Ideal S1024x1024 .bf16) (ix2 l j) = aO m c (ix2 l j) := by
  blk_point [iblk, V, idx_at t]

end Blocks

/-- The row block stored at point `t` is the result's. -/
theorem out_at (t : Fin cfg0.N) (r : Fin 256) (R : Fin 16384) (hR : (R : ℕ) = t.val * 256 + r) (q : Fin 1024) :
    (out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) : FVec Ideal S256x1024 .f32) (ix2 r q)
      = RES (aX m c) (aN m c) (aY m c) (aB m c) (aC m c) (aW m c) (ab m c) (aG m c) (aS m c) (aE m c) (aR m c) (aO m c)
        (ix2 R q) := by
  frame_out
  rw [pay1_at]
  show _ = aX m c (ix2 R q) + ∑ j : Fin 1024, merged (aX m c) (aN m c) (aY m c) (aB m c) (aC m c) (aW m c) (ab m c)
    (aG m c) (aS m c) (aE m c) (aR m c) R j * aO m c (ix2 j q)
  simp only [merged, gate, glu, ssm, hid, pay2_at, pay3_at, blk0 m c t r R hR, blk1 m c t, blk2 m c t r R hR,
    blk3 m c t r R hR, blk4 m c t r R hR, blk5 m c t, blk6 m c t, blk7 m c t, blk8 m c t, blk9 m c t, blk10 m c t,
    blk11 m c t]

/-- The kernel's result array. -/
theorem final : (dats m 0 c).arrAt 12 (cfgs 0).N = RES (aX m c) (aN m c) (aY m c) (aB m c) (aC m c) (aW m c) (ab m c)
    (aG m c) (aS m c) (aE m c) (aR m c) (aO m c) := by
  refine (dats m 0 c).arrAt_eq_of_covers 12 _ (by decide +kernel) fun t hf y => ?_
  have ht : t.val < 64 := lt_of_lt_of_eq t.isLt N_0
  obtain ⟨r, q, rfl⟩ : ∃ (r : Fin 256) (q : Fin 1024), y = ix2 r q := ⟨y 0, y 1, by blk_ext⟩
  obtain ⟨R, hR⟩ : ∃ R : Fin 16384, (R : ℕ) = t.val * 256 + r := ⟨⟨t.val * 256 + r, by omega⟩, rfl⟩
  have e : ((cfg0.win 12).blk t).view.emb (ix2 r q) = (ix2 R q : S16384x1024.Idx) := by
    blk_ext [idx_at t]
  rw [e]
  blk_simp
  rw [after0_12]
  exact out_at m c t r R hR q

end Cert.MergeIdeal.Value

namespace Cert.Proof

open Cert.MergeIdeal.Value in
/-- The merge kernel and its reference compute the same array. -/
theorem merge_algebraic : Cert.algebraic_MergeIdeal_MergeReferenceIdeal := by
  pair_intro
  · run_from Cert.MergeIdeal.Gen.run_main m g
  · run_from Cert.MergeReferenceIdeal.Value.run m' g'
    rw [final, Cert.MergeReferenceIdeal.Value.res_main_v47]
    obtain ⟨e0, e1, e2, e3, e4, e5, e6, e7, e8, e9, e10, e11⟩ := hagree c
    rw [e0, e1, e2, e3, e4, e5, e6, e7, e8, e9, e10, e11]
    funext i
    obtain ⟨r, q, rfl⟩ : ∃ (r : Fin 16384) (q : Fin 1024), i = ix2 r q := ⟨i 0, i 1, by blk_ext⟩
    show _ = aX m c (ix2 r q) + ∑ j : Fin 1024, merged (aX m c) (aN m c) (aY m c) (aB m c) (aC m c) (aW m c) (ab m c)
      (aG m c) (aS m c) (aE m c) (aR m c) r j * aO m c (ix2 j q)
    pointwise [merged, gate, glu, ssm, hid, Ideal.logistic]

end Cert.Proof

end
-- ==== Proof.InProjIdealRun.lean ====
module

public import proofs.«01_k».proof.Proof.Gen.InProjIdeal.Frame
public import proofs.«01_k».proof.Proof.Gen.InProjIdeal.Skeleton
public import Idealize.ShloMosaic.Lib.VecWindow

@[expose] public section

set_option maxRecDepth 16384

noncomputable section

namespace Cert.InProjIdeal.Kernel

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 1 (mod 4) — by arithmetic of the point. -/
theorem hcond0_2 : ∀ t : Fin cfg0.N, cond0_2 (grid0.coords t) ↔ t.val % 4 = 1 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 1)

/-- The condition of the body's `scf.if` 3 (`k0_h4`), from the grid coordinates (the skeleton's scalar
    chain substituted). -/
abbrev cond0_3 (i : grid0.Coords) : Prop := k0_cond4 i = 1#1
/-- It holds at the points whose coordinates have 2 ≤ i1 — decided over the grid. -/
theorem hcond0_3 : ∀ t : Fin cfg0.N, cond0_3 (grid0.coords t) ↔ 2 ≤ t.val % 4 :=
  (by decide +kernel : ∀ t : Fin grid0.N, cond0_3 (grid0.coords t) ↔ 2 ≤ t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x1024 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The four groups of 128 columns of one 512-column product, one under the other: what four stores leave. -/
def uBlock (p : FVec F S1024x1024 .f32) : Vec F S4x1024x128 .f32 :=
  View.canon (Val := Elt F)
    [⟨Rect.unit ![3, 0, 0] S1x1024x128.size inb_S4x1024x128_S1x1024x128_3_0_0, k0_pay9 p⟩,
     ⟨Rect.unit ![2, 0, 0] S1x1024x128.size inb_S4x1024x128_S1x1024x128_2_0_0, k0_pay8 p⟩,
     ⟨Rect.unit ![1, 0, 0] S1x1024x128.size inb_S4x1024x128_S1x1024x128_1_0_0, k0_pay7 p⟩,
     ⟨Rect.unit ![0, 0, 0] S1x1024x128.size inb_S4x1024x128_S1x1024x128_0_0_0, k0_pay6 p⟩]

/-- A load of a whole buffer reads what it holds. -/
theorem load_whole {s : Shape} {e : EltTy} (m : Memref sig .tc .vmem s e) (h : m.IsWhole) (x : Vec F s e)
    {off : Fin s.rank → ℕ} (inb : ∀ a, off a + s.size a ≤ s.size a) :
    m.view.readAt (Elt F) (Rect.unit off s.size inb).toLoadRect (h.unread x) = x := by
  rw [View.readAt_full, h.read_unread]

theorem pay1_congr {a a' : Vec F S1024x1024 .f32} {b b' : Vec F S1x1024 .f32} (ha : a = a') (hb : b = b') :
    k0_pay1 a b = k0_pay1 a' b' := by rw [ha, hb]

theorem pay2_congr {a a' b b' : Vec F S1024x1024 .bf16} (ha : a = a') (hb : b = b') :
    k0_pay2 a b = k0_pay2 a' b' := by rw [ha, hb]

theorem pay4_congr {a a' b b' : Vec F S1024x1024 .bf16} {d d' e e' : Vec F S512x512 .bf16} {g g' : Vec F S1x512 .f32}
    (ha : a = a') (hb : b = b') (hd : d = d') (he : e = e') (hg : g = g') :
    k0_pay4 a b d e g = k0_pay4 a' b' d' e' g' := by rw [ha, hb, hd, he, hg]

theorem pay5_congr {a a' b b' : Vec F S1024x1024 .bf16} (ha : a = a') (hb : b = b') :
    k0_pay5 a b = k0_pay5 a' b' := by rw [ha, hb]

theorem pay10_congr {a a' : Vec F S1024x1024 .f32} {d d' e e' : Vec F S512x512 .bf16}
    (ha : a = a') (hd : d = d') (he : e = e') : k0_pay10 a d e = k0_pay10 a' d' e' := by rw [ha, hd, he]

theorem pay3_congr {a a' : FVec F S1024x512 .f32} {b b' : FVec F S1x512 .f32} (ha : a = a') (hb : b = b') :
    k0_pay3 a b = k0_pay3 a' b' := by rw [ha, hb]

theorem pay11_congr {a a' : Vec F S1x512 .f32} (ha : a = a') : k0_pay11 a = k0_pay11 a' := by rw [ha]

/-- The four stores of the attention inputs leave `uBlock`. -/
theorem read_four (m : Memref sig .tc .vmem S4x1024x128 .f32) (f : m.view.ty.Contents (Elt F)) (p : FVec F S1024x1024 .f32) :
    m.view.read (Elt F) (m.view.writes (Elt F) f
      [⟨Rect.unit ![3, 0, 0] S1x1024x128.size inb_S4x1024x128_S1x1024x128_3_0_0, k0_pay9 p⟩,
       ⟨Rect.unit ![2, 0, 0] S1x1024x128.size inb_S4x1024x128_S1x1024x128_2_0_0, k0_pay8 p⟩,
       ⟨Rect.unit ![1, 0, 0] S1x1024x128.size inb_S4x1024x128_S1x1024x128_1_0_0, k0_pay7 p⟩,
       ⟨Rect.unit ![0, 0, 0] S1x1024x128.size inb_S4x1024x128_S1x1024x128_0_0_0, k0_pay6 p⟩]) = uBlock p := by
  exact View.read_writes_eq_canon (Val := Elt F) _ _ _ (View.cover_of_tiledL _ S1x1024x128.size (by sl_kernel_rfl))

set_option maxHeartbeats 1000000 in
/-- A row block meets its first column block: its rows are normed into the scratch, and the attention inputs and the local query are written. -/
theorem runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg10 : Memref sig .tc .vmem S4x1024x128 .f32) (harg10 : arg10.IsWhole) (arg11 : Memref sig .tc .vmem S1024x512 .f32) (harg11 : arg11.IsWhole) (arg12 : Memref sig .tc .vmem S1x1024x512 .f32) (harg12 : arg12.IsWhole) (arg13 : Memref sig .tc .vmem S1x1024x512 .f32) (harg13 : arg13.IsWhole) (arg14 : Memref sig .tc .vmem S1024x1024 .f32) (harg14 : arg14.IsWhole) (arg15 : Memref sig .tc .vmem S1024x1024 .bf16) (harg15 : arg15.IsWhole) (hc0 : cond0_0 i) (hc1 : cond0_1 i) (hc2 : ¬cond0_2 i) (hc3 : ¬cond0_3 i)
    (x0 : Vec F S1024x1024 .f32) (x1 : Vec F S1x1024 .f32) (x2 : Vec F S1024x1024 .bf16) (x3 : Vec F S1x512 .f32) (x4 : Vec F S1x512 .f32) (x5 : Vec F S512x512 .bf16) (y12 : Vec F S1x1024x512 .f32) (y13 : Vec F S1x1024x512 .f32) (y14 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg10 fullShare d) ∗ (∃ d, owns (c : Thread nD τ) arg11 fullShare d) ∗ owns (c : Thread nD τ) arg12 fullShare y12 ∗ owns (c : Thread nD τ) arg13 fullShare y13 ∗ owns (c : Thread nD τ) arg14 fullShare y14 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (uBlock (k0_pay2 (k0_pay1 x0 x1) x2)) ∗ owns (c : Thread nD τ) arg11 fullShare (k0_pay3 (k0_pay10 (k0_pay2 (k0_pay1 x0 x1) x2) x5 x5) (k0_pay11 x3)) ∗ owns (c : Thread nD τ) arg12 fullShare y12 ∗ owns (c : Thread nD τ) arg13 fullShare y13 ∗ owns (c : Thread nD τ) arg14 fullShare y14 ∗ owns (c : Thread nD τ) arg15 fullShare (k0_pay1 x0 x1)) -∗ K ⟨⟩))
      ⊢ wp frame (wpE (defs₀ (F := F)) Variants.none c none) E (cc0_in_proj i arg2 harg2 arg3 harg3 arg4 harg4 arg5 harg5 arg6 harg6 arg7 harg7 (Memref.whole main_arg5) (Memref.isWhole_whole _) (Memref.whole main_arg6) (Memref.isWhole_whole _) arg10 harg10 arg11 harg11 arg12 harg12 arg13 harg13 arg14 harg14 arg15 harg15) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hf8; obtain rfl := harg13.eq_unread hf9; obtain rfl := harg14.eq_unread hf10
  sl_exec (disch := first | sl_exact hc0 | sl_exact hc1 | sl_exact hc2 | sl_exact hc3)
  have hv3 : runA.sl.v3 c arg2 harg2 arg3 harg3 arg15 x0 x1 = k0_pay1 x0 x1 :=
    (View.readCov_full _ _ _ _ []).trans (pay1_congr (load_whole _ _ _ _) (load_whole _ _ _ _))
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact (congrArg (fun q => arg10.view.read (Elt F) (arg10.view.writes (Elt F) f6
            [⟨Rect.unit ![3, 0, 0] S1x1024x128.size inb_S4x1024x128_S1x1024x128_3_0_0, k0_pay9 q⟩,
             ⟨Rect.unit ![2, 0, 0] S1x1024x128.size inb_S4x1024x128_S1x1024x128_2_0_0, k0_pay8 q⟩,
             ⟨Rect.unit ![1, 0, 0] S1x1024x128.size inb_S4x1024x128_S1x1024x128_1_0_0, k0_pay7 q⟩,
             ⟨Rect.unit ![0, 0, 0] S1x1024x128.size inb_S4x1024x128_S1x1024x128_0_0_0, k0_pay6 q⟩]))
          (pay2_congr hv3 (load_whole _ _ _ _))).trans (read_four _ _ _)
  isplitl [H7]
  · iexists _; isplitr; swap; · iexact H7
    ipureintro
    exact (View.read_writes_full _ _ _ _ []).trans (pay3_congr
          (pay10_congr (pay2_congr hv3 (load_whole _ _ _ _)) (load_whole _ _ _ _) (load_whole _ _ _ _))
          (pay11_congr (load_whole _ _ _ _)))
  isplitl [H8]
  · iexists _; isplitr; · ipureintro; exact harg12.read_unread _
    iexact H8
  isplitl [H9]
  · iexists _; isplitr; · ipureintro; exact harg13.read_unread _
    iexact H9
  isplitl [H10]
  · iexists _; isplitr; · ipureintro; exact harg14.read_unread _
    iexact H10
  iexists _; isplitr; swap; · iexact H11
  ipureintro
  exact (View.read_writes_full _ _ _ _ []).trans (pay1_congr (load_whole _ _ _ _) (load_whole _ _ _ _))
set_option maxHeartbeats 1000000 in
/-- The second column block: the local key and value are written from the scratch. -/
theorem runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg10 : Memref sig .tc .vmem S4x1024x128 .f32) (harg10 : arg10.IsWhole) (arg11 : Memref sig .tc .vmem S1024x512 .f32) (harg11 : arg11.IsWhole) (arg12 : Memref sig .tc .vmem S1x1024x512 .f32) (harg12 : arg12.IsWhole) (arg13 : Memref sig .tc .vmem S1x1024x512 .f32) (harg13 : arg13.IsWhole) (arg14 : Memref sig .tc .vmem S1024x1024 .f32) (harg14 : arg14.IsWhole) (arg15 : Memref sig .tc .vmem S1024x1024 .bf16) (harg15 : arg15.IsWhole) (hc0 : ¬cond0_0 i) (hc1 : ¬cond0_1 i) (hc2 : cond0_2 i) (hc3 : ¬cond0_3 i)
    (x0 : Vec F S1024x1024 .f32) (x1 : Vec F S1x1024 .f32) (x2 : Vec F S1024x1024 .bf16) (x3 : Vec F S1x512 .f32) (x4 : Vec F S1x512 .f32) (x5 : Vec F S512x512 .bf16) (y10 : Vec F S4x1024x128 .f32) (y11 : Vec F S1024x512 .f32) (y14 : Vec F S1024x1024 .f32) (y15 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare y10 ∗ owns (c : Thread nD τ) arg11 fullShare y11 ∗ (∃ d, owns (c : Thread nD τ) arg12 fullShare d) ∗ (∃ d, owns (c : Thread nD τ) arg13 fullShare d) ∗ owns (c : Thread nD τ) arg14 fullShare y14 ∗ owns (c : Thread nD τ) arg15 fullShare y15
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare y10 ∗ owns (c : Thread nD τ) arg11 fullShare y11 ∗ owns (c : Thread nD τ) arg12 fullShare (k0_pay4 y15 x2 x5 x5 x4) ∗ owns (c : Thread nD τ) arg13 fullShare (k0_pay5 y15 x2) ∗ owns (c : Thread nD τ) arg14 fullShare y14 ∗ owns (c : Thread nD τ) arg15 fullShare y15) -∗ K ⟨⟩))
      ⊢ wp frame (wpE (defs₀ (F := F)) Variants.none c none) E (cc0_in_proj i arg2 harg2 arg3 harg3 arg4 harg4 arg5 harg5 arg6 harg6 arg7 harg7 (Memref.whole main_arg5) (Memref.isWhole_whole _) (Memref.whole main_arg6) (Memref.isWhole_whole _) arg10 harg10 arg11 harg11 arg12 harg12 arg13 harg13 arg14 harg14 arg15 harg15) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf6; obtain rfl := harg11.eq_unread hf7; obtain rfl := harg14.eq_unread hf10; obtain rfl := harg15.eq_unread hf11
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; swap; · iexact H8
    ipureintro
    exact (View.read_writes_full _ _ _ _ []).trans (pay4_congr (load_whole _ _ _ _) (load_whole _ _ _ _)
          (load_whole _ _ _ _) (load_whole _ _ _ _) (load_whole _ _ _ _))
  isplitl [H9]
  · iexists _; isplitr; swap; · iexact H9
    ipureintro
    exact (View.read_writes_full _ _ _ _ []).trans (pay5_congr (load_whole _ _ _ _) (load_whole _ _ _ _))
  isplitl [H10]
  · iexists _; isplitr; · ipureintro; exact harg14.read_unread _
    iexact H10
  iexists _; isplitr; · ipureintro; exact harg15.read_unread _
  iexact H11
set_option maxHeartbeats 1000000 in
/-- The last two column blocks: the retention inputs are written from the scratch. -/
theorem runC (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg10 : Memref sig .tc .vmem S4x1024x128 .f32) (harg10 : arg10.IsWhole) (arg11 : Memref sig .tc .vmem S1024x512 .f32) (harg11 : arg11.IsWhole) (arg12 : Memref sig .tc .vmem S1x1024x512 .f32) (harg12 : arg12.IsWhole) (arg13 : Memref sig .tc .vmem S1x1024x512 .f32) (harg13 : arg13.IsWhole) (arg14 : Memref sig .tc .vmem S1024x1024 .f32) (harg14 : arg14.IsWhole) (arg15 : Memref sig .tc .vmem S1024x1024 .bf16) (harg15 : arg15.IsWhole) (hc0 : ¬cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1x512 .f32) (x4 : Vec F S1x512 .f32) (x5 : Vec F S512x512 .bf16) (y10 : Vec F S4x1024x128 .f32) (y11 : Vec F S1024x512 .f32) (y12 : Vec F S1x1024x512 .f32) (y13 : Vec F S1x1024x512 .f32) (y15 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare y10 ∗ owns (c : Thread nD τ) arg11 fullShare y11 ∗ owns (c : Thread nD τ) arg12 fullShare y12 ∗ owns (c : Thread nD τ) arg13 fullShare y13 ∗ (∃ d, owns (c : Thread nD τ) arg14 fullShare d) ∗ owns (c : Thread nD τ) arg15 fullShare y15
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare (k0_pay2 y15 x2) ∗ owns (c : Thread nD τ) arg15 fullShare y15) -∗ K ⟨⟩))
      ⊢ wp frame (wpE (defs₀ (F := F)) Variants.none c none) E (cc0_in_proj i arg2 harg2 arg3 harg3 arg4 harg4 arg5 harg5 arg6 harg6 arg7 harg7 (Memref.whole main_arg5) (Memref.isWhole_whole _) (Memref.whole main_arg6) (Memref.isWhole_whole _) arg10 harg10 arg11 harg11 arg12 harg12 arg13 harg13 arg14 harg14 arg15 harg15) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf6; obtain rfl := harg11.eq_unread hf7; obtain rfl := harg12.eq_unread hf8; obtain rfl := harg13.eq_unread hf9; obtain rfl := harg15.eq_unread hf11
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; · ipureintro; exact harg12.read_unread _
    iexact H8
  isplitl [H9]
  · iexists _; isplitr; · ipureintro; exact harg13.read_unread _
    iexact H9
  isplitl [H10]
  · iexists _; isplitr; swap; · iexact H10
    ipureintro
    exact (View.read_writes_full _ _ _ _ []).trans (pay2_congr (load_whole _ _ _ _) (load_whole _ _ _ _))
  iexists _; isplitr; · ipureintro; exact harg15.read_unread _
  iexact H11

end Cert.InProjIdeal.Kernel

end
-- ==== Proof.InProjIdealFrame.lean ====
module

public import proofs.«01_k».proof.Proof.InProjIdealRun
public import Idealize.ShloMosaic.Lib.Pipeline.TableIdle
public import Idealize.ShloMosaic.Lib.Claim

@[expose] public section

set_option maxRecDepth 16384

noncomputable section

namespace Cert.InProjIdeal.Kernel

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The first point of the row block of point `t`. -/
def bp (t : Fin cfg0.N) : Fin cfg0.N := ⟨4 * (t.val / 4), by have := t.isLt; omega⟩
/-- The second point of the row block of point `t`. -/
def bp1 (t : Fin cfg0.N) : Fin cfg0.N :=
  ⟨4 * (t.val / 4) + 1, by have h : t.val < 64 := lt_of_lt_of_eq t.isLt N_0; have e : cfg0.N = 64 := N_0; omega⟩

theorem bp_zero (t : Fin cfg0.N) (h : t.val % 4 = 0) : bp t = t := Fin.ext (by show 4 * (t.val / 4) = t.val; omega)
theorem bp1_one (t : Fin cfg0.N) (h : t.val % 4 = 1) : bp1 t = t := Fin.ext (by show 4 * (t.val / 4) + 1 = t.val; omega)
theorem bp_pred (t : Fin cfg0.N) (h : t.val % 4 ≠ 0) : bp ⟨t.val - 1, by have := t.isLt; omega⟩ = bp t :=
  Fin.ext (by show 4 * ((t.val - 1) / 4) = 4 * (t.val / 4); omega)
theorem bp1_pred (t : Fin cfg0.N) (h : t.val % 4 ≠ 0) : bp1 ⟨t.val - 1, by have := t.isLt; omega⟩ = bp1 t :=
  Fin.ext (by show 4 * ((t.val - 1) / 4) + 1 = 4 * (t.val / 4) + 1; omega)

/-- The normed rows, from the blocks at point `b`. -/
def hB (c : Dev nD) (b : Fin cfg0.N) : Vec F S1024x1024 .bf16 := k0_pay1 (iblk m c 0 b) (iblk m c 1 b)
/-- The first column block's product. -/
def pB (c : Dev nD) (b : Fin cfg0.N) : FVec F S1024x1024 .f32 := k0_pay2 (hB m c b) (iblk m c 2 b)
/-- The attention inputs of a row block. -/
def out6 (c : Dev nD) (b : Fin cfg0.N) : Vec F S4x1024x128 .f32 := uBlock (pB m c b)
/-- The local query of a row block. -/
def out7 (c : Dev nD) (b : Fin cfg0.N) : Vec F S1024x512 .f32 :=
  k0_pay3 (k0_pay10 (pB m c b) (iblk m c 5 b) (iblk m c 5 b)) (k0_pay11 (iblk m c 3 b))
/-- The local key of a row block. -/
def out8 (c : Dev nD) (b b1 : Fin cfg0.N) : Vec F S1x1024x512 .f32 :=
  k0_pay4 (hB m c b) (iblk m c 2 b1) (iblk m c 5 b1) (iblk m c 5 b1) (iblk m c 4 b1)
/-- The local value of a row block. -/
def out9 (c : Dev nD) (b b1 : Fin cfg0.N) : Vec F S1x1024x512 .f32 := k0_pay5 (hB m c b) (iblk m c 2 b1)
/-- One column block of the retention inputs. -/
def out10 (c : Dev nD) (b t : Fin cfg0.N) : Vec F S1024x1024 .f32 := k0_pay2 (hB m c b) (iblk m c 2 t)

/-- The invariant before point `n`: the scratch at anything, then at the normed rows of the last point's row block. -/
def PhiS (c : Dev nD) : (n : ℕ) → n ≤ cfg0.N → sProp 𝕄
  | 0, _ => Pipeline.ΦA spec0 c
  | n + 1, hn => iprop(iprop(owns (c : Thread nD τ) scM0_0 fullShare (hB m c (bp ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn
    = iprop(iprop(owns (c : Thread nD τ) scM0_0 fullShare (hB m c (bp ⟨n, hn⟩))) ∗ (∃ r, prngReg c r)) := rfl

theorem PhiS_pos (c : Dev nD) (n : ℕ) (h : n ≤ cfg0.N) (hz : n ≠ 0) : PhiS m c n h
    = iprop(iprop(owns (c : Thread nD τ) scM0_0 fullShare (hB m c (bp ⟨n - 1, by omega⟩))) ∗ (∃ r, prngReg c r)) := by
  cases n with
  | zero => exact absurd rfl hz
  | succ n => rfl

/-- The proof data: each input's buffer at its block, each output's at what its row block's points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c (bp t)
    | ⟨7, _⟩ => out7 m c (bp t)
    | ⟨8, _⟩ => out8 m c (bp t) (bp1 t)
    | ⟨9, _⟩ => out9 m c (bp t) (bp1 t)
    | ⟨10, _⟩ => out10 m c (bp t) t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c (bp t) := by dsimp only [dats]
theorem after0_7 (c : Dev nD) (t : Fin cfg0.N) : (dats m 0 c).after 7 t = out7 m c (bp t) := by dsimp only [dats]
theorem after0_8 (c : Dev nD) (t : Fin cfg0.N) : (dats m 0 c).after 8 t = out8 m c (bp t) (bp1 t) := by dsimp only [dats]
theorem after0_9 (c : Dev nD) (t : Fin cfg0.N) : (dats m 0 c).after 9 t = out9 m c (bp t) (bp1 t) := by dsimp only [dats]
theorem after0_10 (c : Dev nD) (t : Fin cfg0.N) : (dats m 0 c).after 10 t = out10 m c (bp t) t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Where the outputs are left alone -/

theorem idle_6 (t : Fin cfg0.N) (h : ¬cond0_1 (grid0.coords t)) : cfg0.idle 6 (cfg0.grid.coords t) = true := by
  show (!(k0_cond2 (grid0.coords t) == 1#1)) = true
  rw [Bool.not_eq_true', beq_eq_false_iff_ne]; exact h
theorem busy_6 (t : Fin cfg0.N) (h : cond0_1 (grid0.coords t)) : cfg0.idle 6 (cfg0.grid.coords t) = false := by
  show (!(k0_cond2 (grid0.coords t) == 1#1)) = false
  rw [Bool.not_eq_false', beq_iff_eq]; exact h
theorem cond_of_6 (t : Fin cfg0.N) (h : cfg0.idle 6 (cfg0.grid.coords t) = true) : ¬cond0_1 (grid0.coords t) :=
  fun hc => Bool.false_ne_true ((busy_6 t hc).symm.trans h)
theorem idle_7 (t : Fin cfg0.N) (h : ¬cond0_1 (grid0.coords t)) : cfg0.idle 7 (cfg0.grid.coords t) = true := by
  show (!(k0_cond2 (grid0.coords t) == 1#1)) = true
  rw [Bool.not_eq_true', beq_eq_false_iff_ne]; exact h
theorem busy_7 (t : Fin cfg0.N) (h : cond0_1 (grid0.coords t)) : cfg0.idle 7 (cfg0.grid.coords t) = false := by
  show (!(k0_cond2 (grid0.coords t) == 1#1)) = false
  rw [Bool.not_eq_false', beq_iff_eq]; exact h
theorem cond_of_7 (t : Fin cfg0.N) (h : cfg0.idle 7 (cfg0.grid.coords t) = true) : ¬cond0_1 (grid0.coords t) :=
  fun hc => Bool.false_ne_true ((busy_7 t hc).symm.trans h)
theorem idle_8 (t : Fin cfg0.N) (h : ¬cond0_2 (grid0.coords t)) : cfg0.idle 8 (cfg0.grid.coords t) = true := by
  show (!(k0_cond3 (grid0.coords t) == 1#1)) = true
  rw [Bool.not_eq_true', beq_eq_false_iff_ne]; exact h
theorem busy_8 (t : Fin cfg0.N) (h : cond0_2 (grid0.coords t)) : cfg0.idle 8 (cfg0.grid.coords t) = false := by
  show (!(k0_cond3 (grid0.coords t) == 1#1)) = false
  rw [Bool.not_eq_false', beq_iff_eq]; exact h
theorem cond_of_8 (t : Fin cfg0.N) (h : cfg0.idle 8 (cfg0.grid.coords t) = true) : ¬cond0_2 (grid0.coords t) :=
  fun hc => Bool.false_ne_true ((busy_8 t hc).symm.trans h)
theorem idle_9 (t : Fin cfg0.N) (h : ¬cond0_2 (grid0.coords t)) : cfg0.idle 9 (cfg0.grid.coords t) = true := by
  show (!(k0_cond3 (grid0.coords t) == 1#1)) = true
  rw [Bool.not_eq_true', beq_eq_false_iff_ne]; exact h
theorem busy_9 (t : Fin cfg0.N) (h : cond0_2 (grid0.coords t)) : cfg0.idle 9 (cfg0.grid.coords t) = false := by
  show (!(k0_cond3 (grid0.coords t) == 1#1)) = false
  rw [Bool.not_eq_false', beq_iff_eq]; exact h
theorem cond_of_9 (t : Fin cfg0.N) (h : cfg0.idle 9 (cfg0.grid.coords t) = true) : ¬cond0_2 (grid0.coords t) :=
  fun hc => Bool.false_ne_true ((busy_9 t hc).symm.trans h)
theorem idle_10 (t : Fin cfg0.N) (h : ¬cond0_3 (grid0.coords t)) : cfg0.idle 10 (cfg0.grid.coords t) = true := by
  show (!(k0_cond4 (grid0.coords t) == 1#1)) = true
  rw [Bool.not_eq_true', beq_eq_false_iff_ne]; exact h
theorem busy_10 (t : Fin cfg0.N) (h : cond0_3 (grid0.coords t)) : cfg0.idle 10 (cfg0.grid.coords t) = false := by
  show (!(k0_cond4 (grid0.coords t) == 1#1)) = false
  rw [Bool.not_eq_false', beq_iff_eq]; exact h
theorem cond_of_10 (t : Fin cfg0.N) (h : cfg0.idle 10 (cfg0.grid.coords t) = true) : ¬cond0_3 (grid0.coords t) :=
  fun hc => Bool.false_ne_true ((busy_10 t hc).symm.trans h)

/-- Window 10 is not written back at the first two points of a row block. -/
theorem noFlush_10 : ∀ t : Fin cfg0.N, t.val % 4 < 2 → (cfg0.win 10).flush t = false :=
  (by decide +kernel : ∀ t : Fin grid0.N, t.val % 4 < 2 → win0_10.flush t = false)

theorem fresh_step_6 (n : ℕ) (h : n < cfg0.N) (hj : n % 4 = 0) : cfg0.fresh 6 (n + 1) = false := by
  rw [Pipeline.Cfg.fresh_succ cfg0 6 n h, busy_6 ⟨n, h⟩ ((hcond0_1 ⟨n, h⟩).mpr hj), Bool.false_and, Bool.or_false]
  exact Bool.not_eq_true _ |>.mp fun e => by have := (flush0_6 ⟨n, h⟩).mp e; dsimp only at this; omega
theorem fresh_keep_6 (n : ℕ) (h : n < cfg0.N) (hj : n % 4 ≠ 3) (hf : cfg0.fresh 6 n = false) :
    cfg0.fresh 6 (n + 1) = false := by
  rw [Pipeline.Cfg.fresh_succ cfg0 6 n h, hf, Bool.and_false, Bool.or_false]
  exact Bool.not_eq_true _ |>.mp fun e => hj ((flush0_6 ⟨n, h⟩).mp e)
theorem before0_6 (c : Dev nD) (t : Fin cfg0.N) (h : t.val % 4 = 3) (d) : (dats m 0 c).before 6 t d = (dats m 0 c).after 6 t := by
  rw [Pipeline.Dat.before_out_traj (dats m 0 c) 6 rfl (fun _ _ => rfl) (fun s hs hi hfr => ?_) t.val t rfl d]
  · obtain ⟨n, hn⟩ : ∃ n, t.val = n + 1 + 1 + 1 := ⟨t.val - 3, by omega⟩
    have hN : n + 1 + 1 + 1 < cfg0.N := hn ▸ t.isLt
    have hf : cfg0.fresh 6 t.val = false := by
      rw [hn]
      exact fresh_keep_6 _ (by omega) (by omega) (fresh_keep_6 _ (by omega) (by omega) (fresh_step_6 _ (by omega) (by omega)))
    rw [hf, if_neg Bool.false_ne_true, after0_6, after0_6, bp_pred t (by omega)]
  · have hc := cond_of_6 s hi
    rw [hcond0_1] at hc
    rw [after0_6, after0_6, bp_pred s hc]
theorem fresh_step_7 (n : ℕ) (h : n < cfg0.N) (hj : n % 4 = 0) : cfg0.fresh 7 (n + 1) = false := by
  rw [Pipeline.Cfg.fresh_succ cfg0 7 n h, busy_7 ⟨n, h⟩ ((hcond0_1 ⟨n, h⟩).mpr hj), Bool.false_and, Bool.or_false]
  exact Bool.not_eq_true _ |>.mp fun e => by have := (flush0_7 ⟨n, h⟩).mp e; dsimp only at this; omega
theorem fresh_keep_7 (n : ℕ) (h : n < cfg0.N) (hj : n % 4 ≠ 3) (hf : cfg0.fresh 7 n = false) :
    cfg0.fresh 7 (n + 1) = false := by
  rw [Pipeline.Cfg.fresh_succ cfg0 7 n h, hf, Bool.and_false, Bool.or_false]
  exact Bool.not_eq_true _ |>.mp fun e => hj ((flush0_7 ⟨n, h⟩).mp e)
theorem before0_7 (c : Dev nD) (t : Fin cfg0.N) (h : t.val % 4 = 3) (d) : (dats m 0 c).before 7 t d = (dats m 0 c).after 7 t := by
  rw [Pipeline.Dat.before_out_traj (dats m 0 c) 7 rfl (fun _ _ => rfl) (fun s hs hi hfr => ?_) t.val t rfl d]
  · obtain ⟨n, hn⟩ : ∃ n, t.val = n + 1 + 1 + 1 := ⟨t.val - 3, by omega⟩
    have hN : n + 1 + 1 + 1 < cfg0.N := hn ▸ t.isLt
    have hf : cfg0.fresh 7 t.val = false := by
      rw [hn]
      exact fresh_keep_7 _ (by omega) (by omega) (fresh_keep_7 _ (by omega) (by omega) (fresh_step_7 _ (by omega) (by omega)))
    rw [hf, if_neg Bool.false_ne_true, after0_7, after0_7, bp_pred t (by omega)]
  · have hc := cond_of_7 s hi
    rw [hcond0_1] at hc
    rw [after0_7, after0_7, bp_pred s hc]
theorem fresh_step_8 (n : ℕ) (h : n < cfg0.N) (hj : n % 4 = 1) : cfg0.fresh 8 (n + 1) = false := by
  rw [Pipeline.Cfg.fresh_succ cfg0 8 n h, busy_8 ⟨n, h⟩ ((hcond0_2 ⟨n, h⟩).mpr hj), Bool.false_and, Bool.or_false]
  exact Bool.not_eq_true _ |>.mp fun e => by have := (flush0_8 ⟨n, h⟩).mp e; dsimp only at this; omega
theorem fresh_keep_8 (n : ℕ) (h : n < cfg0.N) (hj : n % 4 ≠ 3) (hf : cfg0.fresh 8 n = false) :
    cfg0.fresh 8 (n + 1) = false := by
  rw [Pipeline.Cfg.fresh_succ cfg0 8 n h, hf, Bool.and_false, Bool.or_false]
  exact Bool.not_eq_true _ |>.mp fun e => hj ((flush0_8 ⟨n, h⟩).mp e)
theorem before0_8 (c : Dev nD) (t : Fin cfg0.N) (h : t.val % 4 = 3) (d) : (dats m 0 c).before 8 t d = (dats m 0 c).after 8 t := by
  rw [Pipeline.Dat.before_out_traj (dats m 0 c) 8 rfl (fun _ _ => rfl) (fun s hs hi hfr => ?_) t.val t rfl d]
  · obtain ⟨n, hn⟩ : ∃ n, t.val = n + 1 + 1 + 1 := ⟨t.val - 3, by omega⟩
    have hN : n + 1 + 1 + 1 < cfg0.N := hn ▸ t.isLt
    have hf : cfg0.fresh 8 t.val = false := by
      rw [hn]
      exact fresh_keep_8 _ (by omega) (by omega) (fresh_step_8 _ (by omega) (by omega))
    rw [hf, if_neg Bool.false_ne_true, after0_8, after0_8, bp_pred t (by omega), bp1_pred t (by omega)]
  · have hc := cond_of_8 s hi
    rw [hcond0_2] at hc
    have h0 : s.val % 4 ≠ 0 := fun h0 => by
      obtain ⟨n, hn⟩ : ∃ n, s.val = n + 1 := ⟨s.val - 1, by omega⟩
      have hN : n < cfg0.N := by have := s.isLt; omega
      rw [hn, Pipeline.Cfg.fresh_succ cfg0 8 n hN, (flush0_8 ⟨n, hN⟩).mpr (by show n % 4 = 3; omega), Bool.true_or] at hfr
      exact Bool.false_ne_true hfr.symm
    rw [after0_8, after0_8, bp_pred s h0, bp1_pred s h0]
theorem fresh_step_9 (n : ℕ) (h : n < cfg0.N) (hj : n % 4 = 1) : cfg0.fresh 9 (n + 1) = false := by
  rw [Pipeline.Cfg.fresh_succ cfg0 9 n h, busy_9 ⟨n, h⟩ ((hcond0_2 ⟨n, h⟩).mpr hj), Bool.false_and, Bool.or_false]
  exact Bool.not_eq_true _ |>.mp fun e => by have := (flush0_9 ⟨n, h⟩).mp e; dsimp only at this; omega
theorem fresh_keep_9 (n : ℕ) (h : n < cfg0.N) (hj : n % 4 ≠ 3) (hf : cfg0.fresh 9 n = false) :
    cfg0.fresh 9 (n + 1) = false := by
  rw [Pipeline.Cfg.fresh_succ cfg0 9 n h, hf, Bool.and_false, Bool.or_false]
  exact Bool.not_eq_true _ |>.mp fun e => hj ((flush0_9 ⟨n, h⟩).mp e)
theorem before0_9 (c : Dev nD) (t : Fin cfg0.N) (h : t.val % 4 = 3) (d) : (dats m 0 c).before 9 t d = (dats m 0 c).after 9 t := by
  rw [Pipeline.Dat.before_out_traj (dats m 0 c) 9 rfl (fun _ _ => rfl) (fun s hs hi hfr => ?_) t.val t rfl d]
  · obtain ⟨n, hn⟩ : ∃ n, t.val = n + 1 + 1 + 1 := ⟨t.val - 3, by omega⟩
    have hN : n + 1 + 1 + 1 < cfg0.N := hn ▸ t.isLt
    have hf : cfg0.fresh 9 t.val = false := by
      rw [hn]
      exact fresh_keep_9 _ (by omega) (by omega) (fresh_step_9 _ (by omega) (by omega))
    rw [hf, if_neg Bool.false_ne_true, after0_9, after0_9, bp_pred t (by omega), bp1_pred t (by omega)]
  · have hc := cond_of_9 s hi
    rw [hcond0_2] at hc
    have h0 : s.val % 4 ≠ 0 := fun h0 => by
      obtain ⟨n, hn⟩ : ∃ n, s.val = n + 1 := ⟨s.val - 1, by omega⟩
      have hN : n < cfg0.N := by have := s.isLt; omega
      rw [hn, Pipeline.Cfg.fresh_succ cfg0 9 n hN, (flush0_9 ⟨n, hN⟩).mpr (by show n % 4 = 3; omega), Bool.true_or] at hfr
      exact Bool.false_ne_true hfr.symm
    rw [after0_9, after0_9, bp_pred s h0, bp1_pred s h0]

/-- An output the point leaves alone is handed back as found. -/
theorem back (c : Dev nD) (w : Fin cfg0.W) (t : Fin cfg0.N) (hi : cfg0.idle w (cfg0.grid.coords t) = true)
    (hb : (cfg0.win w).flush t = true → ∀ d, (dats m 0 c).before w t d = (dats m 0 c).after w t) (d) :
    owns (c : Thread nD τ) ((cfg0.win w).stage (cfg0.slots t w)) fullShare ((dats m 0 c).before w t d)
      ⊢ (dats m 0 c).leavesExact w t := by
  cases hf : (cfg0.win w).flush t
  · rw [Dat.leavesExact_idle (dats m 0 c) w t hi hf]
    iintro H
    iexists _
    iexact H
  · rw [hb hf d]
    unfold Dat.leavesExact
    rw [hi, hf]

/-- An output the point stores is handed back at what the point leaves. -/
theorem live (c : Dev nD) (w : Fin cfg0.W) (t : Fin cfg0.N) (hi : cfg0.idle w (cfg0.grid.coords t) = false) :
    (dats m 0 c).leavesExact w t
      = owns (c : Thread nD τ) ((cfg0.win w).stage (cfg0.slots t w)) fullShare ((dats m 0 c).after w t) := by
  unfold Dat.leavesExact; rw [hi]

/-- After any point but the first the invariant holds the scratch at something. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c :=
  Phi_out m c _ (by rw [Fin.val_last]; have : cfg0.N = 64 := N_0; omega)

/-- Before any point the invariant holds the scratch at something. -/
theorem Phi_any (c : Dev nD) (t : Fin cfg0.N) : (dats m 0 c).Φ t.castSucc ⊢ Pipeline.ΦA spec0 c := by
  by_cases hz : t.val = 0
  · rw [PhiS_castSucc m c t, PhiS_zero m c _ _ hz]
  · exact Phi_out m c t.castSucc hz

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The first point of a row block. -/
theorem bodyA (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost
  refine (Idealize.SL.BI.Laws.sep_mono (Phi_any m c t) .rfl).trans ?_
  rw [PhiA0_eq]
  unfold bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [live m c 0 t (liveAt0_0 t), after0_0]
  rw [live m c 1 t (liveAt0_1 t), after0_1]
  rw [live m c 2 t (liveAt0_2 t), after0_2]
  rw [live m c 3 t (liveAt0_3 t), after0_3]
  rw [live m c 4 t (liveAt0_4 t), after0_4]
  rw [live m c 5 t (liveAt0_5 t), after0_5]
  rw [show bp ⟨t.val, t.isLt⟩ = t from bp_zero t h]
  rw [live m c 6 t (busy_6 t ((hcond0_1 t).mpr (by omega))), after0_6, bp_zero t h]
  rw [live m c 7 t (busy_7 t ((hcond0_1 t).mpr (by omega))), after0_7, bp_zero t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runA c (grid0.coords t) _ _ _ _ _ _ _ _ _ _ _ _ _ _ _ _ _ _ _ _ _ _ _ _ ((hcond0_0 t).mpr (by omega)) ((hcond0_1 t).mpr (by omega)) (fun e => by have := (hcond0_2 t).mp e; omega) (fun e => by have := (hcond0_3 t).mp e; omega) (iblk m c 0 t) (iblk m c 1 t) (iblk m c 2 t) (iblk m c 3 t) (iblk m c 4 t) (iblk m c 5 t) ((dats m 0 c).before 8 t d8) ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [H10]; · iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (back m c 8 t (idle_8 t (fun e => by have := (hcond0_2 t).mp e; omega)) (fun e d => before0_8 m c t ((flush0_8 t).mp e) d) d8); iexact H8
  isplitl [H9]; · iapply (back m c 9 t (idle_9 t (fun e => by have := (hcond0_2 t).mp e; omega)) (fun e d => before0_9 m c t ((flush0_9 t).mp e) d) d9); iexact H9
  iapply (back m c 10 t (idle_10 t (fun e => by have := (hcond0_3 t).mp e; omega)) (fun e => absurd (noFlush_10 t (by omega)) (by rw [e]; decide)) d10); iexact H10

set_option maxHeartbeats 4000000 in
/-- The second point of a row block. -/
theorem bodyB (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost
  rw [PhiS_castSucc m c t, PhiS_pos m c _ _ (by omega), bp_pred t (by omega)]
  unfold bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [live m c 0 t (liveAt0_0 t), after0_0]
  rw [live m c 1 t (liveAt0_1 t), after0_1]
  rw [live m c 2 t (liveAt0_2 t), after0_2]
  rw [live m c 3 t (liveAt0_3 t), after0_3]
  rw [live m c 4 t (liveAt0_4 t), after0_4]
  rw [live m c 5 t (liveAt0_5 t), after0_5]
  rw [live m c 8 t (busy_8 t ((hcond0_2 t).mpr (by omega))), after0_8, bp1_one t h]
  rw [live m c 9 t (busy_9 t ((hcond0_2 t).mpr (by omega))), after0_9, bp1_one t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runB c (grid0.coords t) _ _ _ _ _ _ _ _ _ _ _ _ _ _ _ _ _ _ _ _ _ _ _ _ (fun e => by have := (hcond0_0 t).mp e; omega) (fun e => by have := (hcond0_1 t).mp e; omega) ((hcond0_2 t).mpr (by omega)) (fun e => by have := (hcond0_3 t).mp e; omega) (iblk m c 0 t) (iblk m c 1 t) (iblk m c 2 t) (iblk m c 3 t) (iblk m c 4 t) (iblk m c 5 t) ((dats m 0 c).before 6 t d6) ((dats m 0 c).before 7 t d7) ((dats m 0 c).before 10 t d10) (hB m c (bp t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (back m c 6 t (idle_6 t (fun e => by have := (hcond0_1 t).mp e; omega)) (fun e d => before0_6 m c t ((flush0_6 t).mp e) d) d6); iexact H6
  isplitl [H7]; · iapply (back m c 7 t (idle_7 t (fun e => by have := (hcond0_1 t).mp e; omega)) (fun e d => before0_7 m c t ((flush0_7 t).mp e) d) d7); iexact H7
  isplitl [H8]; · iexact H8
  isplitl [H9]; · iexact H9
  iapply (back m c 10 t (idle_10 t (fun e => by have := (hcond0_3 t).mp e; omega)) (fun e => absurd (noFlush_10 t (by omega)) (by rw [e]; decide)) d10); iexact H10

set_option maxHeartbeats 4000000 in
/-- The last two points of a row block. -/
theorem bodyC (c : Dev nD) (t : Fin cfg0.N) (h : 2 ≤ t.val % 4) :
    bodyPre m c t ⊢ wp frame (wpE (defs₀ (F := F)) Variants.none c none) Set.univ (bodyAt0 t) (fun _ => bodyPost m c t) := by
  unfold bodyPre bodyPost
  rw [PhiS_castSucc m c t, PhiS_pos m c _ _ (by omega), bp_pred t (by omega)]
  unfold bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [live m c 0 t (liveAt0_0 t), after0_0]
  rw [live m c 1 t (liveAt0_1 t), after0_1]
  rw [live m c 2 t (liveAt0_2 t), after0_2]
  rw [live m c 3 t (liveAt0_3 t), after0_3]
  rw [live m c 4 t (liveAt0_4 t), after0_4]
  rw [live m c 5 t (liveAt0_5 t), after0_5]
  rw [live m c 10 t (busy_10 t ((hcond0_3 t).mpr (by omega))), after0_10]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runC c (grid0.coords t) _ _ _ _ _ _ _ _ _ _ _ _ _ _ _ _ _ _ _ _ _ _ _ _ (fun e => by have := (hcond0_0 t).mp e; omega) (fun e => by have := (hcond0_1 t).mp e; omega) (fun e => by have := (hcond0_2 t).mp e; omega) ((hcond0_3 t).mpr (by omega)) (iblk m c 0 t) (iblk m c 1 t) (iblk m c 2 t) (iblk m c 3 t) (iblk m c 4 t) (iblk m c 5 t) ((dats m 0 c).before 6 t d6) ((dats m 0 c).before 7 t d7) ((dats m 0 c).before 8 t d8) ((dats m 0 c).before 9 t d9) (hB m c (bp t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (back m c 6 t (idle_6 t (fun e => by have := (hcond0_1 t).mp e; omega)) (fun e d => before0_6 m c t ((flush0_6 t).mp e) d) d6); iexact H6
  isplitl [H7]; · iapply (back m c 7 t (idle_7 t (fun e => by have := (hcond0_1 t).mp e; omega)) (fun e d => before0_7 m c t ((flush0_7 t).mp e) d) d7); iexact H7
  isplitl [H8]; · iapply (back m c 8 t (idle_8 t (fun e => by have := (hcond0_2 t).mp e; omega)) (fun e d => before0_8 m c t ((flush0_8 t).mp e) d) d8); iexact H8
  isplitl [H9]; · iapply (back m c 9 t (idle_9 t (fun e => by have := (hcond0_2 t).mp e; omega)) (fun e d => before0_9 m c t ((flush0_9 t).mp e) d) d9); iexact H9
  iexact H10

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact bodyA m c t h0
  by_cases h1 : t.val % 4 = 1
  · exact bodyB m c t h1
  exact bodyC m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with every array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.InProjIdeal.Kernel

end
-- ==== Proof.InProjTables.lean ====
/-
  The tables the input projection's host part hands its kernel: the gains as rows, and the table that holds 1/64 where
  two columns lie in one head.
-/
module

public import proofs.«01_k».proof.Proof.Gen.InProjIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InProjIdeal.Kernel

open Cert.InProjIdeal Cert.InProjIdeal.Gen

section Tables
variable (σ : Valuation τ sig (Elt Ideal))

/-- The norm's gain as a row. -/
theorem host_v9 (l : Fin 1024) : (StableHlo.after (hostOps0_4 (F := Ideal)) σ (Proc.tc.devRef main_v9)
    : FVec Ideal S1x1024 .f32) (ix2 0 l) = (σ (Proc.tc.devRef main_arg1) : FVec Ideal S1024 .f32) (ix1 l) := by
  after_results
  pointwise []

/-- The query's gain, once a head. -/
theorem host_v14 (q : Fin 512) : (StableHlo.after (hostOps0_4 (F := Ideal)) σ (Proc.tc.devRef main_v14)
    : FVec Ideal S1x512 .f32) (ix2 0 q) = (σ (Proc.tc.devRef main_arg3) : FVec Ideal S64 .f32) (ix1 ⟨q.val % 64, by omega⟩) := by
  after_results
  pointwise []

/-- The key's gain, once a head. -/
theorem host_v18 (q : Fin 512) : (StableHlo.after (hostOps0_4 (F := Ideal)) σ (Proc.tc.devRef main_v18)
    : FVec Ideal S1x512 .f32) (ix2 0 q) = (σ (Proc.tc.devRef main_arg4) : FVec Ideal S64 .f32) (ix1 ⟨q.val % 64, by omega⟩) := by
  after_results
  pointwise []

/-- The table, rounded. -/
theorem host_v8 (l q : Fin 512) : (StableHlo.after (hostOps0_4 (F := Ideal)) σ (Proc.tc.devRef main_v8)
    : FVec Ideal S512x512 .bf16) (ix2 l q) = (σ (Proc.tc.devRef main_v7) : FVec Ideal S512x512 .f32) (ix2 l q) := by
  after_results
  pointwise []

/-- The keys before the call are the argument. -/
theorem host_v19_2 : StableHlo.after (hostOps0_4 (F := Ideal)) σ (Proc.tc.devRef main_v19_2) = σ (Proc.tc.devRef main_arg5) := by
  after_results
  rfl

/-- The values before the call are the argument. -/
theorem host_v19_3 : StableHlo.after (hostOps0_4 (F := Ideal)) σ (Proc.tc.devRef main_v19_3) = σ (Proc.tc.devRef main_arg6) := by
  after_results
  rfl

/-- One of two numbers, as the mask says. -/
theorem host_v7 (l q : Fin 512) : (StableHlo.after (hostOps0_3 (F := Ideal)) σ (Proc.tc.devRef main_v7)
    : FVec Ideal S512x512 .f32) (ix2 l q) = if (σ (Proc.tc.devRef main_v6) : Vec Ideal S512x512 .i1) (ix2 l q) = 1#1
      then (σ (Proc.tc.devRef main_cst) : FVec Ideal S_ .f32) ix0
      else (σ (Proc.tc.devRef main_cst_0) : FVec Ideal S_ .f32) ix0 := by
  after_results
  simp only [StableHlo.TRef.toBuf, StableHlo.TRef.ofBuf, cast_eq]
  pointwise []
  rfl

/-- The mask compares the heads of two columns. -/
theorem host_v6 (l q : Fin 512) : (StableHlo.after (hostOps0_2 (F := Ideal)) σ (Proc.tc.devRef main_v6)
    : Vec Ideal S512x512 .i1) (ix2 l q) = IntOp.cmpi .eq ((σ (Proc.tc.devRef main_v1) : Vec Ideal S512 .i32) (ix1 l))
      ((σ (Proc.tc.devRef main_v1) : Vec Ideal S512 .i32) (ix1 q)) := by
  after_results
  pointwise []

theorem host_cst (i : S_.Idx) : (StableHlo.after (hostOps0_2 (F := Ideal)) σ (Proc.tc.devRef main_cst) : FVec Ideal S_ .f32) i
    = Ideal.ofBits FTy.f32 0x3C800000#32 := by
  after_results
  rfl

theorem host_cst_0 (i : S_.Idx) : (StableHlo.after (hostOps0_2 (F := Ideal)) σ (Proc.tc.devRef main_cst_0) : FVec Ideal S_ .f32) i
    = Ideal.ofBits FTy.f32 0x00000000#32 := by
  after_results
  rfl

/-- The head of a column: its number over 64, rounded down. -/
theorem host_v1 (l : Fin 512) : (StableHlo.after (hostOps0_1 (F := Ideal)) (StableHlo.after (hostOps0 (F := Ideal)) σ) (Proc.tc.devRef main_v1)
    : Vec Ideal S512 .i32) (ix1 l) = BitVec.ofNat 32 (l.val / 64) := by
  after_results
  revert l
  decide +kernel

/-- What the call finds in the arguments is what was there at first. -/
theorem kept_arg1 : StableHlo.after (hostOps0_3 (F := Ideal)) (StableHlo.after (hostOps0_2 (F := Ideal))
    (StableHlo.after (hostOps0_1 (F := Ideal)) (StableHlo.after (hostOps0 (F := Ideal)) σ))) (Proc.tc.devRef main_arg1)
      = σ (Proc.tc.devRef main_arg1) := by
  after_results
theorem kept_arg3 : StableHlo.after (hostOps0_3 (F := Ideal)) (StableHlo.after (hostOps0_2 (F := Ideal))
    (StableHlo.after (hostOps0_1 (F := Ideal)) (StableHlo.after (hostOps0 (F := Ideal)) σ))) (Proc.tc.devRef main_arg3)
      = σ (Proc.tc.devRef main_arg3) := by
  after_results
theorem kept_arg4 : StableHlo.after (hostOps0_3 (F := Ideal)) (StableHlo.after (hostOps0_2 (F := Ideal))
    (StableHlo.after (hostOps0_1 (F := Ideal)) (StableHlo.after (hostOps0 (F := Ideal)) σ))) (Proc.tc.devRef main_arg4)
      = σ (Proc.tc.devRef main_arg4) := by
  after_results
theorem kept_arg5 : StableHlo.after (hostOps0_3 (F := Ideal)) (StableHlo.after (hostOps0_2 (F := Ideal))
    (StableHlo.after (hostOps0_1 (F := Ideal)) (StableHlo.after (hostOps0 (F := Ideal)) σ))) (Proc.tc.devRef main_arg5)
      = σ (Proc.tc.devRef main_arg5) := by
  after_results
theorem kept_arg6 : StableHlo.after (hostOps0_3 (F := Ideal)) (StableHlo.after (hostOps0_2 (F := Ideal))
    (StableHlo.after (hostOps0_1 (F := Ideal)) (StableHlo.after (hostOps0 (F := Ideal)) σ))) (Proc.tc.devRef main_arg6)
      = σ (Proc.tc.devRef main_arg6) := by
  after_results

end Tables

variable (m : (ℓ : Loc nD τ sig) → Buf (Elt Ideal) ℓ) (c : Dev nD)

/-- What the host operations leave, segment by segment. -/
theorem entry_eq (b : DevRef τ sig) :
    StableHlo.after [hostOps0 (F := Ideal), hostOps0_1, hostOps0_2, hostOps0_3, hostOps0_4].flatten (fun b => m (c, b)) b
    = StableHlo.after (hostOps0_4 (F := Ideal)) (StableHlo.after (hostOps0_3 (F := Ideal)) (StableHlo.after (hostOps0_2 (F := Ideal))
        (StableHlo.after (hostOps0_1 (F := Ideal)) (StableHlo.after (hostOps0 (F := Ideal)) (fun b => m (c, b)))))) b := by
  simp only [List.flatten_cons, List.flatten_nil, List.append_nil, StableHlo.after_append]

/-- The norm's gain. -/
theorem V9 (l : Fin 1024) : (V m c main_v9 : FVec Ideal S1x1024 .f32) (ix2 0 l)
    = (m ((c : Thread nD τ).loc main_arg1) : FVec Ideal S1024 .f32) (ix1 l) := by
  unfold V
  rw [entry_eq, host_v9, kept_arg1]

/-- The query's gain. -/
theorem V14 (q : Fin 512) : (V m c main_v14 : FVec Ideal S1x512 .f32) (ix2 0 q)
    = (m ((c : Thread nD τ).loc main_arg3) : FVec Ideal S64 .f32) (ix1 ⟨q.val % 64, by omega⟩) := by
  unfold V
  rw [entry_eq, host_v14, kept_arg3]

/-- The key's gain. -/
theorem V18 (q : Fin 512) : (V m c main_v18 : FVec Ideal S1x512 .f32) (ix2 0 q)
    = (m ((c : Thread nD τ).loc main_arg4) : FVec Ideal S64 .f32) (ix1 ⟨q.val % 64, by omega⟩) := by
  unfold V
  rw [entry_eq, host_v18, kept_arg4]

/-- The table: 1/64 where two columns lie in one head, zero elsewhere. -/
theorem V8 (l q : Fin 512) : (V m c main_v8 : FVec Ideal S512x512 .bf16) (ix2 l q)
    = if l.val / 64 = q.val / 64 then Ideal.ofBits FTy.f32 0x3C800000#32 else 0 := by
  unfold V
  rw [entry_eq, host_v8, host_v7, host_v6, host_cst, host_cst_0, host_v1, host_v1]
  have e : (IntOp.cmpi .eq (BitVec.ofNat 32 (l.val / 64)) (BitVec.ofNat 32 (q.val / 64)) = 1#1) ↔ l.val / 64 = q.val / 64 := by
    have h : ∀ a b : Fin 8, (IntOp.cmpi .eq (BitVec.ofNat 32 a.val) (BitVec.ofNat 32 b.val) = 1#1) ↔ a.val = b.val := by
      decide
    exact h ⟨l.val / 64, by omega⟩ ⟨q.val / 64, by omega⟩
  by_cases h : l.val / 64 = q.val / 64
  · rw [if_pos h, if_pos (e.mpr h)]
  · rw [if_neg h, if_neg (fun h' => h (e.mp h')), Ideal.ofBits_zero_f32]

/-- The keys at the call's start. -/
theorem V19_2 : V m c main_v19_2 = m ((c : Thread nD τ).loc main_arg5) := by
  unfold V
  rw [entry_eq, host_v19_2, kept_arg5]

/-- The values at the call's start. -/
theorem V19_3 : V m c main_v19_3 = m ((c : Thread nD τ).loc main_arg6) := by
  unfold V
  rw [entry_eq, host_v19_3, kept_arg6]

end Cert.InProjIdeal.Kernel

end
-- ==== Proof.InProjPoint.lean ====
/-
  The input projection's stores, entry by entry, and the tables its host part hands it.
-/
module

public import proofs.«01_k».proof.Proof.InProjIdealFrame
public import proofs.«01_k».proof.Proof.InProjTables
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Kernel

open Cert.InProjIdeal Cert.InProjIdeal.Gen

/-- The normed rows. -/
theorem pay1_at (X : Vec Ideal S1024x1024 .f32) (n : Vec Ideal S1x1024 .f32) (r l : Fin 1024) :
    k0_pay1 X n (ix2 r l) = X (ix2 r l) * Ideal.rsqrt (Ideal.div (∑ x : Fin 1024, X (ix2 r x) * X (ix2 r x))
      (Ideal.ofBits FTy.f32 1149239296#32) + Ideal.ofBits FTy.f32 897988541#32) * n (ix2 0 l) := by
  pointwise [k0_pay1]

/-- A column block's product. -/
theorem pay2_at (h w : Vec Ideal S1024x1024 .bf16) (r q : Fin 1024) :
    k0_pay2 h w (ix2 r q) = ∑ l : Fin 1024, h (ix2 r l) * w (ix2 l q) := by
  pointwise [k0_pay2]

/-- The sum of squares of a row of 512 with the table's column `q`, as the kernel forms it. -/
def meanK (a : Fin 512 → EReal) (B : FVec Ideal S512x512 .bf16) (q : Fin 512) : EReal :=
  (∑ l : Fin 512, a l * a l * B (ix2 l q)) + ∑ l : Fin 512, (a l * a l - a l * a l) * B (ix2 l q)

/-- The local query of a product and a table. -/
theorem pay10_at (p : FVec Ideal S1024x1024 .f32) (B : Vec Ideal S512x512 .bf16) (g : Vec Ideal S1x512 .f32) (r : Fin 1024) (q : Fin 512) :
    k0_pay3 (k0_pay10 p B B) (k0_pay11 g) (ix2 r q) = p (ix2 r ⟨512 + q.val, by omega⟩)
      * Ideal.rsqrt (meanK (fun l => p (ix2 r ⟨512 + l.val, by omega⟩)) B q + Ideal.ofBits FTy.f32 897988541#32) * g (ix2 0 q) := by
  pointwise [k0_pay3, k0_pay10, k0_pay11, meanK]

/-- The local key of a product and a table. -/
theorem pay4_at (h w : Vec Ideal S1024x1024 .bf16) (B : Vec Ideal S512x512 .bf16) (g : Vec Ideal S1x512 .f32) (r : Fin 1024) (q : Fin 512) :
    k0_pay4 h w B B g (ix3 0 r q) = k0_pay2 h w (ix2 r ⟨q.val, by omega⟩)
      * Ideal.rsqrt (meanK (fun l => k0_pay2 h w (ix2 r ⟨l.val, by omega⟩)) B q + Ideal.ofBits FTy.f32 897988541#32) * g (ix2 0 q) := by
  unfold k0_pay4
  generalize k0_pay2 h w = p
  pointwise [meanK]

/-- The local value of a product. -/
theorem pay5_at (h w : Vec Ideal S1024x1024 .bf16) (r : Fin 1024) (q : Fin 512) :
    k0_pay5 h w (ix3 0 r q) = k0_pay2 h w (ix2 r ⟨512 + q.val, by omega⟩) := by
  unfold k0_pay5
  generalize k0_pay2 h w = p
  pointwise

/-- The attention inputs: group `g`'s column `e` is column `128 g + e` of the product. -/
theorem uBlock_at (p : FVec Ideal S1024x1024 .f32) (g : Fin 4) (r : Fin 1024) (e : Fin 128) :
    uBlock p (ix3 g r e) = p (ix2 r ⟨g.val * 128 + e.val, by omega⟩) := by
  unfold uBlock
  canon_tiles x h
  all_goals obtain rfl : r = x 1 := Fin.ext h1
  all_goals obtain rfl : e = x 2 := Fin.ext h2
  all_goals first
    | (have e0 : g.val = 3 + (x 0).val := h0
       obtain rfl : g = 3 := Fin.ext (show g.val = 3 by omega))
    | (have e0 : g.val = 2 + (x 0).val := h0
       obtain rfl : g = 2 := Fin.ext (show g.val = 2 by omega))
    | (have e0 : g.val = 1 + (x 0).val := h0
       obtain rfl : g = 1 := Fin.ext (show g.val = 1 by omega))
    | (have e0 : g.val = (x 0).val := h0
       obtain rfl : g = 0 := Fin.ext (show g.val = 0 by omega))
  all_goals pointwise [k0_pay6, k0_pay7, k0_pay8, k0_pay9]

variable (m : (ℓ : Loc nD τ sig) → Buf (Elt Ideal) ℓ)

/-- The rows. -/
abbrev aX (c : Dev nD) : FVec Ideal S16384x1024 .f32 := m ((c : Thread nD τ).loc main_arg0)
/-- The gain. -/
abbrev aN (c : Dev nD) : FVec Ideal S1024 .f32 := m ((c : Thread nD τ).loc main_arg1)
/-- The projection. -/
abbrev aW (c : Dev nD) : FVec Ideal S1024x4096 .f32 := m ((c : Thread nD τ).loc main_arg2)
/-- The query's gain. -/
abbrev aQ (c : Dev nD) : FVec Ideal S64 .f32 := m ((c : Thread nD τ).loc main_arg3)
/-- The key's gain. -/
abbrev aK (c : Dev nD) : FVec Ideal S64 .f32 := m ((c : Thread nD τ).loc main_arg4)

/-- Which block each input window shows at point `t`. -/
theorem idx_at : ∀ t : Fin cfg0.N, win0_0.index t = ![t.val / 4, 0] ∧ win0_1.index t = ![0, 0]
    ∧ win0_2.index t = ![0, t.val % 4] ∧ win0_3.index t = ![0, 0] ∧ win0_4.index t = ![0, 0] ∧ win0_5.index t = ![0, 0]
    ∧ win0_6.index t = ![0, t.val / 4, 0] ∧ win0_7.index t = ![t.val / 4, 0] ∧ win0_8.index t = ![0, t.val / 4, 0]
    ∧ win0_9.index t = ![0, t.val / 4, 0] ∧ win0_10.index t = ![t.val / 4, t.val % 4 - 2] :=
  (by decide +kernel : ∀ t : Fin grid0.N, _)

variable (c : Dev nD)

/-- The row block at point `t`. -/
theorem blk0 (t : Fin cfg0.N) (r : Fin 1024) (R : Fin 16384) (hR : (R : ℕ) = t.val / 4 * 1024 + r) (l : Fin 1024) :
    (iblk m c 0 t : FVec Ideal S1024x1024 .f32) (ix2 r l) = aX m c (ix2 R l) := by
  blk_point [iblk, V, idx_at t]

/-- The gain at point `t`. -/
theorem blk1 (t : Fin cfg0.N) (l : Fin 1024) : (iblk m c 1 t : FVec Ideal S1x1024 .f32) (ix2 0 l) = aN m c (ix1 l) := by
  have e : ((cfg0.win 1).blk t).view.emb (ix2 0 l) = (ix2 0 l : S1x1024.Idx) := by blk_ext [idx_at t]
  show (V m c main_v9 : FVec Ideal S1x1024 .f32) (((cfg0.win 1).blk t).view.emb (ix2 0 l)) = _
  rw [e, V9]

/-- The columns of the projection at point `t`. -/
theorem blk2 (t : Fin cfg0.N) (l u : Fin 1024) (U : Fin 4096) (hU : (U : ℕ) = t.val % 4 * 1024 + u) :
    (iblk m c 2 t : FVec Ideal S1024x1024 .bf16) (ix2 l u) = aW m c (ix2 l U) := by
  blk_point [iblk, V, idx_at t]

/-- The query's gain, once a head, at point `t`. -/
theorem blk3 (t : Fin cfg0.N) (q : Fin 512) : (iblk m c 3 t : FVec Ideal S1x512 .f32) (ix2 0 q)
    = aQ m c (ix1 ⟨q.val % 64, by omega⟩) := by
  have e : ((cfg0.win 3).blk t).view.emb (ix2 0 q) = (ix2 0 q : S1x512.Idx) := by blk_ext [idx_at t]
  show (V m c main_v14 : FVec Ideal S1x512 .f32) (((cfg0.win 3).blk t).view.emb (ix2 0 q)) = _
  rw [e, V14]

/-- The key's gain, once a head, at point `t`. -/
theorem blk4 (t : Fin cfg0.N) (q : Fin 512) : (iblk m c 4 t : FVec Ideal S1x512 .f32) (ix2 0 q)
    = aK m c (ix1 ⟨q.val % 64, by omega⟩) := by
  have e : ((cfg0.win 4).blk t).view.emb (ix2 0 q) = (ix2 0 q : S1x512.Idx) := by blk_ext [idx_at t]
  show (V m c main_v18 : FVec Ideal S1x512 .f32) (((cfg0.win 4).blk t).view.emb (ix2 0 q)) = _
  rw [e, V18]

/-- The table at point `t`: 1/64 where two columns lie in one head, zero elsewhere. -/
theorem blk5 (t : Fin cfg0.N) (l q : Fin 512) : (iblk m c 5 t : FVec Ideal S512x512 .bf16) (ix2 l q)
    = if l.val / 64 = q.val / 64 then Ideal.ofBits FTy.f32 0x3C800000#32 else 0 := by
  have e : ((cfg0.win 5).blk t).view.emb (ix2 l q) = (ix2 l q : S512x512.Idx) := by blk_ext [idx_at t]
  show (V m c main_v8 : FVec Ideal S512x512 .bf16) (((cfg0.win 5).blk t).view.emb (ix2 l q)) = _
  rw [e, V8]

end Cert.InProjIdeal.Kernel

end
-- ==== Proof.InProjMath.lean ====
/-
  The extended reals of the input projection: which of its entries are reals when the arguments are, and why a mean
  over the 64 columns of a head is a product with the table that holds 1/64 at the columns of that head.
-/
module

public import proofs.«01_k».proof.Proof.Gen.InProjReferenceIdeal
public import Idealize.ShloMosaic.Lib.Pointwise
public import Idealize.ShloMosaic.Lib.IdealHost

@[expose] public section

noncomputable section

open Idealize.ShloMosaic

namespace Cert.InProjMath

/-- An extended real that is a real. -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A sum of reals, taken in the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem IsReal.sum {n : ℕ} {f : Fin n → EReal} (h : ∀ i, IsReal (f i)) : IsReal (∑ i, f i) := by
  choose g hg using h
  refine ⟨∑ i, g i, ?_⟩
  rw [← sum_coe]
  exact Finset.sum_congr rfl fun i _ => hg i

/-- The pattern of 1024. -/
theorem ofBits_1024 : Ideal.ofBits .f32 1149239296#32 = ((1024 : ℝ) : EReal) := by
  simp [Ideal.ofBits, Ideal.ieee, -EReal.coe_mul]; norm_num

/-- The pattern of 64. -/
theorem ofBits_64 : Ideal.ofBits .f32 0x42800000#32 = ((64 : ℝ) : EReal) := by
  simp [Ideal.ofBits, Ideal.ieee, -EReal.coe_mul]; norm_num

/-- The pattern of 1/64. -/
theorem ofBits_inv64 : Ideal.ofBits .f32 0x3C800000#32 = (((1 : ℝ) / 64 : ℝ) : EReal) := by
  simp [Ideal.ofBits, Ideal.ieee, -EReal.coe_mul]; norm_num

/-- The constant under the roots is a positive real. -/
theorem ofBits_eps : ∃ e : ℝ, 0 < e ∧ Ideal.ofBits .f32 897988541#32 = (e : EReal) := by
  refine ⟨8796093 / 8796093022208, by norm_num, ?_⟩
  simp [Ideal.ofBits, Ideal.ieee, -EReal.coe_mul]; norm_num

/-- The pattern of infinity. -/
theorem ofBits_inf : Ideal.ofBits .f32 0x7F800000#32 = ⊤ := by
  simp [Ideal.ofBits, Ideal.ieee]

/-- An extended real whose absolute value lies below infinity is a real. -/
theorem isReal_of_abs_lt {a : EReal} (h : max a (-a) < ⊤) : IsReal a := by
  induction a using EReal.rec with
  | bot => simp at h
  | top => simp at h
  | coe r => exact ⟨r, rfl⟩

/-- A real over a nonzero real. -/
theorem div_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The reciprocal root of a positive real is a real. -/
theorem isReal_rsqrt (r : ℝ) (hr : 0 < r) : IsReal (Ideal.rsqrt (r : EReal)) := by
  refine ⟨(Real.sqrt r)⁻¹, ?_⟩
  show (if r < 0 then (⊥ : EReal) else if r = 0 then ⊤ else ((Real.sqrt r)⁻¹ : ℝ)) = _
  rw [if_neg (not_lt.2 hr.le), if_neg hr.ne']

/-- The reciprocal root mean square of a row of reals is a real. -/
theorem isReal_norm {f : Fin 1024 → EReal} (h : ∀ i, IsReal (f i)) :
    IsReal (Ideal.rsqrt (Ideal.div (∑ x : Fin 1024, f x * f x) (Ideal.ofBits FTy.f32 1149239296#32)
      + Ideal.ofBits FTy.f32 897988541#32)) := by
  choose g hg using h
  obtain ⟨e, he, hb⟩ := ofBits_eps
  have hs : ∑ x : Fin 1024, f x * f x = ((∑ x : Fin 1024, g x * g x : ℝ) : EReal) := by
    rw [← sum_coe]
    exact Finset.sum_congr rfl fun i _ => by rw [hg i, EReal.coe_mul]
  rw [hs, ofBits_1024, hb, div_coe _ _ (by norm_num), ← EReal.coe_add]
  refine isReal_rsqrt _ ?_
  have h0 : 0 ≤ ∑ x : Fin 1024, g x * g x := Finset.sum_nonneg fun i _ => mul_self_nonneg _
  positivity

/-- The sum of the reals over the columns of one head, weighted by 1/64. -/
theorem real_head (g : Fin 512 → ℝ) (k : Fin 8) :
    ∑ l : Fin 512, g l * (if l.val / 64 = k.val then 1 / 64 else 0)
      = (∑ d : Fin 64, g ⟨k.val * 64 + d.val, by omega⟩) / 64 := by
  rw [Fin.sum_univ_tiles 8 64 rfl, Finset.sum_eq_single k, Finset.sum_div]
  · refine Finset.sum_congr rfl fun d _ => ?_
    rw [if_pos (by show (k.val * 64 + d.val) / 64 = k.val; omega)]
    ring
  · intro j _ hj
    refine Finset.sum_eq_zero fun d _ => ?_
    rw [if_neg (by
      show ¬(j.val * 64 + d.val) / 64 = k.val
      intro e
      exact hj (Fin.ext (by omega))), mul_zero]
  · intro h
    exact absurd (Finset.mem_univ _) h

/-- The mean square of a head's columns, from the two products with the table: the rounded squares' and the
    rest's, which for reals is zero. -/
theorem head_mean (a : Fin 512 → EReal) (ha : ∀ l, IsReal (a l)) (B : Fin 512 → EReal) (k : Fin 8)
    (hB : ∀ l, B l = if l.val / 64 = k.val then Ideal.ofBits FTy.f32 0x3C800000#32 else 0) :
    (∑ l : Fin 512, a l * a l * B l) + (∑ l : Fin 512, (a l * a l - a l * a l) * B l)
      = Ideal.div (∑ d : Fin 64, a ⟨k.val * 64 + d.val, by omega⟩ * a ⟨k.val * 64 + d.val, by omega⟩)
          (Ideal.ofBits FTy.f32 0x42800000#32) := by
  choose g hg using ha
  have hB' : ∀ l, B l = ((if l.val / 64 = k.val then 1 / 64 else 0 : ℝ) : EReal) := fun l => by
    rw [hB l, ofBits_inv64]
    split <;> simp
  have h1 : ∑ l : Fin 512, a l * a l * B l
      = ((∑ l : Fin 512, g l * g l * (if l.val / 64 = k.val then 1 / 64 else 0) : ℝ) : EReal) := by
    rw [← sum_coe]
    exact Finset.sum_congr rfl fun l _ => by rw [hg l, hB' l, EReal.coe_mul, EReal.coe_mul]
  have h2 : ∑ l : Fin 512, (a l * a l - a l * a l) * B l = 0 := by
    refine Finset.sum_eq_zero fun l _ => ?_
    rw [hg l, ← EReal.coe_mul, ← EReal.coe_sub, sub_self, EReal.coe_zero, zero_mul]
  have h3 : ∑ d : Fin 64, a ⟨k.val * 64 + d.val, by omega⟩ * a ⟨k.val * 64 + d.val, by omega⟩
      = ((∑ d : Fin 64, g ⟨k.val * 64 + d.val, by omega⟩ * g ⟨k.val * 64 + d.val, by omega⟩ : ℝ) : EReal) := by
    rw [← sum_coe]
    exact Finset.sum_congr rfl fun d _ => by rw [hg, EReal.coe_mul]
  rw [h1, h2, h3, ofBits_64, div_coe _ _ (by norm_num), add_zero, real_head (fun l => g l * g l) k]

end Cert.InProjMath

end
-- ==== Proof.InProjValue.lean ====
/-
  The input projection's value: what the kernel leaves in its five results, and why it is the reference's normed rows
  times the projection, cut into the branches' inputs.
-/
module

public import proofs.«01_k».proof.Proof.InProjPoint
public import proofs.«01_k».proof.Proof.InProjMath
public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.InProjIdeal.Kernel

open Cert.InProjIdeal Cert.InProjIdeal.Gen Cert.InProjMath

section Mathematics
variable (X : FVec Ideal S16384x1024 .f32) (n : FVec Ideal S1024 .f32) (w : FVec Ideal S1024x4096 .f32)

/-- Entry `l` of the normalised row `r`: the row divided by its root mean square, times the gain. -/
def hid (r : Fin 16384) (l : Fin 1024) : EReal :=
  X (ix2 r l) * Ideal.rsqrt (Ideal.div (∑ x : Fin 1024, X (ix2 r x) * X (ix2 r x)) (Ideal.ofBits FTy.f32 1149239296#32)
    + Ideal.ofBits FTy.f32 897988541#32) * n (ix1 l)

/-- Column `u` of the projected row `r`. -/
def prj (r : Fin 16384) (u : Fin 4096) : EReal := ∑ l : Fin 1024, hid X n r l * w (ix2 l u)

/-- Column `q` of eight heads of 64 columns, starting at column `b` of the projection, each head divided by its root
    mean square and multiplied by the gain `g`. -/
def headed (b : ℕ) (hb : b + 512 ≤ 4096) (g : FVec Ideal S64 .f32) (r : Fin 16384) (q : Fin 512) : EReal :=
  prj X n w r ⟨b + q.val, by omega⟩
    * Ideal.rsqrt (Ideal.div (∑ d : Fin 64, prj X n w r ⟨b + (q.val / 64 * 64 + d.val), by omega⟩
        * prj X n w r ⟨b + (q.val / 64 * 64 + d.val), by omega⟩) (Ideal.ofBits FTy.f32 0x42800000#32)
      + Ideal.ofBits FTy.f32 897988541#32)
    * g (ix1 ⟨q.val % 64, by omega⟩)

/-- The attention inputs, by group of 128 columns. -/
def resU : FVec Ideal S4x16384x128 .f32 := fun i =>
  prj X n w (i 1) ⟨(i 0).val * 128 + (i 2).val, by have h0 : (i 0).val < 4 := (i 0).isLt; have h2 : (i 2).val < 128 := (i 2).isLt; omega⟩

/-- The local query. -/
def resQ (g : FVec Ideal S64 .f32) : FVec Ideal S16384x512 .f32 := fun i => headed X n w 512 (by omega) g (i 0) (i 1)

/-- The keys: the first layer new, the second as it was. -/
def resK (g : FVec Ideal S64 .f32) (A : FVec Ideal S2x16384x512 .f32) : FVec Ideal S2x16384x512 .f32 := fun i =>
  if (i 0).val = 0 then headed X n w 1024 (by omega) g (i 1) (i 2) else A i

/-- The values: the first layer new, the second as it was. -/
def resV (A : FVec Ideal S2x16384x512 .f32) : FVec Ideal S2x16384x512 .f32 := fun i =>
  if (i 0).val = 0 then prj X n w (i 1) ⟨1536 + (i 2).val, by have h2 : (i 2).val < 512 := (i 2).isLt; omega⟩ else A i

/-- The retention inputs. -/
def resR : FVec Ideal S16384x2048 .f32 := fun i =>
  prj X n w (i 0) ⟨2048 + (i 1).val, by have h2 : (i 1).val < 2048 := (i 1).isLt; omega⟩

/-- Of real arguments the projected rows are real. -/
theorem isReal_prj (hX : ∀ i, IsReal (X i)) (hn : ∀ i, IsReal (n i)) (hw : ∀ i, IsReal (w i)) (r : Fin 16384) (u : Fin 4096) :
    IsReal (prj X n w r u) :=
  IsReal.sum fun l => (((hX _).mul (isReal_norm fun x => hX (ix2 r x))).mul (hn _)).mul (hw _)

end Mathematics

variable (m : (ℓ : Loc nD τ sig) → Buf (Elt Ideal) ℓ) (c : Dev nD)

/-- Every argument the squares are formed from holds reals. -/
def Real3 : Prop := (∀ i, IsReal (aX m c i)) ∧ (∀ i, IsReal (aN m c i)) ∧ ∀ i, IsReal (aW m c i)

/-- The normed rows of a row block. -/
theorem hB_at (b : Fin cfg0.N) (r : Fin 1024) (R : Fin 16384) (hR : (R : ℕ) = b.val / 4 * 1024 + r) (l : Fin 1024) :
    hB m c b (ix2 r l) = hid (aX m c) (aN m c) R l := by
  unfold hB
  rw [pay1_at, hid]
  simp only [blk0 m c b r R hR, blk1 m c b]

/-- A column block's product. -/
theorem prod_at (b t : Fin cfg0.N) (r : Fin 1024) (R : Fin 16384) (hR : (R : ℕ) = b.val / 4 * 1024 + r) (q : Fin 1024)
    (u : Fin 4096) (hu : (u : ℕ) = t.val % 4 * 1024 + q) :
    k0_pay2 (hB m c b) (iblk m c 2 t) (ix2 r q) = prj (aX m c) (aN m c) (aW m c) R u := by
  rw [pay2_at, prj]
  refine Finset.sum_congr rfl fun l _ => ?_
  rw [hB_at m c b r R hR l, blk2 m c t l q u hu]

/-- The kernel's mean over a head's columns is the reference's. -/
theorem mean_at (h3 : Real3 m c) (t : Fin cfg0.N) (b : ℕ) (hb : b + 512 ≤ 4096) (R : Fin 16384) (q : Fin 512) (a : Fin 512 → EReal)
    (ha : ∀ l : Fin 512, a l = prj (aX m c) (aN m c) (aW m c) R ⟨b + l.val, by omega⟩) :
    meanK a (iblk m c 5 t) q = Ideal.div (∑ d : Fin 64, prj (aX m c) (aN m c) (aW m c) R ⟨b + (q.val / 64 * 64 + d.val), by omega⟩
      * prj (aX m c) (aN m c) (aW m c) R ⟨b + (q.val / 64 * 64 + d.val), by omega⟩) (Ideal.ofBits FTy.f32 0x42800000#32) := by
  unfold meanK
  refine (head_mean a (fun l => ?_) _ ⟨q.val / 64, by omega⟩ fun l => blk5 m c t l q).trans ?_
  · rw [ha]
    exact isReal_prj _ _ _ h3.1 h3.2.1 h3.2.2 _ _
  · simp only [ha]

theorem bp_val (t : Fin cfg0.N) : (bp t).val = 4 * (t.val / 4) := rfl
theorem bp1_val (t : Fin cfg0.N) : (bp1 t).val = 4 * (t.val / 4) + 1 := rfl

/-- The attention inputs' array. -/
theorem final6 : (dats m 0 c).arrAt 6 (cfgs 0).N = resU (aX m c) (aN m c) (aW m c) := by
  refine (dats m 0 c).arrAt_eq_of_covers 6 _ (by decide +kernel) fun t hf y => ?_
  have ht : t.val < 64 := lt_of_lt_of_eq t.isLt N_0
  obtain ⟨g, r, e, rfl⟩ : ∃ (g : Fin 4) (r : Fin 1024) (e : Fin 128), y = ix3 g r e := ⟨y 0, y 1, y 2, by blk_ext⟩
  obtain ⟨R, hR⟩ : ∃ R : Fin 16384, (R : ℕ) = t.val / 4 * 1024 + r := ⟨⟨t.val / 4 * 1024 + r, by omega⟩, rfl⟩
  have he : ((cfg0.win 6).blk t).view.emb (ix3 g r e) = (ix3 g R e : S4x16384x128.Idx) := by
    blk_ext [idx_at t]
  rw [he]
  blk_simp
  rw [after0_6, out6, uBlock_at, pB]
  exact prod_at m c (bp t) (bp t) r R (by rw [bp_val]; omega) _ ⟨g.val * 128 + e.val, by omega⟩ (by
    rw [bp_val]; show g.val * 128 + e.val = 4 * (t.val / 4) % 4 * 1024 + (g.val * 128 + e.val); omega)

/-- The query's array. -/
theorem final7 (h3 : Real3 m c) : (dats m 0 c).arrAt 7 (cfgs 0).N = resQ (aX m c) (aN m c) (aW m c) (aQ m c) := by
  refine (dats m 0 c).arrAt_eq_of_covers 7 _ (by decide +kernel) fun t hf y => ?_
  have ht : t.val < 64 := lt_of_lt_of_eq t.isLt N_0
  obtain ⟨r, q, rfl⟩ : ∃ (r : Fin 1024) (q : Fin 512), y = ix2 r q := ⟨y 0, y 1, by blk_ext⟩
  obtain ⟨R, hR⟩ : ∃ R : Fin 16384, (R : ℕ) = t.val / 4 * 1024 + r := ⟨⟨t.val / 4 * 1024 + r, by omega⟩, rfl⟩
  have he : ((cfg0.win 7).blk t).view.emb (ix2 r q) = (ix2 R q : S16384x512.Idx) := by
    blk_ext [idx_at t]
  rw [he]
  blk_simp
  have hp : ∀ l : Fin 512, pB m c (bp t) (ix2 r ⟨512 + l.val, by omega⟩) = prj (aX m c) (aN m c) (aW m c) R ⟨512 + l.val, by omega⟩ :=
    fun l => prod_at m c (bp t) (bp t) r R (by rw [bp_val]; omega) _ _ (by
      rw [bp_val]; show 512 + l.val = 4 * (t.val / 4) % 4 * 1024 + (512 + l.val); omega)
  rw [after0_7, out7, pay10_at, mean_at m c h3 (bp t) 512 (by omega) R q _ hp, hp, blk3]
  rfl

/-- The keys' array. -/
theorem final8 (h3 : Real3 m c) : (dats m 0 c).arrAt 8 (cfgs 0).N
    = resK (aX m c) (aN m c) (aW m c) (aK m c) (m ((c : Thread nD τ).loc main_arg5)) := by
  refine (dats m 0 c).arrAt_eq_of_coversWhere_of_agree 8 _ (fun β => β (0 : Fin 3) = 0) (by decide +kernel) (fun t hf y => ?_) (fun j hj => ?_)
  · have ht : t.val < 64 := lt_of_lt_of_eq t.isLt N_0
    obtain ⟨r, q, rfl⟩ : ∃ (r : Fin 1024) (q : Fin 512), y = ix3 0 r q := ⟨y 1, y 2, by blk_ext⟩
    obtain ⟨R, hR⟩ : ∃ R : Fin 16384, (R : ℕ) = t.val / 4 * 1024 + r := ⟨⟨t.val / 4 * 1024 + r, by omega⟩, rfl⟩
    have he : ((cfg0.win 8).blk t).view.emb (ix3 0 r q) = (ix3 0 R q : S2x16384x512.Idx) := by
      blk_ext [idx_at t]
    rw [he]
    blk_simp
    have hp : ∀ l : Fin 512, k0_pay2 (hB m c (bp t)) (iblk m c 2 (bp1 t)) (ix2 r ⟨l.val, by omega⟩)
        = prj (aX m c) (aN m c) (aW m c) R ⟨1024 + l.val, by omega⟩ :=
      fun l => prod_at m c (bp t) (bp1 t) r R (by rw [bp_val]; omega) _ _ (by
        rw [bp1_val]; show 1024 + l.val = (4 * (t.val / 4) + 1) % 4 * 1024 + l.val; omega)
    rw [after0_8, out8, pay4_at, mean_at m c h3 (bp1 t) 1024 (by omega) R q _ hp, hp, blk4]
    rfl
  · obtain ⟨g, r, q, rfl⟩ : ∃ (g : Fin 2) (r : Fin 16384) (q : Fin 512), j = ix3 g r q := ⟨j 0, j 1, j 2, by blk_ext⟩
    have hg : g.val ≠ 0 := fun h => hj (by show g.val / 1 = 0; omega)
    have he : (cfg0.win 8).arr.view.emb (ix3 g r q) = (ix3 g r q : S2x16384x512.Idx) := rfl
    rw [he, A_eq]
    show (V m c main_v19_2 : FVec Ideal S2x16384x512 .f32) (ix3 g r q) = _
    rw [V19_2]
    exact (if_neg hg).symm

/-- The values' array. -/
theorem final9 : (dats m 0 c).arrAt 9 (cfgs 0).N
    = resV (aX m c) (aN m c) (aW m c) (m ((c : Thread nD τ).loc main_arg6)) := by
  refine (dats m 0 c).arrAt_eq_of_coversWhere_of_agree 9 _ (fun β => β (0 : Fin 3) = 0) (by decide +kernel) (fun t hf y => ?_) (fun j hj => ?_)
  · have ht : t.val < 64 := lt_of_lt_of_eq t.isLt N_0
    obtain ⟨r, q, rfl⟩ : ∃ (r : Fin 1024) (q : Fin 512), y = ix3 0 r q := ⟨y 1, y 2, by blk_ext⟩
    obtain ⟨R, hR⟩ : ∃ R : Fin 16384, (R : ℕ) = t.val / 4 * 1024 + r := ⟨⟨t.val / 4 * 1024 + r, by omega⟩, rfl⟩
    have he : ((cfg0.win 9).blk t).view.emb (ix3 0 r q) = (ix3 0 R q : S2x16384x512.Idx) := by
      blk_ext [idx_at t]
    rw [he]
    blk_simp
    rw [after0_9, out9, pay5_at, prod_at m c (bp t) (bp1 t) r R (by rw [bp_val]; omega) _ ⟨1536 + q.val, by omega⟩ (by
        rw [bp1_val]; show 1536 + q.val = (4 * (t.val / 4) + 1) % 4 * 1024 + (512 + q.val); omega)]
    rfl
  · obtain ⟨g, r, q, rfl⟩ : ∃ (g : Fin 2) (r : Fin 16384) (q : Fin 512), j = ix3 g r q := ⟨j 0, j 1, j 2, by blk_ext⟩
    have hg : g.val ≠ 0 := fun h => hj (by show g.val / 1 = 0; omega)
    have he : (cfg0.win 9).arr.view.emb (ix3 g r q) = (ix3 g r q : S2x16384x512.Idx) := rfl
    rw [he, A_eq]
    show (V m c main_v19_3 : FVec Ideal S2x16384x512 .f32) (ix3 g r q) = _
    rw [V19_3]
    exact (if_neg hg).symm

/-- Window 10 is written back at the last two points of a row block only. -/
theorem flushes_10 : ∀ t : Fin cfg0.N, (cfg0.win 10).flush t = true → 2 ≤ t.val % 4 :=
  (by decide +kernel : ∀ t : Fin grid0.N, win0_10.flush t = true → 2 ≤ t.val % 4)

/-- The retention inputs' array. -/
theorem final10 : (dats m 0 c).arrAt 10 (cfgs 0).N = resR (aX m c) (aN m c) (aW m c) := by
  refine (dats m 0 c).arrAt_eq_of_covers 10 _ (by decide +kernel) fun t hf y => ?_
  have ht : t.val < 64 := lt_of_lt_of_eq t.isLt N_0
  have h2 := flushes_10 t hf
  obtain ⟨r, q, rfl⟩ : ∃ r q : Fin 1024, y = ix2 r q := ⟨y 0, y 1, by blk_ext⟩
  obtain ⟨R, hR⟩ : ∃ R : Fin 16384, (R : ℕ) = t.val / 4 * 1024 + r := ⟨⟨t.val / 4 * 1024 + r, by omega⟩, rfl⟩
  obtain ⟨u, hu⟩ : ∃ u : Fin 2048, (u : ℕ) = (t.val % 4 - 2) * 1024 + q := ⟨⟨(t.val % 4 - 2) * 1024 + q, by omega⟩, rfl⟩
  have he : ((cfg0.win 10).blk t).view.emb (ix2 r q) = (ix2 R u : S16384x2048.Idx) := by
    blk_ext [idx_at t]
  rw [he]
  blk_simp
  rw [after0_10, out10]
  exact prod_at m c (bp t) t r R (by rw [bp_val]; omega) _ ⟨2048 + u.val, by omega⟩ (by
    show 2048 + u.val = t.val % 4 * 1024 + q.val; omega)

end Cert.InProjIdeal.Kernel

end
-- ==== Proof.InProjReference.lean ====
/-
  The input projection's value claim: the reference's five results are the arrays the kernel leaves.
-/
module

public import proofs.«01_k».proof.Proof.InProjValue
public import proofs.«01_k».proof.Proof.Gen.InProjReferenceIdeal
public import proofs.«01_k».proof.Proof.Gen.InProjReferenceIdeal.Run

@[expose] public section

set_option maxRecDepth 16384

noncomputable section

namespace Cert.InProjReferenceIdeal.Rows

open Idealize.ShloMosaic Idealize.ShloMosaic.TcCoe Idealize.SL.Sem
open Cert.InProjReferenceIdeal Cert.InProjReferenceIdeal.Gen Cert.InProjReferenceIdeal.Facts
open Cert.InProjIdeal.Kernel (hid prj headed resU resQ resK resV resR)

variable (X : FVec Ideal S16384x1024 .f32) (n : FVec Ideal S1024 .f32) (w : FVec Ideal S1024x4096 .f32)

/-- The reference's projected rows. -/
theorem rows_eq : Host.dotGeneral dot_S16384x1024_S1024x4096_S16384x4096_1_0_0_1_n_n none (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 n))) w
    = (fun i => prj X n w (i 0) (i 1) : FVec Ideal S16384x4096 .f32) := by
  funext i
  obtain ⟨r, u, rfl⟩ : ∃ (r : Fin 16384) (u : Fin 4096), i = ix2 r u := ⟨i 0, i 1, by blk_ext⟩
  show _ = prj X n w r u
  pointwise [prj, hid]

end Cert.InProjReferenceIdeal.Rows

namespace Cert.Proof

open Idealize.ShloMosaic Idealize.ShloMosaic.TcCoe Idealize.SL.Sem
open Cert.InProjIdeal.Kernel Cert.InProjIdeal.Gen Cert.InProjReferenceIdeal.Gen Cert.InProjMath

instance pre_finite_in_facts : Cert.Pre_finite_in.Facts := ⟨by decide, by decide, by decide⟩

/-- The comparison the precondition makes of one entry. -/
def Cond (a : EReal) : Prop := BitVec.ofBool (decide (max a (-a) < Ideal.ofBits .f32 0x7F800000#32)) = 1#1

/-- The precondition, read entry by entry: the rows, the gain and the weights are real. -/
theorem real3 (m : (ℓ : Loc Cert.InProjIdeal.nD Cert.InProjIdeal.τ Cert.InProjIdeal.sig) → Buf (Elt Ideal) ℓ)
    (h : Cert.Pre_InProjIdeal_finite_in m) (c : Dev Cert.InProjIdeal.nD) : Real3 m c := by
  have key : ∀ a : EReal, Cond a → IsReal a := fun a e => by
    unfold Cond at e
    refine isReal_of_abs_lt ?_
    rw [← ofBits_inf]
    by_contra hn
    simp [hn] at e
  exact ⟨fun i => key _ (congrFun (h c).1 i), fun i => key _ (congrFun (h c).2.1 i), fun i => key _ (congrFun (h c).2.2 i)⟩

set_option maxHeartbeats 4000000 in
/-- From one memory of real rows, gain and weights, the kernel's five results are the reference's. -/
theorem in_proj_algebraic : Cert.algebraic_InProjIdeal_InProjReferenceIdeal_pre_finite_in := by
  intro m g m' g' hpre hagree
  refine ⟨fun c => resU (aX m c) (aN m c) (aW m c), fun c => resQ (aX m c) (aN m c) (aW m c) (aQ m c),
    fun c => resK (aX m c) (aN m c) (aW m c) (aK m c) (m ((c.tc : Thread Cert.InProjIdeal.nD Cert.InProjIdeal.τ).loc Cert.InProjIdeal.main_arg5)),
    fun c => resV (aX m c) (aN m c) (aW m c) (m ((c.tc : Thread Cert.InProjIdeal.nD Cert.InProjIdeal.τ).loc Cert.InProjIdeal.main_arg6)),
    fun c => resR (aX m c) (aN m c) (aW m c), ?_, ?_⟩
  · exact (θ_run _ _ _).mono (fun _ h c => ⟨((h.1 c).1 6).trans (final6 m c), ((h.1 c).1 7).trans (final7 m c (real3 m hpre c)),
      ((h.1 c).1 8).trans (final8 m c (real3 m hpre c)), ((h.1 c).1 9).trans (final9 m c), ((h.1 c).1 10).trans (final10 m c),
      h.2.1 c⟩) (θ_run_and (run_main m g) (Cert.InProjIdeal.Kernel.frame m g))
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩) (Cert.InProjReferenceIdeal.Value.run (F := Ideal) m' g')
    · rw [(hagree c).1, (hagree c).2.1, (hagree c).2.2.1, Cert.InProjReferenceIdeal.Rows.rows_eq]
      funext i
      obtain ⟨k, r, e, rfl⟩ : ∃ (k : Fin 4) (r : Fin 16384) (e : Fin 128), i = ix3 k r e := ⟨i 0, i 1, i 2, by blk_ext⟩
      pointwise [resU]
    · rw [(hagree c).1, (hagree c).2.1, (hagree c).2.2.1, (hagree c).2.2.2.1, Cert.InProjReferenceIdeal.Rows.rows_eq]
      funext i
      obtain ⟨r, q, rfl⟩ : ∃ (r : Fin 16384) (q : Fin 512), i = ix2 r q := ⟨i 0, i 1, by blk_ext⟩
      pointwise [resQ, headed]
    · rw [(hagree c).1, (hagree c).2.1, (hagree c).2.2.1, (hagree c).2.2.2.2.1, (hagree c).2.2.2.2.2.1, Cert.InProjReferenceIdeal.Rows.rows_eq]
      funext i
      obtain ⟨k, r, q, rfl⟩ : ∃ (k : Fin 2) (r : Fin 16384) (q : Fin 512), i = ix3 k r q := ⟨i 0, i 1, i 2, by blk_ext⟩
      fin_cases k <;> pointwise [resK, headed] <;> rfl
    · rw [(hagree c).1, (hagree c).2.1, (hagree c).2.2.1, (hagree c).2.2.2.2.2.2, Cert.InProjReferenceIdeal.Rows.rows_eq]
      funext i
      obtain ⟨k, r, q, rfl⟩ : ∃ (k : Fin 2) (r : Fin 16384) (q : Fin 512), i = ix3 k r q := ⟨i 0, i 1, i 2, by blk_ext⟩
      fin_cases k <;> pointwise [resV] <;> rfl
    · rw [(hagree c).1, (hagree c).2.1, (hagree c).2.2.1, Cert.InProjReferenceIdeal.Rows.rows_eq]
      funext i
      obtain ⟨r, q, rfl⟩ : ∃ (r : Fin 16384) (q : Fin 2048), i = ix2 r q := ⟨i 0, i 1, by blk_ext⟩
      pointwise [resR]

end Cert.Proof

end
-- ==== Proof.SbPoint.lean ====
/-
  One point of the stick-breaking kernel: what a query block's accumulator holds after the block's own key tile, after
  each pass over two earlier tiles and after the first tile, as sums over the keys met so far.
-/
module

public import proofs.«01_k».proof.Proof.Gen.SbIdeal.Frame
public import Idealize.ShloMosaic.Lib.Pointwise
public import Idealize.ShloMosaic.Lib.VecWindow
public import Idealize.ShloMosaic.Lib.Pipeline.ValueKit

@[expose] public section

set_option maxRecDepth 16384

noncomputable section

open Idealize.ShloMosaic Idealize.ShloMosaic.TcCoe Idealize.ShloMosaic.Tactic
open Idealize.ShloMosaic.Pipeline (Dat)

namespace Cert.SbIdeal.Value

open Cert.SbIdeal Cert.SbIdeal.Gen

/-- `log (1 + e^z)` as the kernel computes it. -/
def soft (z : Ideal .f32) : EReal := max z 0 + Ideal.log (1 + Ideal.exp (0 - FloatOps.absf z))

/-- A query row's score at key `n`: the row of `q` against the key's row, with the head's bias. -/
def score (q : FVec Ideal S256x128 .bf16) (b : EReal) (K : FVec Ideal S1x2048x128 .f32) (r : Fin 256) (n : ℕ) : EReal :=
  ∑ x : Fin 128, q (ix2 r x) * K (ix3 0 (Fin.ofNat 2048 n) x) + b

/-- The weight of key `n` when the keys before `E` are the ones allowed. -/
def weight (z : ℕ → EReal) (E n : ℕ) : EReal := Ideal.exp (z n - soft (z n) - ∑ k ∈ Finset.Ico (n + 1) E, soft (z k))

/-- A sum over a tile's keys that satisfy `P` is the sum over those keys. -/
theorem tile_sum {M : Type} [AddCommMonoid M] (f : ℕ → M) (o : ℕ) (P : ℕ → Prop) [DecidablePred P] (S : Finset ℕ)
    (hS : ∀ n, n ∈ S ↔ (o ≤ n ∧ n < o + 256) ∧ P n) :
    ∑ x : Fin 256, (if P (o + x.val) then f (o + x.val) else 0) = ∑ n ∈ S, f n := by
  rw [Fin.sum_univ_eq_sum_range (fun x => if P (o + x) then f (o + x) else 0) 256]
  have e : S = (Finset.Ico o (o + 256)).filter P := by
    ext n; rw [hS, Finset.mem_filter, Finset.mem_Ico]
  rw [e, Finset.sum_filter, Finset.sum_Ico_eq_sum_range]
  simp

/-- A sum over all of a tile's keys. -/
theorem tile_sum_all {M : Type} [AddCommMonoid M] (f : ℕ → M) (o : ℕ) :
    ∑ x : Fin 256, f (o + x.val) = ∑ n ∈ Finset.Ico o (o + 256), f n := by
  have := tile_sum f o (fun _ => True) (Finset.Ico o (o + 256)) (fun n => by simp [Finset.mem_Ico])
  simpa using this

theorem sub_add_tile (z : ℕ → EReal) (o E : ℕ) (h : o + 256 ≤ E) :
    ∑ n ∈ Finset.Ico (o + 256) E, soft (z n) + ∑ x : Fin 256, soft (z (o + x.val)) = ∑ n ∈ Finset.Ico o E, soft (z n) := by
  rw [tile_sum_all (fun n => soft (z n)) o, add_comm, Finset.sum_Ico_consecutive _ (by omega) h]

/-- A whole tile's weights, from the tile's later keys and the sum of the later tiles. -/
theorem weight_tile (z : ℕ → EReal) (o E : ℕ) (h : o + 256 ≤ E) (T : Fin 256 → EReal) (j : Fin 256)
    (hT : ∀ x : Fin 256, T x = if j.val < x.val then 1 else 0) :
    Ideal.exp (z (o + j.val) - soft (z (o + j.val)) - (∑ x : Fin 256, soft (z (o + x.val)) * T x + ∑ n ∈ Finset.Ico (o + 256) E, soft (z n)))
      = weight z E (o + j.val) := by
  unfold weight
  have e : ∑ x : Fin 256, soft (z (o + x.val)) * T x = ∑ n ∈ Finset.Ico (o + j.val + 1) (o + 256), soft (z n) := by
    rw [← tile_sum (fun n => soft (z n)) o (fun n => o + j.val < n) _ (fun n => by rw [Finset.mem_Ico]; omega)]
    refine Finset.sum_congr rfl fun x _ => ?_
    rw [hT]
    by_cases hx : j.val < x.val
    · rw [if_pos hx, if_pos (by omega), mul_one]
    · rw [if_neg hx, mul_zero, if_neg (by omega)]
  rw [e, Finset.sum_Ico_consecutive _ (by omega) h]

/-- The block's own tile: the weights of the keys before the row. -/
theorem weight_own (z : ℕ → EReal) (o : ℕ) (r : Fin 256) (T : Fin 256 → EReal) (j : Fin 256)
    (hT : ∀ x : Fin 256, T x = if j.val < x.val then 1 else 0) :
    Ideal.exp (z (o + j.val) - soft (z (o + j.val)) - (∑ x : Fin 256, (if x.val < r.val then soft (z (o + x.val)) else 0) * T x + 0))
      = weight z (o + r.val) (o + j.val) := by
  unfold weight
  have e : ∑ x : Fin 256, (if x.val < r.val then soft (z (o + x.val)) else 0) * T x = ∑ n ∈ Finset.Ico (o + j.val + 1) (o + r.val), soft (z n) := by
    rw [← tile_sum (fun n => soft (z n)) o (fun n => o + j.val < n ∧ n < o + r.val) _ (fun n => by rw [Finset.mem_Ico]; have := r.isLt; omega)]
    refine Finset.sum_congr rfl fun x _ => ?_
    rw [hT]
    by_cases hx : j.val < x.val
    · by_cases hr : x.val < r.val
      · rw [if_pos hx, if_pos hr, if_pos (by omega), mul_one]
      · rw [if_neg hr, zero_mul, if_neg (by omega)]
    · rw [if_neg hx, mul_zero, if_neg (by omega)]
  rw [e, add_zero]

/-- A row's score against row `j` of a tile of keys. -/
def tileScore (q : FVec Ideal S256x128 .bf16) (b : EReal) (kb : FVec Ideal S1x256x128 .f32) (r j : Fin 256) : EReal :=
  ∑ x : Fin 128, q (ix2 r x) * kb (ix3 0 j x) + b

/-- A row's weight at row `j` of a tile of keys, `C` the sum of the later tiles. -/
def tileWeight (tri : FVec Ideal S256x256 .bf16) (z : Fin 256 → EReal) (C : EReal) (j : Fin 256) : EReal :=
  Ideal.exp (z j - soft (z j) - (∑ x : Fin 256, soft (z x) * tri (ix2 x j) + C))

theorem lane_lo (l : Fin 128) (h : l.val < 64) : k0_pay88 (ix2 0 l) = 1#1 := by
  have e : k0_pay88 (ix2 0 l) = IntOp.cmpi CmpIPredicate.slt (BitVec.ofNat 32 ↑l) 64#32 := by pointwise [k0_pay88]
  rw [e]; revert h; revert l; decide +kernel

theorem lane_lo' (l : Fin 128) (h : ¬l.val < 64) : k0_pay88 (ix2 0 l) = 0#1 := by
  have e : k0_pay88 (ix2 0 l) = IntOp.cmpi CmpIPredicate.slt (BitVec.ofNat 32 ↑l) 64#32 := by pointwise [k0_pay88]
  rw [e]; revert h; revert l; decide +kernel

theorem lane_hi (l : Fin 128) (h : ¬l.val < 64) : k0_pay89 (ix2 0 l) = 1#1 := by
  have e : k0_pay89 (ix2 0 l) = IntOp.cmpi CmpIPredicate.sge (BitVec.ofNat 32 ↑l) 64#32 := by pointwise [k0_pay89]
  rw [e]; revert h; revert l; decide +kernel

theorem lane_hi' (l : Fin 128) (h : l.val < 64) : k0_pay89 (ix2 0 l) = 0#1 := by
  have e : k0_pay89 (ix2 0 l) = IntOp.cmpi CmpIPredicate.sge (BitVec.ofNat 32 ↑l) 64#32 := by pointwise [k0_pay89]
  rw [e]; revert h; revert l; decide +kernel

theorem below (r j : Fin 256) : k0_pay92 (ix2 r j) = if j.val < r.val then 1#1 else 0#1 := by
  have e : k0_pay92 (ix2 r j) = IntOp.cmpi CmpIPredicate.slt (BitVec.ofNat 32 ↑j) (BitVec.ofNat 32 ↑r) := by pointwise [k0_pay92]
  rw [e]
  have hj := j.isLt; have hr := r.isLt
  have e1 : (BitVec.ofNat 32 j.val).toInt = j.val := by
    have h : (BitVec.ofNat 32 j.val).toNat = j.val := by rw [BitVec.toNat_ofNat]; omega
    rw [BitVec.toInt_eq_toNat_of_lt (by rw [h]; omega), h]
  have e2 : (BitVec.ofNat 32 r.val).toInt = r.val := by
    have h : (BitVec.ofNat 32 r.val).toNat = r.val := by rw [BitVec.toNat_ofNat]; omega
    rw [BitVec.toInt_eq_toNat_of_lt (by rw [h]; omega), h]
  have e3 : BitVec.slt (BitVec.ofNat 32 j.val) (BitVec.ofNat 32 r.val) = decide (j.val < r.val) := by
    simp only [BitVec.slt, e1, e2, Nat.cast_lt]
  unfold IntOp.cmpi
  simp only [e3]
  by_cases h : j.val < r.val <;> simp [h]

theorem select_one {α : Type} (a b : α) : Scalar.select 1#1 a b = a := rfl
theorem select_zero {α : Type} (a b : α) : Scalar.select 0#1 a b = b := rfl

/-- Weights times a tile's values in the lanes of one head. -/
def laneSum (v : IVec S1x128 1) (e : FVec Ideal S256x256 .bf16) (x : FVec Ideal S1x256x128 .f32) : FVec Ideal S256x128 .f32 :=
  matmul dot_S256x256_S256x128_S256x128_1_0_0_1_n_n none e
    (truncf .bf16 (select (broadcastTo S256x128 (shapeCast S1x128 v shapeCasts_S1x128_S1x128) broadcasts_S1x128_S256x128)
      (shapeCast S256x128 x shapeCasts_S1x256x128_S256x128) (broadcast S256x128 (Scalar.ofBits .f32 0x00000000#32))) bitsLt_bf16_f32)
    (constant S256x128 .f32 0x00000000#32)

theorem laneSum_at (v : IVec S1x128 1) (e : FVec Ideal S256x256 .bf16) (x : FVec Ideal S1x256x128 .f32) (r : Fin 256) (l : Fin 128) :
    laneSum v e x (ix2 r l) = ∑ j, Scalar.select (v (ix2 0 l)) (e (ix2 r j) * x (ix3 0 j l)) 0 := by
  pointwise [laneSum]

section Trip

variable (q0 q1 : FVec Ideal S256x128 .bf16) (b0 b1 : Elt Ideal .f32) (tri : FVec Ideal S256x256 .bf16)
  (x0 x1 k1 k2 v1 v2 : FVec Ideal S1x256x128 .f32) (a : FVec Ideal S256x128 .f32) (C0 C1 : Fin 256 → EReal)

theorem p14 (r j : Fin 256) : k0_pay14 q0 b0 k1 (ix2 r j) = soft (tileScore q0 b0 k1 r j) := by
  unfold soft tileScore; pointwise [k0_pay14, k0_pay13, k0_pay11]
theorem p15 (r j : Fin 256) : k0_pay15 (k0_pay13 q0 b0 k1) (k0_pay14 q0 b0 k1) (ix2 r j) = tileScore q0 b0 k1 r j - soft (tileScore q0 b0 k1 r j) := by
  have e : k0_pay15 (k0_pay13 q0 b0 k1) (k0_pay14 q0 b0 k1) (ix2 r j) = k0_pay13 q0 b0 k1 (ix2 r j) - k0_pay14 q0 b0 k1 (ix2 r j) := rfl
  rw [e, p14]; congr 1; unfold tileScore; pointwise [k0_pay13, k0_pay11]
theorem p18 (r j : Fin 256) : k0_pay18 q0 b0 (k0_pay11 k1) (ix2 r j) = soft (tileScore q0 b0 k1 r j) := by
  unfold soft tileScore; pointwise [k0_pay18, k0_pay17, k0_pay11]
theorem p19 (r j : Fin 256) : k0_pay19 q0 b0 (k0_pay11 k1) (ix2 r j) = tileScore q0 b0 k1 r j - soft (tileScore q0 b0 k1 r j) := by
  have e : k0_pay19 q0 b0 (k0_pay11 k1) (ix2 r j) = k0_pay17 q0 b0 (k0_pay11 k1) (ix2 r j) - k0_pay18 q0 b0 (k0_pay11 k1) (ix2 r j) := rfl
  rw [e, p18]; congr 1; unfold tileScore; pointwise [k0_pay17, k0_pay11]
theorem p22 (r j : Fin 256) : k0_pay22 q0 b0 (k0_pay12 k1) (ix2 r j) = soft (tileScore q0 b0 k1 r j) := by
  unfold soft tileScore; pointwise [k0_pay22, k0_pay21, k0_pay12]
theorem p23 (r j : Fin 256) : k0_pay23 q0 b0 (k0_pay12 k1) (ix2 r j) = tileScore q0 b0 k1 r j - soft (tileScore q0 b0 k1 r j) := by
  have e : k0_pay23 q0 b0 (k0_pay12 k1) (ix2 r j) = k0_pay21 q0 b0 (k0_pay12 k1) (ix2 r j) - k0_pay22 q0 b0 (k0_pay12 k1) (ix2 r j) := rfl
  rw [e, p22]; congr 1; unfold tileScore; pointwise [k0_pay21, k0_pay12]
theorem p25 (r j : Fin 256) : k0_pay25 q0 b0 (k0_pay12 k1) (ix2 r j) = tileScore q0 b0 k1 r j := by
  unfold tileScore; pointwise [k0_pay25, k0_pay12]
theorem p29 (r j : Fin 256) : k0_pay29 (k0_pay26 q0 b0 (k0_pay12 k1)) (k0_pay27 q0 b0 (k0_pay12 k1)) k0_pay28 (ix2 r j) = soft (tileScore q0 b0 k1 r j) := by
  unfold soft tileScore; pointwise [k0_pay29, k0_pay26, k0_pay27, k0_pay28, k0_pay25, k0_pay12]

theorem p16 (s : FVec Ideal S256x256 .f32) (r : Fin 256) : k0_pay16 s (ix2 r 0) = ∑ x, s (ix2 r x) := by pointwise [k0_pay16]
theorem p20 (r : Fin 256) : k0_pay20 q0 b0 (k0_pay11 k1) (ix2 r 0) = ∑ x, soft (tileScore q0 b0 k1 r x) := by
  pointwise [k0_pay20]; simp only [p18]
theorem p24 (r : Fin 256) : k0_pay24 q0 b0 (k0_pay12 k1) (ix2 r 0) = ∑ x, soft (tileScore q0 b0 k1 r x) := by
  pointwise [k0_pay24]; simp only [p22]

/-- The first head's sum of later keys after a pass over two tiles. -/
theorem trip_sum0 (hx : ∀ r l, x0 (ix3 0 r l) = C0 r) (r : Fin 256) (l : Fin 128) :
    k0_pay38 (k0_pay34 (k0_pay9 x0) (k0_pay16 (k0_pay14 q0 b0 k1)) (k0_pay24 q0 b0 (k0_pay12 k2))) (ix3 0 r l)
      = C0 r + ∑ x, soft (tileScore q0 b0 k1 r x) + ∑ x, soft (tileScore q0 b0 k2 r x) := by
  pointwise [k0_pay38, k0_pay34, k0_pay30, k0_pay9]
  simp only [p24, p16, p14, hx]

/-- The second head's. -/
theorem trip_sum1 (hx : ∀ r l, x1 (ix3 0 r l) = C1 r) (r : Fin 256) (l : Fin 128) :
    k0_pay39 (k0_pay36 (k0_pay10 x1) (k0_pay20 q1 b1 (k0_pay11 k1)) (k0_pay26 q1 b1 (k0_pay12 k2)) (k0_pay27 q1 b1 (k0_pay12 k2)) k0_pay28) (ix3 0 r l)
      = C1 r + ∑ x, soft (tileScore q1 b1 k1 r x) + ∑ x, soft (tileScore q1 b1 k2 r x) := by
  pointwise [k0_pay39, k0_pay36, k0_pay32, k0_pay10]
  simp only [p20, p29, hx]

/-- The accumulator after a pass over two tiles. -/
def tripAcc : FVec Ideal S256x128 .f32 :=
  k0_pay4 (k0_pay40 k0_pay88 k0_pay89
    (k0_pay31 (k0_pay8 tri) (k0_pay10 x1) (k0_pay18 q1 b1 (k0_pay11 k1)) (k0_pay19 q1 b1 (k0_pay11 k1)))
    (k0_pay33 (k0_pay8 tri) (k0_pay9 x0) (k0_pay16 (k0_pay14 q0 b0 k1)) (k0_pay22 q0 b0 (k0_pay12 k2)) (k0_pay23 q0 b0 (k0_pay12 k2)))
    (k0_pay35 (k0_pay8 tri) (k0_pay10 x1) (k0_pay20 q1 b1 (k0_pay11 k1)) (k0_pay25 q1 b1 (k0_pay12 k2)) (k0_pay26 q1 b1 (k0_pay12 k2)) (k0_pay27 q1 b1 (k0_pay12 k2)) k0_pay28)
    (k0_pay37 k0_pay88 (k0_pay8 tri) (k0_pay9 x0) (k0_pay14 q0 b0 k1) (k0_pay15 (k0_pay13 q0 b0 k1) (k0_pay14 q0 b0 k1)) v1)
    v1 v2 v2 a)

theorem w31 (hx : ∀ r l, x1 (ix3 0 r l) = C1 r) (r j : Fin 256) :
    k0_pay31 (k0_pay8 tri) (k0_pay10 x1) (k0_pay18 q1 b1 (k0_pay11 k1)) (k0_pay19 q1 b1 (k0_pay11 k1)) (ix2 r j)
      = tileWeight tri (tileScore q1 b1 k1 r) (C1 r) j := by
  unfold tileWeight
  pointwise [k0_pay31, k0_pay8, k0_pay10]
  simp only [p18, p19, hx, dite_eq_ite, ite_self]

theorem w33 (hx : ∀ r l, x0 (ix3 0 r l) = C0 r) (r j : Fin 256) :
    k0_pay33 (k0_pay8 tri) (k0_pay9 x0) (k0_pay16 (k0_pay14 q0 b0 k1)) (k0_pay22 q0 b0 (k0_pay12 k2)) (k0_pay23 q0 b0 (k0_pay12 k2)) (ix2 r j)
      = tileWeight tri (tileScore q0 b0 k2 r) (C0 r + ∑ x, soft (tileScore q0 b0 k1 r x)) j := by
  unfold tileWeight
  pointwise [k0_pay33, k0_pay30, k0_pay8, k0_pay9]
  simp only [p22, p23, p16, p14, hx, dite_eq_ite, ite_self]

theorem w35 (hx : ∀ r l, x1 (ix3 0 r l) = C1 r) (r j : Fin 256) :
    k0_pay35 (k0_pay8 tri) (k0_pay10 x1) (k0_pay20 q1 b1 (k0_pay11 k1)) (k0_pay25 q1 b1 (k0_pay12 k2)) (k0_pay26 q1 b1 (k0_pay12 k2)) (k0_pay27 q1 b1 (k0_pay12 k2)) k0_pay28 (ix2 r j)
      = tileWeight tri (tileScore q1 b1 k2 r) (C1 r + ∑ x, soft (tileScore q1 b1 k1 r x)) j := by
  unfold tileWeight
  pointwise [k0_pay35, k0_pay32, k0_pay8, k0_pay10]
  simp only [p20, p25, p29, hx, dite_eq_ite, ite_self]

theorem w37 (hx : ∀ r l, x0 (ix3 0 r l) = C0 r) (v5 : IVec S1x128 1) (r : Fin 256) (l : Fin 128) :
    k0_pay37 v5 (k0_pay8 tri) (k0_pay9 x0) (k0_pay14 q0 b0 k1) (k0_pay15 (k0_pay13 q0 b0 k1) (k0_pay14 q0 b0 k1)) v1 (ix2 r l)
      = ∑ j, Scalar.select (v5 (ix2 0 l)) (tileWeight tri (tileScore q0 b0 k1 r) (C0 r) j * v1 (ix3 0 j l)) 0 := by
  rw [show k0_pay37 v5 (k0_pay8 tri) (k0_pay9 x0) (k0_pay14 q0 b0 k1) (k0_pay15 (k0_pay13 q0 b0 k1) (k0_pay14 q0 b0 k1)) v1
    = laneSum v5 (k0_pay31 (k0_pay8 tri) (k0_pay9 x0) (k0_pay14 q0 b0 k1) (k0_pay15 (k0_pay13 q0 b0 k1) (k0_pay14 q0 b0 k1))) v1 from rfl, laneSum_at]
  refine Finset.sum_congr rfl fun j _ => congrArg (fun w => Scalar.select (v5 (ix2 0 l)) (w * v1 (ix3 0 j l)) 0) ?_
  unfold tileWeight
  pointwise [k0_pay31, k0_pay8, k0_pay9]
  simp only [p14, p15, hx, dite_eq_ite, ite_self]

theorem tripAcc_lo (h0 : ∀ r l, x0 (ix3 0 r l) = C0 r) (h1 : ∀ r l, x1 (ix3 0 r l) = C1 r) (r : Fin 256) (l : Fin 128) (hl : l.val < 64) :
    tripAcc q0 q1 b0 b1 tri x0 x1 k1 k2 v1 v2 a (ix2 r l)
      = a (ix2 r l) + (∑ j, tileWeight tri (tileScore q0 b0 k1 r) (C0 r) j * v1 (ix3 0 j l)
        + ∑ j, tileWeight tri (tileScore q0 b0 k2 r) (C0 r + ∑ x, soft (tileScore q0 b0 k1 r x)) j * v2 (ix3 0 j l)) := by
  unfold tripAcc
  pointwise [k0_pay4, k0_pay40]
  simp only [w31 q1 b1 tri x1 k1 C1 h1, w33 q0 b0 tri x0 k1 k2 C0 h0, w35 q1 b1 tri x1 k1 k2 C1 h1, w37 q0 b0 tri x0 k1 v1 C0 h0,
    lane_lo l hl, lane_hi' l hl, select_one, select_zero, Finset.sum_const_zero, add_zero]

theorem tripAcc_hi (h0 : ∀ r l, x0 (ix3 0 r l) = C0 r) (h1 : ∀ r l, x1 (ix3 0 r l) = C1 r) (r : Fin 256) (l : Fin 128) (hl : ¬l.val < 64) :
    tripAcc q0 q1 b0 b1 tri x0 x1 k1 k2 v1 v2 a (ix2 r l)
      = a (ix2 r l) + (∑ j, tileWeight tri (tileScore q1 b1 k1 r) (C1 r) j * v1 (ix3 0 j l)
        + ∑ j, tileWeight tri (tileScore q1 b1 k2 r) (C1 r + ∑ x, soft (tileScore q1 b1 k1 r x)) j * v2 (ix3 0 j l)) := by
  unfold tripAcc
  pointwise [k0_pay4, k0_pay40]
  simp only [w31 q1 b1 tri x1 k1 C1 h1, w33 q0 b0 tri x0 k1 k2 C0 h0, w35 q1 b1 tri x1 k1 k2 C1 h1, w37 q0 b0 tri x0 k1 v1 C0 h0,
    lane_lo' l hl, lane_hi l hl, select_one, select_zero, Finset.sum_const_zero, add_zero, zero_add]

end Trip

section Tail

variable (q0 q1 : FVec Ideal S256x128 .bf16) (b0 b1 : Elt Ideal .f32) (tri : FVec Ideal S256x256 .bf16)
  (x0 x1 k1 v1 : FVec Ideal S1x256x128 .f32) (a : FVec Ideal S256x128 .f32) (C0 C1 : Fin 256 → EReal)

theorem p79 (r j : Fin 256) : k0_pay79 q0 b0 k1 (ix2 r j) = soft (tileScore q0 b0 k1 r j) := by
  unfold soft tileScore; pointwise [k0_pay79, k0_pay78, k0_pay77]
theorem p80 (r j : Fin 256) : k0_pay80 q0 b0 k1 (ix2 r j) = tileScore q0 b0 k1 r j - soft (tileScore q0 b0 k1 r j) := by
  rw [← p79]; unfold tileScore; pointwise [k0_pay80, k0_pay78, k0_pay77]
theorem p82 (r j : Fin 256) : k0_pay82 q0 b0 k1 (ix2 r j) = tileScore q0 b0 k1 r j := by
  unfold tileScore; pointwise [k0_pay82, k0_pay77]
theorem p83 (r j : Fin 256) : k0_pay83 q0 b0 k1 (ix2 r j) = soft (tileScore q0 b0 k1 r j) := by
  rw [← p82]; unfold soft; pointwise [k0_pay83]

/-- The accumulator after the first tile. -/
def tailAcc : FVec Ideal S256x128 .f32 :=
  k0_pay7 (k0_pay85 k0_pay88 k0_pay89 (k0_pay74 tri) (k0_pay75 x0) (k0_pay76 x1) (k0_pay79 q0 b0 k1) (k0_pay80 q0 b0 k1)
    (k0_pay82 q1 b1 k1) (k0_pay83 q1 b1 k1) v1 v1) a

theorem tail_at (h0 : ∀ r l, x0 (ix3 0 r l) = C0 r) (h1 : ∀ r l, x1 (ix3 0 r l) = C1 r) (r : Fin 256) (l : Fin 128) :
    tailAcc q0 q1 b0 b1 tri x0 x1 k1 v1 a (ix2 r l)
      = a (ix2 r l) + (∑ j, Scalar.select (k0_pay88 (ix2 0 l)) (tileWeight tri (tileScore q0 b0 k1 r) (C0 r) j * v1 (ix3 0 j l)) 0
        + ∑ j, Scalar.select (k0_pay89 (ix2 0 l)) (tileWeight tri (tileScore q1 b1 k1 r) (C1 r) j * v1 (ix3 0 j l)) 0) := by
  rw [show tailAcc q0 q1 b0 b1 tri x0 x1 k1 v1 a = shapeCast S256x128 (addf a (addf
      (laneSum k0_pay88 (k0_pay31 (k0_pay74 tri) (k0_pay75 x0) (k0_pay79 q0 b0 k1) (k0_pay80 q0 b0 k1)) v1)
      (laneSum k0_pay89 (k0_pay31 (k0_pay74 tri) (k0_pay76 x1) (k0_pay83 q1 b1 k1) (subf (k0_pay82 q1 b1 k1) (k0_pay83 q1 b1 k1))) v1)))
      shapeCasts_S256x128_S256x128 from rfl]
  pointwise []
  rw [laneSum_at, laneSum_at]
  have e0 : ∀ j, k0_pay31 (k0_pay74 tri) (k0_pay75 x0) (k0_pay79 q0 b0 k1) (k0_pay80 q0 b0 k1) (ix2 r j)
      = tileWeight tri (tileScore q0 b0 k1 r) (C0 r) j := fun j => by
    unfold tileWeight
    pointwise [k0_pay31, k0_pay74, k0_pay75]
    simp only [p79, p80, h0, dite_eq_ite, ite_self]
  have e1 : ∀ j, k0_pay31 (k0_pay74 tri) (k0_pay76 x1) (k0_pay83 q1 b1 k1) (subf (k0_pay82 q1 b1 k1) (k0_pay83 q1 b1 k1)) (ix2 r j)
      = tileWeight tri (tileScore q1 b1 k1 r) (C1 r) j := fun j => by
    unfold tileWeight
    pointwise [k0_pay31, k0_pay74, k0_pay76]
    simp only [p82, p83, h1, dite_eq_ite, ite_self]
  simp only [e0, e1]

end Tail

section Own

variable (q0 q1 : FVec Ideal S256x128 .bf16) (b0 b1 : Elt Ideal .f32) (tri : FVec Ideal S256x256 .bf16)
  (x0 x1 k1 v1 : FVec Ideal S1x256x128 .f32) (a : FVec Ideal S256x128 .f32)

theorem p99 (r j : Fin 256) : k0_pay99 q0 b0 k1 (ix2 r j) = tileScore q0 b0 k1 r j := by
  unfold tileScore; pointwise [k0_pay99, k0_pay98]
theorem p100 (r j : Fin 256) : k0_pay100 q0 b0 k1 (ix2 r j) = soft (tileScore q0 b0 k1 r j) := by
  unfold soft tileScore; pointwise [k0_pay100, k0_pay99, k0_pay98]
theorem p101 (r j : Fin 256) : k0_pay101 q0 b0 k1 (ix2 r j) = tileScore q0 b0 k1 r j - soft (tileScore q0 b0 k1 r j) := by
  have e : k0_pay101 q0 b0 k1 (ix2 r j) = k0_pay99 q0 b0 k1 (ix2 r j) - k0_pay100 q0 b0 k1 (ix2 r j) := rfl
  rw [e, p99, p100]
theorem p102 (r j : Fin 256) : k0_pay102 q0 b0 k0_pay92 k1 (ix2 r j) = if j.val < r.val then soft (tileScore q0 b0 k1 r j) else 0 := by
  pointwise [k0_pay102]
  rw [below, p100]; split <;> rfl
theorem p104 (r j : Fin 256) : k0_pay104 q0 b0 k1 (ix2 r j) = tileScore q0 b0 k1 r j := by
  unfold tileScore; pointwise [k0_pay104, k0_pay98]
theorem p107 (r j : Fin 256) : k0_pay107 (k0_pay105 q0 b0 k1) (k0_pay106 q0 b0 k1) (ix2 r j) = soft (tileScore q0 b0 k1 r j) := by
  unfold soft tileScore; pointwise [k0_pay107, k0_pay105, k0_pay106, k0_pay104, k0_pay98]
theorem p108 (r j : Fin 256) : k0_pay108 k0_pay92 (k0_pay105 q0 b0 k1) (k0_pay106 q0 b0 k1) (ix2 r j) = if j.val < r.val then soft (tileScore q0 b0 k1 r j) else 0 := by
  pointwise [k0_pay108]
  rw [below, p107]; split <;> rfl

/-- The weights of the block's own tile: those of the keys before the row. -/
def ownWeights (t : FVec Ideal S256x256 .bf16) (c : FVec Ideal S256x128 .f32) (s g : FVec Ideal S256x256 .f32) : FVec Ideal S256x256 .bf16 :=
  truncf .bf16 (select k0_pay92 (exp (subf g (addf
    (matmul dot_S256x256_S256x256_S256x256_1_0_0_1_n_n none (truncf .bf16 s bitsLt_bf16_f32) t (constant S256x256 .f32 0x00000000#32))
    (concatenate S256x256 1 [⟨S256x128, c⟩, ⟨S256x128, c⟩] concatenates_S256x128_S256x128_S256x256_d1))))
    (broadcast S256x256 (Scalar.ofBits .f32 0x00000000#32))) bitsLt_bf16_f32

/-- The accumulator after the block's own tile. -/
def ownAcc : FVec Ideal S256x128 .f32 :=
  k0_pay3 (k0_pay110 k0_pay92 (k0_pay95 tri) (k0_pay97 x1) (k0_pay104 q1 b1 k1) (k0_pay105 q1 b1 k1) (k0_pay106 q1 b1 k1))
    (k0_pay112 k0_pay88 k0_pay92 (k0_pay95 tri) (k0_pay96 x0) (k0_pay101 q0 b0 k1) (k0_pay102 q0 b0 k0_pay92 k1) v1)
    (k0_pay113 k0_pay89 v1) (constant S256x128 FTy.f32 0#32) a

/-- A row's weight at row `j` of the block's own tile. -/
def ownWeight (tri : FVec Ideal S256x256 .bf16) (z : Fin 256 → EReal) (r j : Fin 256) : EReal :=
  if j.val < r.val then Ideal.exp (z j - soft (z j) - (∑ x : Fin 256, (if x.val < r.val then soft (z x) else 0) * tri (ix2 x j) + 0)) else 0

theorem own_at (h0 : ∀ r l, x0 (ix3 0 r l) = 0) (h1 : ∀ r l, x1 (ix3 0 r l) = 0) (r : Fin 256) (l : Fin 128) :
    ownAcc q0 q1 b0 b1 tri x0 x1 k1 v1 a (ix2 r l)
      = a (ix2 r l) + (∑ j, Scalar.select (k0_pay88 (ix2 0 l)) (ownWeight tri (tileScore q0 b0 k1 r) r j * v1 (ix3 0 j l)) 0
        + ∑ j, Scalar.select (k0_pay89 (ix2 0 l)) (ownWeight tri (tileScore q1 b1 k1 r) r j * v1 (ix3 0 j l)) 0) := by
  rw [show ownAcc q0 q1 b0 b1 tri x0 x1 k1 v1 a = shapeCast S256x128 (addf a (addf
      (laneSum k0_pay88 (ownWeights (k0_pay95 tri) (k0_pay96 x0) (k0_pay102 q0 b0 k0_pay92 k1) (k0_pay101 q0 b0 k1)) v1)
      (laneSum k0_pay89 (ownWeights (k0_pay95 tri) (k0_pay97 x1) (k0_pay108 k0_pay92 (k0_pay105 q1 b1 k1) (k0_pay106 q1 b1 k1))
        (subf (k0_pay104 q1 b1 k1) (k0_pay107 (k0_pay105 q1 b1 k1) (k0_pay106 q1 b1 k1)))) v1)))
      shapeCasts_S256x128_S256x128 from rfl]
  pointwise []
  rw [laneSum_at, laneSum_at]
  have e0 : ∀ j, ownWeights (k0_pay95 tri) (k0_pay96 x0) (k0_pay102 q0 b0 k0_pay92 k1) (k0_pay101 q0 b0 k1) (ix2 r j)
      = ownWeight tri (tileScore q0 b0 k1 r) r j := fun j => by
    unfold ownWeight
    pointwise [ownWeights, k0_pay95, k0_pay96]
    simp only [p101, p102, h0, below, dite_eq_ite, ite_self, add_zero]
    split
    · exact select_one _ _
    · exact select_zero _ _
  have e1 : ∀ j, ownWeights (k0_pay95 tri) (k0_pay97 x1) (k0_pay108 k0_pay92 (k0_pay105 q1 b1 k1) (k0_pay106 q1 b1 k1))
        (subf (k0_pay104 q1 b1 k1) (k0_pay107 (k0_pay105 q1 b1 k1) (k0_pay106 q1 b1 k1))) (ix2 r j)
      = ownWeight tri (tileScore q1 b1 k1 r) r j := fun j => by
    unfold ownWeight
    pointwise [ownWeights, k0_pay95, k0_pay97]
    simp only [p104, p107, p108, h1, below, dite_eq_ite, ite_self, add_zero]
    split
    · exact select_one _ _
    · exact select_zero _ _
  simp only [e0, e1]

theorem own_sum0 (h0 : ∀ r l, x0 (ix3 0 r l) = 0) (r : Fin 256) (l : Fin 128) :
    k0_pay1 (k0_pay109 (k0_pay96 x0) (k0_pay103 q0 b0 k0_pay92 k1)) (ix3 0 r l)
      = ∑ x : Fin 256, if x.val < r.val then soft (tileScore q0 b0 k1 r x) else 0 := by
  pointwise [k0_pay1, k0_pay109, k0_pay96, k0_pay103]
  simp only [p102, h0, zero_add]

theorem own_sum1 (h1 : ∀ r l, x1 (ix3 0 r l) = 0) (r : Fin 256) (l : Fin 128) :
    k0_pay2 (k0_pay111 k0_pay92 (k0_pay97 x1) (k0_pay105 q1 b1 k1) (k0_pay106 q1 b1 k1)) (ix3 0 r l)
      = ∑ x : Fin 256, if x.val < r.val then soft (tileScore q1 b1 k1 r x) else 0 := by
  pointwise [k0_pay2, k0_pay111, k0_pay97]
  simp only [p108, h1, zero_add]

end Own
end Cert.SbIdeal.Value
-- ==== Proof.SbStep.lean ====
/-
  The running state of the stick-breaking kernel: the two rows of sums and the accumulator, after the tiles from key `N`
  up to the query block, and what each kind of tile does to it.
-/
module

public import proofs.«01_k».proof.Proof.SbPoint

@[expose] public section

set_option maxRecDepth 16384

noncomputable section

open Idealize.ShloMosaic Idealize.ShloMosaic.TcCoe Idealize.ShloMosaic.Tactic

namespace Cert.SbIdeal.Value

open Cert.SbIdeal Cert.SbIdeal.Gen

/-- The scores of the head that lane `l` belongs to. -/
def laneScore (q0 q1 : FVec Ideal S256x128 .bf16) (b0 b1 : EReal) (K : FVec Ideal S1x2048x128 .f32) (r : Fin 256) (l : Fin 128) : ℕ → EReal :=
  if l.val < 64 then score q0 b0 K r else score q1 b1 K r

/-- The state after the tiles from key `N` on, of the query block that starts at key `o`: per head the sum over the keys
    met, and the accumulator. -/
structure Inv (q0 q1 : FVec Ideal S256x128 .bf16) (b0 b1 : EReal) (K V : FVec Ideal S1x2048x128 .f32) (o N : ℕ)
    (S : FVec Ideal S2x256x128 .f32) (A : FVec Ideal S256x128 .f32) : Prop where
  s0 : ∀ r l, S (ix3 0 r l) = ∑ n ∈ Finset.Ico N (o + r.val), soft (score q0 b0 K r n)
  s1 : ∀ r l, S (ix3 1 r l) = ∑ n ∈ Finset.Ico N (o + r.val), soft (score q1 b1 K r n)
  acc : ∀ r l, A (ix2 r l) = ∑ n ∈ Finset.Ico N (o + r.val), weight (laneScore q0 q1 b0 b1 K r l) (o + r.val) n * V (ix3 0 (Fin.ofNat 2048 n) l)

/-- The tile of 256 rows from row `o`. -/
def IsTile (K : FVec Ideal S1x2048x128 .f32) (o : ℕ) (k : FVec Ideal S1x256x128 .f32) : Prop :=
  ∀ j l, k (ix3 0 j l) = K (ix3 0 (Fin.ofNat 2048 (o + j.val)) l)

theorem tileScore_eq (q : FVec Ideal S256x128 .bf16) (b : EReal) (K : FVec Ideal S1x2048x128 .f32) (o : ℕ) (k : FVec Ideal S1x256x128 .f32)
    (hk : IsTile K o k) (r j : Fin 256) : tileScore q b k r j = score q b K r (o + j.val) := by
  unfold tileScore score
  simp only [hk _ _]

/-- A tile's part of the accumulator. -/
theorem tile_acc (tri : FVec Ideal S256x256 .bf16) (ht : ∀ x j : Fin 256, tri (ix2 x j) = if j.val < x.val then 1 else 0)
    (z v : ℕ → EReal) (zt : Fin 256 → EReal) (C : EReal) (vt : Fin 256 → EReal) (o E : ℕ) (h : o + 256 ≤ E) (hz : ∀ j, zt j = z (o + j.val))
    (hC : C = ∑ n ∈ Finset.Ico (o + 256) E, soft (z n)) (hv : ∀ j, vt j = v (o + j.val)) :
    ∑ j, tileWeight tri zt C j * vt j = ∑ n ∈ Finset.Ico o (o + 256), weight z E n * v n := by
  rw [← tile_sum_all (fun n => weight z E n * v n) o]
  refine Finset.sum_congr rfl fun j _ => ?_
  rw [hv]
  congr 1
  unfold tileWeight
  simp only [hz, hC]
  exact weight_tile z o E h (fun x => tri (ix2 x j)) j (fun x => ht x j)

/-- The own tile's part of the accumulator. -/
theorem own_acc (tri : FVec Ideal S256x256 .bf16) (ht : ∀ x j : Fin 256, tri (ix2 x j) = if j.val < x.val then 1 else 0)
    (z v : ℕ → EReal) (zt : Fin 256 → EReal) (vt : Fin 256 → EReal) (o : ℕ) (r : Fin 256) (hz : ∀ j, zt j = z (o + j.val))
    (hv : ∀ j, vt j = v (o + j.val)) :
    ∑ j, ownWeight tri zt r j * vt j = ∑ n ∈ Finset.Ico o (o + r.val), weight z (o + r.val) n * v n := by
  rw [← tile_sum (fun n => weight z (o + r.val) n * v n) o (fun n => n < o + r.val) _ (fun n => by rw [Finset.mem_Ico]; have := r.isLt; omega)]
  refine Finset.sum_congr rfl fun j _ => ?_
  rw [hv]
  unfold ownWeight
  simp only [hz]
  by_cases hj : j.val < r.val
  · rw [if_pos hj, if_pos (by omega), weight_own z o r (fun x => tri (ix2 x j)) j (fun x => ht x j)]
  · rw [if_neg hj, if_neg (by omega), zero_mul]

section Steps

variable {q0 q1 : FVec Ideal S256x128 .bf16} {b0 b1 : EReal} {K V : FVec Ideal S1x2048x128 .f32}

/-- The block's own tile starts the state. -/
theorem inv_own (tri : FVec Ideal S256x256 .bf16) (ht : ∀ x j : Fin 256, tri (ix2 x j) = if j.val < x.val then 1 else 0) (o : ℕ)
    (x0 x1 k1 v1 : FVec Ideal S1x256x128 .f32) (a : FVec Ideal S256x128 .f32) (h0 : ∀ r l, x0 (ix3 0 r l) = 0) (h1 : ∀ r l, x1 (ix3 0 r l) = 0)
    (ha : ∀ r l, a (ix2 r l) = 0) (hk : IsTile K o k1) (hv : IsTile V o v1)
    (S : FVec Ideal S2x256x128 .f32)
    (hS0 : ∀ r l, S (ix3 0 r l) = k0_pay1 (k0_pay109 (k0_pay96 x0) (k0_pay103 q0 b0 k0_pay92 k1)) (ix3 0 r l))
    (hS1 : ∀ r l, S (ix3 1 r l) = k0_pay2 (k0_pay111 k0_pay92 (k0_pay97 x1) (k0_pay105 q1 b1 k1) (k0_pay106 q1 b1 k1)) (ix3 0 r l)) :
    Inv q0 q1 b0 b1 K V o o S (ownAcc q0 q1 b0 b1 tri x0 x1 k1 v1 a) := by
  refine ⟨fun r l => ?_, fun r l => ?_, fun r l => ?_⟩
  · rw [hS0, own_sum0 q0 b0 x0 k1 h0, ← tile_sum (fun n => soft (score q0 b0 K r n)) o (fun n => n < o + r.val) _ (fun n => by rw [Finset.mem_Ico]; have := r.isLt; omega)]
    exact Finset.sum_congr rfl fun x _ => by simp only [tileScore_eq q0 b0 K o k1 hk, Nat.add_lt_add_iff_left]
  · rw [hS1, own_sum1 q1 b1 x1 k1 h1, ← tile_sum (fun n => soft (score q1 b1 K r n)) o (fun n => n < o + r.val) _ (fun n => by rw [Finset.mem_Ico]; have := r.isLt; omega)]
    exact Finset.sum_congr rfl fun x _ => by simp only [tileScore_eq q1 b1 K o k1 hk, Nat.add_lt_add_iff_left]
  · rw [own_at q0 q1 b0 b1 tri x0 x1 k1 v1 a h0 h1, ha, zero_add]
    unfold laneScore
    by_cases hl : l.val < 64
    · simp only [lane_lo l hl, lane_hi' l hl, select_one, select_zero, Finset.sum_const_zero, add_zero, if_pos hl]
      exact own_acc tri ht _ _ _ _ o r (fun j => tileScore_eq q0 b0 K o k1 hk r j) (fun j => hv j l)
    · simp only [lane_lo' l hl, lane_hi l hl, select_one, select_zero, Finset.sum_const_zero, zero_add, if_neg hl]
      exact own_acc tri ht _ _ _ _ o r (fun j => tileScore_eq q1 b1 K o k1 hk r j) (fun j => hv j l)

theorem sum_step (q : FVec Ideal S256x128 .bf16) (b : EReal) (M E : ℕ) (h : M + 256 ≤ E) (k : FVec Ideal S1x256x128 .f32) (hk : IsTile K M k) (r : Fin 256) :
    ∑ n ∈ Finset.Ico (M + 256) E, soft (score q b K r n) + ∑ x, soft (tileScore q b k r x) = ∑ n ∈ Finset.Ico M E, soft (score q b K r n) := by
  simp only [tileScore_eq q b K M k hk]
  exact sub_add_tile (score q b K r) M E h

theorem acc_join (f : ℕ → EReal) (M E : ℕ) (h : M + 256 ≤ E) :
    ∑ n ∈ Finset.Ico (M + 256) E, f n + ∑ n ∈ Finset.Ico M (M + 256), f n = ∑ n ∈ Finset.Ico M E, f n := by
  rw [add_comm, Finset.sum_Ico_consecutive _ (by omega) h]

/-- A pass over two earlier tiles, the later one first. -/
theorem inv_trip (tri : FVec Ideal S256x256 .bf16) (ht : ∀ x j : Fin 256, tri (ix2 x j) = if j.val < x.val then 1 else 0) (o M : ℕ) (hM : M + 512 ≤ o)
    (S S' : FVec Ideal S2x256x128 .f32) (A : FVec Ideal S256x128 .f32) (I : Inv q0 q1 b0 b1 K V o (M + 512) S A)
    (x0 x1 k1 k2 v1 v2 : FVec Ideal S1x256x128 .f32) (h0 : ∀ r l, x0 (ix3 0 r l) = S (ix3 0 r l)) (h1 : ∀ r l, x1 (ix3 0 r l) = S (ix3 1 r l))
    (hk1 : IsTile K (M + 256) k1) (hv1 : IsTile V (M + 256) v1) (hk2 : IsTile K M k2) (hv2 : IsTile V M v2)
    (hS0 : ∀ r l, S' (ix3 0 r l) = k0_pay38 (k0_pay34 (k0_pay9 x0) (k0_pay16 (k0_pay14 q0 b0 k1)) (k0_pay24 q0 b0 (k0_pay12 k2))) (ix3 0 r l))
    (hS1 : ∀ r l, S' (ix3 1 r l) = k0_pay39 (k0_pay36 (k0_pay10 x1) (k0_pay20 q1 b1 (k0_pay11 k1)) (k0_pay26 q1 b1 (k0_pay12 k2)) (k0_pay27 q1 b1 (k0_pay12 k2)) k0_pay28) (ix3 0 r l)) :
    Inv q0 q1 b0 b1 K V o M S' (tripAcc q0 q1 b0 b1 tri x0 x1 k1 k2 v1 v2 A) := by
  have e0 : ∀ r l, x0 (ix3 0 r l) = (fun r : Fin 256 => ∑ n ∈ Finset.Ico (M + 256 + 256) (o + r.val), soft (score q0 b0 K r n)) r := fun r l => (h0 r l).trans (I.s0 r l)
  have e1 : ∀ r l, x1 (ix3 0 r l) = (fun r : Fin 256 => ∑ n ∈ Finset.Ico (M + 256 + 256) (o + r.val), soft (score q1 b1 K r n)) r := fun r l => (h1 r l).trans (I.s1 r l)
  refine ⟨fun r l => ?_, fun r l => ?_, fun r l => ?_⟩
  · rw [hS0, trip_sum0 q0 b0 x0 k1 k2 _ e0]
    show ∑ n ∈ Finset.Ico (M + 256 + 256) (o + r.val), soft (score q0 b0 K r n) + _ + _ = _
    rw [sum_step q0 b0 (M + 256) _ (by omega) k1 hk1, sum_step q0 b0 M _ (by omega) k2 hk2]
  · rw [hS1, trip_sum1 q1 b1 x1 k1 k2 _ e1]
    show ∑ n ∈ Finset.Ico (M + 256 + 256) (o + r.val), soft (score q1 b1 K r n) + _ + _ = _
    rw [sum_step q1 b1 (M + 256) _ (by omega) k1 hk1, sum_step q1 b1 M _ (by omega) k2 hk2]
  · unfold laneScore
    have ia := I.acc r l
    unfold laneScore at ia
    by_cases hl : l.val < 64
    · rw [if_pos hl] at ia
      rw [tripAcc_lo q0 q1 b0 b1 tri x0 x1 k1 k2 v1 v2 A _ _ e0 e1 r l hl, ia, if_pos hl,
        tile_acc tri ht (score q0 b0 K r) (fun n => V (ix3 0 (Fin.ofNat 2048 n) l)) _ _ (fun j => v1 (ix3 0 j l)) (M + 256) (o + r.val) (by omega) (fun j => tileScore_eq q0 b0 K _ k1 hk1 r j) rfl (fun j => hv1 j l),
        tile_acc tri ht (score q0 b0 K r) (fun n => V (ix3 0 (Fin.ofNat 2048 n) l)) _ _ (fun j => v2 (ix3 0 j l)) M (o + r.val) (by omega) (fun j => tileScore_eq q0 b0 K _ k2 hk2 r j)
          (sum_step q0 b0 (M + 256) _ (by omega) k1 hk1 r) (fun j => hv2 j l),
        ← add_assoc]
      exact (congrArg (· + _) (acc_join _ (M + 256) (o + r.val) (by omega))).trans (acc_join _ M (o + r.val) (by omega))
    · rw [if_neg hl] at ia
      rw [tripAcc_hi q0 q1 b0 b1 tri x0 x1 k1 k2 v1 v2 A _ _ e0 e1 r l hl, ia, if_neg hl,
        tile_acc tri ht (score q1 b1 K r) (fun n => V (ix3 0 (Fin.ofNat 2048 n) l)) _ _ (fun j => v1 (ix3 0 j l)) (M + 256) (o + r.val) (by omega) (fun j => tileScore_eq q1 b1 K _ k1 hk1 r j) rfl (fun j => hv1 j l),
        tile_acc tri ht (score q1 b1 K r) (fun n => V (ix3 0 (Fin.ofNat 2048 n) l)) _ _ (fun j => v2 (ix3 0 j l)) M (o + r.val) (by omega) (fun j => tileScore_eq q1 b1 K _ k2 hk2 r j)
          (sum_step q1 b1 (M + 256) _ (by omega) k1 hk1 r) (fun j => hv2 j l),
        ← add_assoc]
      exact (congrArg (· + _) (acc_join _ (M + 256) (o + r.val) (by omega))).trans (acc_join _ M (o + r.val) (by omega))

/-- The first tile, when the number of earlier tiles is odd. -/
theorem acc_tail (tri : FVec Ideal S256x256 .bf16) (ht : ∀ x j : Fin 256, tri (ix2 x j) = if j.val < x.val then 1 else 0) (o : ℕ) (hM : 256 ≤ o)
    (S : FVec Ideal S2x256x128 .f32) (A : FVec Ideal S256x128 .f32) (I : Inv q0 q1 b0 b1 K V o 256 S A)
    (x0 x1 k1 v1 : FVec Ideal S1x256x128 .f32) (h0 : ∀ r l, x0 (ix3 0 r l) = S (ix3 0 r l)) (h1 : ∀ r l, x1 (ix3 0 r l) = S (ix3 1 r l))
    (hk1 : IsTile K 0 k1) (hv1 : IsTile V 0 v1) (r : Fin 256) (l : Fin 128) :
    tailAcc q0 q1 b0 b1 tri x0 x1 k1 v1 A (ix2 r l)
      = ∑ n ∈ Finset.Ico 0 (o + r.val), weight (laneScore q0 q1 b0 b1 K r l) (o + r.val) n * V (ix3 0 (Fin.ofNat 2048 n) l) := by
  have e0 : ∀ r l, x0 (ix3 0 r l) = (fun r : Fin 256 => ∑ n ∈ Finset.Ico (0 + 256) (o + r.val), soft (score q0 b0 K r n)) r := fun r l => (h0 r l).trans (I.s0 r l)
  have e1 : ∀ r l, x1 (ix3 0 r l) = (fun r : Fin 256 => ∑ n ∈ Finset.Ico (0 + 256) (o + r.val), soft (score q1 b1 K r n)) r := fun r l => (h1 r l).trans (I.s1 r l)
  have ia := I.acc r l
  rw [tail_at q0 q1 b0 b1 tri x0 x1 k1 v1 A _ _ e0 e1, ia]
  unfold laneScore
  by_cases hl : l.val < 64
  · simp only [lane_lo l hl, lane_hi' l hl, select_one, select_zero, Finset.sum_const_zero, add_zero, if_pos hl]
    rw [tile_acc tri ht (score q0 b0 K r) (fun n => V (ix3 0 (Fin.ofNat 2048 n) l)) _ _ (fun j => v1 (ix3 0 j l)) 0 (o + r.val) (by omega) (fun j => tileScore_eq q0 b0 K _ k1 hk1 r j) rfl (fun j => hv1 j l)]
    exact acc_join _ 0 (o + r.val) (by omega)
  · simp only [lane_lo' l hl, lane_hi l hl, select_one, select_zero, Finset.sum_const_zero, zero_add, if_neg hl]
    rw [tile_acc tri ht (score q1 b1 K r) (fun n => V (ix3 0 (Fin.ofNat 2048 n) l)) _ _ (fun j => v1 (ix3 0 j l)) 0 (o + r.val) (by omega) (fun j => tileScore_eq q1 b1 K _ k1 hk1 r j) rfl (fun j => hv1 j l)]
    exact acc_join _ 0 (o + r.val) (by omega)

end Steps

end Cert.SbIdeal.Value
-- ==== Proof.SbLoop.lean ====
/-
  The loop of the stick-breaking kernel over pairs of earlier tiles: its number of passes, the rows each pass reads, and
  the state after any number of passes.
-/
module

public import proofs.«01_k».proof.Proof.SbStep

@[expose] public section

set_option maxRecDepth 16384

noncomputable section

open Idealize.ShloMosaic Idealize.ShloMosaic.TcCoe Idealize.ShloMosaic.Tactic

namespace Cert.SbIdeal.Value

open Cert.SbIdeal Cert.SbIdeal.Gen

/-- The bounds of the loop over pairs, from the block's number. -/
def pairLoop (q : ℕ) : Scf.Loop 32 :=
  ⟨0#32, Scalar.addi 0#32 (Scalar.muli (Scalar.divsi (Scalar.subi (Scalar.shrui (BitVec.ofNat 32 q) 1#32) 0#32) 1#32) 1#32), 1#32⟩

/-- The bounds of the loop over what the first leaves. -/
def restLoop (q : ℕ) : Scf.Loop 32 :=
  ⟨Scalar.addi 0#32 (Scalar.muli (Scalar.divsi (Scalar.subi (Scalar.shrui (BitVec.ofNat 32 q) 1#32) 0#32) 1#32) 1#32),
    Scalar.addi 0#32 (Scalar.subi (Scalar.shrui (BitVec.ofNat 32 q) 1#32) 0#32), 1#32⟩

theorem pairLoop_trips : ∀ q : Fin 8, (pairLoop q.val).trips = q.val / 2 := by decide +kernel
theorem restLoop_trips : ∀ q : Fin 8, (restLoop q.val).trips = 0 := by decide +kernel

theorem trips1 (i : grid0.Coords) : (k0_t1_loop i).trips = (i 2).val / 2 := pairLoop_trips (i 2)
theorem trips2 (i : grid0.Coords) : (k0_t2_loop i).trips = 0 := restLoop_trips (i 2)

theorem row_words (c : BitVec 32) (d : ℕ) (hd : c = BitVec.ofNat 32 d) (h : d = 1 ∨ d = 2) : ∀ q : Fin 8, ∀ k : Fin 4, k.val < q.val / 2 →
    (Scalar.indexCast (Scalar.muli (Scalar.subi (Scalar.subi (BitVec.ofNat 32 q.val) c) (Scalar.muli 2#32 (Scf.iv 0#32 1#32 k.val))) 256#32) : Index).toNat
      = (q.val - d - 2 * k.val) * 256 := by
  subst hd
  rcases h with rfl | rfl <;> decide +kernel

theorem off4 (i : grid0.Coords) (k : Fin (k0_t1_loop i).trips) (c : BitVec 32) (d : ℕ) (hd : c = BitVec.ofNat 32 d) (h : d = 1 ∨ d = 2) :
    k0_off4 i k c = ![0, ((i 2).val - d - 2 * k.val) * 256, 0] := by
  have hk : k.val < (i 2).val / 2 := trips1 i ▸ k.isLt
  have h8 : (i 2).val < 8 := (i 2).isLt
  have e := row_words c d hd h (i 2) ⟨k.val, by omega⟩ hk
  unfold k0_off4
  exact congrArg (fun n => ![0, n, 0]) e

theorem own_words : ∀ q : Fin 8, (Scalar.indexCast (Scalar.muli (BitVec.ofNat 32 q.val) 256#32) : Index).toNat = q.val * 256 := by decide +kernel

theorem off3 (i : grid0.Coords) : k0_off3 i = ![0, (i 2).val * 256, 0] := by
  unfold k0_off3
  exact congrArg (fun n => ![0, n, 0]) (own_words (i 2))

theorem head_words0 : ∀ p : Fin 4, (Scalar.indexCast (Scalar.muli (BitVec.ofNat 32 p.val) 2#32) : Index).toNat = 2 * p.val := by decide +kernel
theorem head_words1 : ∀ p : Fin 4, (Scalar.indexCast (Scalar.addi (Scalar.muli (BitVec.ofNat 32 p.val) 2#32) 1#32) : Index).toNat = 2 * p.val + 1 := by decide +kernel

theorem off1 (i : grid0.Coords) : k0_off1 i = ![2 * (i 1).val] := by
  unfold k0_off1
  exact congrArg (fun n => ![n]) (head_words0 (i 1))
theorem off2 (i : grid0.Coords) : k0_off2 i = ![2 * (i 1).val + 1] := by
  unfold k0_off2
  exact congrArg (fun n => ![n]) (head_words1 (i 1))

/-- A load of 256 rows from row `o` is the tile from row `o`. -/
theorem load_tile {sp : Space} (m : Memref sig .tc sp S1x2048x128 .f32) (f : m.view.ty.Contents (Elt Ideal)) (off : Fin 3 → ℕ) (o : ℕ)
    (h : off = ![0, o, 0]) (ho : o + 256 ≤ 2048) (inb : ∀ a, off a + S1x256x128.size a ≤ S1x2048x128.size a) :
    IsTile (m.view.read (Elt Ideal) f) o (m.view.readAt (Elt Ideal) (Rect.unit (s := S1x2048x128) off S1x256x128.size inb).toLoadRect f) := by
  subst h
  intro j l
  rw [View.readAt_unit m.view f inb rfl inb]
  unfold VecWindow.window
  congr 1
  funext a
  refine Fin.ext ?_
  have hj := j.isLt
  match a with
  | ⟨0, _⟩ => rfl
  | ⟨1, _⟩ => show o + 1 * j.val = (o + j.val) % 2048; rw [Nat.mod_eq_of_lt (by omega)]; omega
  | ⟨2, _⟩ => show 0 + 1 * l.val = l.val; omega

theorem load_sum {sp : Space} (m : Memref sig .tc sp S2x256x128 .f32) (f : m.view.ty.Contents (Elt Ideal)) (h : Fin 2)
    (inb : ∀ a, (![h.val, 0, 0] : Fin 3 → ℕ) a + S1x256x128.size a ≤ S2x256x128.size a) (r : Fin 256) (l : Fin 128) :
    m.view.readAt (Elt Ideal) (Rect.unit (s := S2x256x128) ![h.val, 0, 0] S1x256x128.size inb).toLoadRect f (ix3 0 r l) = m.view.read (Elt Ideal) f (ix3 h r l) := by
  rw [View.readAt_unit m.view f inb rfl inb]
  unfold VecWindow.window
  congr 1
  funext a
  refine Fin.ext ?_
  match a with
  | ⟨0, _⟩ => show h.val + 1 * 0 = h.val; omega
  | ⟨1, _⟩ => show 0 + 1 * r.val = r.val; omega
  | ⟨2, _⟩ => show 0 + 1 * l.val = l.val; omega

/-- Of the two rows of sums stored one after the other, each is read back. -/
theorem put_rows {sp : Space} (m : Memref sig .tc sp S2x256x128 .f32) (f : m.view.ty.Contents (Elt Ideal)) (L : List (View.Piece (Elt Ideal) S2x256x128 .f32))
    (w0 w1 : FVec Ideal S1x256x128 .f32) (i0 : ∀ a, (![0, 0, 0] : Fin 3 → ℕ) a + (![1, 256, 128] : Fin 3 → ℕ) a ≤ S2x256x128.size a)
    (i1 : ∀ a, (![1, 0, 0] : Fin 3 → ℕ) a + (![1, 256, 128] : Fin 3 → ℕ) a ≤ S2x256x128.size a) (r : Fin 256) (l : Fin 128) :
    m.view.read (Elt Ideal) (m.view.writes (Elt Ideal) f (⟨Rect.unit ![1, 0, 0] ![1, 256, 128] i1, w1⟩ :: ⟨Rect.unit ![0, 0, 0] ![1, 256, 128] i0, w0⟩ :: L)) (ix3 0 r l)
      = w0 (ix3 0 r l) ∧
    m.view.read (Elt Ideal) (m.view.writes (Elt Ideal) f (⟨Rect.unit ![1, 0, 0] ![1, 256, 128] i1, w1⟩ :: ⟨Rect.unit ![0, 0, 0] ![1, 256, 128] i0, w0⟩ :: L)) (ix3 1 r l)
      = w1 (ix3 0 r l) := by
  rw [View.read_writes_cons_put m.view f i1 w1 _ rfl, View.read_writes_cons_put m.view f i0 w0 _ rfl]
  have hr := r.isLt
  have hl := l.isLt
  constructor
  · unfold VecWindow.put
    rw [dif_neg (fun h => absurd (h 0).1 (by show ¬(1 ≤ 0); omega)), dif_pos (fun a => by
      match a with
      | ⟨0, _⟩ => exact ⟨Nat.le_refl 0, Nat.one_pos⟩
      | ⟨1, _⟩ => exact ⟨Nat.zero_le _, by show r.val < 0 + 256; omega⟩
      | ⟨2, _⟩ => exact ⟨Nat.zero_le _, by show l.val < 0 + 128; omega⟩)]
    congr 1
    funext a
    match a with
    | ⟨0, _⟩ => rfl
    | ⟨1, _⟩ => rfl
    | ⟨2, _⟩ => rfl
  · unfold VecWindow.put
    rw [dif_pos (fun a => by
      match a with
      | ⟨0, _⟩ => exact ⟨Nat.le_refl 1, Nat.lt_succ_self 1⟩
      | ⟨1, _⟩ => exact ⟨Nat.zero_le _, by show r.val < 0 + 256; omega⟩
      | ⟨2, _⟩ => exact ⟨Nat.zero_le _, by show l.val < 0 + 128; omega⟩)]
    congr 1
    funext a
    match a with
    | ⟨0, _⟩ => rfl
    | ⟨1, _⟩ => rfl
    | ⟨2, _⟩ => rfl

section Loop

variable (𝒱 : Variants) (c : Dev nD) (bd : Option 𝒱.V) (i : grid0.Coords) (arg3 : Memref sig .tc .smem S8 .f32) (harg3 : arg3.IsWhole) (arg4 : Memref sig .tc .vmem S256x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S256x256 .bf16) (harg7 : arg7.IsWhole) (arg8 : Memref sig .tc .vmem S256x128 .f32) (harg8 : arg8.IsWhole) (arg9 : Memref sig .tc .vmem S2x256x128 .f32) (harg9 : arg9.IsWhole) (arg10 : Memref sig .tc .vmem S256x128 .f32) (harg10 : arg10.IsWhole) (arg2 : BitVec 32)
  (q0 q1 : FVec Ideal S256x128 .bf16) (b0 b1 : Elt Ideal .f32) (X5 : BufTy.Contents (Elt Ideal) arg5.view.ty) (X6 : BufTy.Contents (Elt Ideal) arg6.view.ty)
  (X7 : BufTy.Contents (Elt Ideal) arg7.view.ty)

set_option maxHeartbeats 4000000 in
/-- What a pass stores: the two rows of sums and the accumulator, of the state it finds. -/
theorem trip_pieces (k : Fin (k0_t1_loop i).trips) (acc : BitVec 32) (f9 : BufTy.Contents (Elt Ideal) arg9.view.ty) (f10 : BufTy.Contents (Elt Ideal) arg10.view.ty)
    (hb1 : ∀ a, k0_off4 i k 1#32 a + S1x256x128.size a ≤ S1x2048x128.size a) (hb2 : ∀ a, k0_off4 i k 2#32 a + S1x256x128.size a ≤ S1x2048x128.size a) :
    tripL_k0_t1 (F := Ideal) 𝒱 c bd i arg3 harg3 arg4 harg4 arg5 harg5 arg6 harg6 arg7 harg7 arg8 harg8 arg9 harg9 arg10 harg10 arg2 k0_pay88 k0_pay89 q0 q1 b0 b1 X5 X6 X7 k acc f9 f10
      = ([⟨Rect.unit (s := S2x256x128) ![1, 0, 0] ![1, 256, 128] inb_S2x256x128_S1x256x128_1_0_0,
            k0_pay39 (k0_pay36 (k0_pay10 (arg9.view.readAt (Elt Ideal) (Rect.unit (s := S2x256x128) ![1, 0, 0] S1x256x128.size inb_S2x256x128_S1x256x128_1_0_0).toLoadRect f9)) (k0_pay20 q1 b1 (k0_pay11 (arg5.view.readAt (Elt Ideal) (Rect.unit (s := S1x2048x128) (k0_off4 i k 1#32) S1x256x128.size hb1).toLoadRect X5))) (k0_pay26 q1 b1 (k0_pay12 (arg5.view.readAt (Elt Ideal) (Rect.unit (s := S1x2048x128) (k0_off4 i k 2#32) S1x256x128.size hb2).toLoadRect X5))) (k0_pay27 q1 b1 (k0_pay12 (arg5.view.readAt (Elt Ideal) (Rect.unit (s := S1x2048x128) (k0_off4 i k 2#32) S1x256x128.size hb2).toLoadRect X5))) k0_pay28)⟩,
          ⟨Rect.unit (s := S2x256x128) ![0, 0, 0] ![1, 256, 128] inb_S2x256x128_S1x256x128_0_0_0,
            k0_pay38 (k0_pay34 (k0_pay9 (arg9.view.readAt (Elt Ideal) (Rect.unit (s := S2x256x128) ![0, 0, 0] S1x256x128.size inb_S2x256x128_S1x256x128_0_0_0).toLoadRect f9)) (k0_pay16 (k0_pay14 q0 b0 (arg5.view.readAt (Elt Ideal) (Rect.unit (s := S1x2048x128) (k0_off4 i k 1#32) S1x256x128.size hb1).toLoadRect X5))) (k0_pay24 q0 b0 (k0_pay12 (arg5.view.readAt (Elt Ideal) (Rect.unit (s := S1x2048x128) (k0_off4 i k 2#32) S1x256x128.size hb2).toLoadRect X5))))⟩],
         [⟨Rect.unit (s := S256x128) ![0, 0] ![256, 128] inb_S256x128_S256x128_0_0,
            tripAcc q0 q1 b0 b1 (arg7.view.readAt (Elt Ideal) (Rect.unit (s := S256x256) ![0, 0] S256x256.size inb_S256x256_S256x256_0_0).toLoadRect X7) (arg9.view.readAt (Elt Ideal) (Rect.unit (s := S2x256x128) ![0, 0, 0] S1x256x128.size inb_S2x256x128_S1x256x128_0_0_0).toLoadRect f9) (arg9.view.readAt (Elt Ideal) (Rect.unit (s := S2x256x128) ![1, 0, 0] S1x256x128.size inb_S2x256x128_S1x256x128_1_0_0).toLoadRect f9) (arg5.view.readAt (Elt Ideal) (Rect.unit (s := S1x2048x128) (k0_off4 i k 1#32) S1x256x128.size hb1).toLoadRect X5) (arg5.view.readAt (Elt Ideal) (Rect.unit (s := S1x2048x128) (k0_off4 i k 2#32) S1x256x128.size hb2).toLoadRect X5) (arg6.view.readAt (Elt Ideal) (Rect.unit (s := S1x2048x128) (k0_off4 i k 1#32) S1x256x128.size hb1).toLoadRect X6) (arg6.view.readAt (Elt Ideal) (Rect.unit (s := S1x2048x128) (k0_off4 i k 2#32) S1x256x128.size hb2).toLoadRect X6) (arg10.view.readAt (Elt Ideal) (Rect.unit (s := S256x128) ![0, 0] S256x128.size inb_S256x128_S256x128_0_0).toLoadRect f10)⟩]) := by
  unfold tripL_k0_t1 trip_k0_t1
  dsimp only
  rfl

set_option maxHeartbeats 4000000 in
/-- The state after `n` passes. -/
theorem loop_inv (G9 : BufTy.Contents (Elt Ideal) arg9.view.ty) (G10 : BufTy.Contents (Elt Ideal) arg10.view.ty) (init : BitVec 32)
    (ht : ∀ x j : Fin 256, arg7.view.read (Elt Ideal) X7 (ix2 x j) = if j.val < x.val then 1 else 0)
    (h : Inv q0 q1 b0 b1 (arg5.view.read (Elt Ideal) X5) (arg6.view.read (Elt Ideal) X6) ((i 2).val * 256) ((i 2).val * 256)
      (arg9.view.read (Elt Ideal) G9) (arg10.view.read (Elt Ideal) G10)) (n : ℕ) (hn : n ≤ (i 2).val / 2) :
    Inv q0 q1 b0 b1 (arg5.view.read (Elt Ideal) X5) (arg6.view.read (Elt Ideal) X6) ((i 2).val * 256) ((i 2).val * 256 - 512 * n)
      (arg9.view.read (Elt Ideal) (arg9.view.writes (Elt Ideal) G9 (st_k0_t1 (F := Ideal) 𝒱 c bd i arg3 harg3 arg4 harg4 arg5 harg5 arg6 harg6 arg7 harg7 arg8 harg8 arg9 harg9 arg10 harg10 arg2 k0_pay88 k0_pay89 q0 q1 b0 b1 X5 X6 X7 G9 G10 init n).2.1))
      (arg10.view.read (Elt Ideal) (arg10.view.writes (Elt Ideal) G10 (st_k0_t1 (F := Ideal) 𝒱 c bd i arg3 harg3 arg4 harg4 arg5 harg5 arg6 harg6 arg7 harg7 arg8 harg8 arg9 harg9 arg10 harg10 arg2 k0_pay88 k0_pay89 q0 q1 b0 b1 X5 X6 X7 G9 G10 init n).2.2)) := by
  induction n with
  | zero => exact h
  | succ n ih =>
    have I := ih (by omega)
    have h8 : (i 2).val < 8 := (i 2).isLt
    have hk : n < (k0_t1_loop i).trips := by rw [trips1]; omega
    have o1 := off4 i ⟨n, hk⟩ 1#32 1 rfl (Or.inl rfl)
    have o2 := off4 i ⟨n, hk⟩ 2#32 2 rfl (Or.inr rfl)
    have hb1 : ∀ a, k0_off4 i ⟨n, hk⟩ 1#32 a + S1x256x128.size a ≤ S1x2048x128.size a := k0_off4_inb i ⟨n, hk⟩ 0
    have hb2 : ∀ a, k0_off4 i ⟨n, hk⟩ 2#32 a + S1x256x128.size a ≤ S1x2048x128.size a := k0_off4_inb i ⟨n, hk⟩ 1
    rw [st_k0_t1_succ (F := Ideal) 𝒱 c bd i arg3 harg3 arg4 harg4 arg5 harg5 arg6 harg6 arg7 harg7 arg8 harg8 arg9 harg9 arg10 harg10 arg2 k0_pay88 k0_pay89 q0 q1 b0 b1 X5 X6 X7 G9 G10 init ⟨n, hk⟩]
    rw [trip_pieces 𝒱 c bd i arg3 harg3 arg4 harg4 arg5 harg5 arg6 harg6 arg7 harg7 arg8 harg8 arg9 harg9 arg10 harg10 arg2 q0 q1 b0 b1 X5 X6 X7 ⟨n, hk⟩ _ _ _ hb1 hb2]
    dsimp only [List.cons_append, List.nil_append]
    generalize hst : st_k0_t1 (F := Ideal) 𝒱 c bd i arg3 harg3 arg4 harg4 arg5 harg5 arg6 harg6 arg7 harg7 arg8 harg8 arg9 harg9 arg10 harg10 arg2 k0_pay88 k0_pay89 q0 q1 b0 b1 X5 X6 X7 G9 G10 init n = st at I ⊢
    obtain ⟨M, hM⟩ : ∃ M, (i 2).val * 256 - 512 * n = M + 512 := ⟨(i 2).val * 256 - 512 * n - 512, by omega⟩
    have hM' : (i 2).val * 256 - 512 * (n + 1) = M := by omega
    rw [hM] at I
    rw [hM', View.read_writes_full arg10.view]
    have m1 : ((i 2).val - 1 - 2 * n) * 256 = M + 256 := by omega
    have m2 : ((i 2).val - 2 - 2 * n) * 256 = M := by omega
    rw [m1] at o1
    rw [m2] at o2
    have t1 := fun (m : Memref sig .tc .vmem S1x2048x128 .f32) f => load_tile m f _ (M + 256) o1 (by omega) hb1
    have t2 := fun (m : Memref sig .tc .vmem S1x2048x128 .f32) f => load_tile m f _ M o2 (by omega) hb2
    have ea := View.readAt_full arg10.view (Val := Elt Ideal) (arg10.view.writes (Elt Ideal) G10 st.2.2) inb_S256x128_S256x128_0_0
    rw [ea]
    exact inv_trip _ (fun x j => by rw [View.readAt_full arg7.view]; exact ht x j) _ M (by omega) _ _ _ I _ _ _ _ _ _
      (fun r l => load_sum arg9 _ 0 _ r l) (fun r l => load_sum arg9 _ 1 _ r l) (t1 arg5 X5) (t1 arg6 X6) (t2 arg5 X5) (t2 arg6 X6)
      (fun r l => (put_rows arg9 _ _ _ _ _ _ r l).1) (fun r l => (put_rows arg9 _ _ _ _ _ _ r l).2)

end Loop

end Cert.SbIdeal.Value
-- ==== Proof.SbRun.lean ====
/-
  What the stick-breaking kernel leaves at a grid point: the weighted sum of the values of the keys before each row, for
  blocks with an even and with an odd number of earlier tiles.
-/
module

public import proofs.«01_k».proof.Proof.SbLoop

@[expose] public section

set_option maxRecDepth 16384

noncomputable section

open Idealize.ShloMosaic Idealize.ShloMosaic.TcCoe Idealize.ShloMosaic.Tactic

namespace Cert.SbIdeal.Value

open Cert.SbIdeal Cert.SbIdeal.Gen

section Start

variable (i : grid0.Coords) (arg3 : Memref sig .tc .smem S8 .f32) (harg3 : arg3.IsWhole) (arg4 : Memref sig .tc .vmem S256x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S256x256 .bf16) (harg7 : arg7.IsWhole) (arg8 : Memref sig .tc .vmem S256x128 .f32) (harg8 : arg8.IsWhole) (arg9 : Memref sig .tc .vmem S2x256x128 .f32) (harg9 : arg9.IsWhole) (arg10 : Memref sig .tc .vmem S256x128 .f32) (harg10 : arg10.IsWhole)
  (q0 q1 : FVec Ideal S256x128 .bf16) (b0 b1 : Elt Ideal .f32) (X5 : BufTy.Contents (Elt Ideal) arg5.view.ty) (X6 : BufTy.Contents (Elt Ideal) arg6.view.ty)
  (X7 : BufTy.Contents (Elt Ideal) arg7.view.ty)

/-- The stores to the two rows of sums before the loop. -/
def startS : List (View.Piece (Elt Ideal) S2x256x128 .f32) :=
  ⟨Rect.unit (s := S2x256x128) ![1, 0, 0] ![1, 256, 128] inb_S2x256x128_S1x256x128_1_0_0,
    k0_pay2 (k0_pay111 k0_pay92 (k0_pay97 (View.readCov (Val := Elt Ideal) arg9.view [⟨Rect.unit (s := S2x256x128) ![0, 0, 0] S2x256x128.size inb_S2x256x128_S2x256x128_0_0_0, k0_pay93 (F := Ideal)⟩] (Rect.unit (s := S2x256x128) ![1, 0, 0] S1x256x128.size inb_S2x256x128_S1x256x128_1_0_0).toLoadRect)) (k0_pay105 q1 b1 (arg5.view.readAt (Elt Ideal) (Rect.unit (s := S1x2048x128) (k0_off3 i) S1x256x128.size (k0_off3_inb i)).toLoadRect X5)) (k0_pay106 q1 b1 (arg5.view.readAt (Elt Ideal) (Rect.unit (s := S1x2048x128) (k0_off3 i) S1x256x128.size (k0_off3_inb i)).toLoadRect X5)))⟩ ::
  ⟨Rect.unit (s := S2x256x128) ![0, 0, 0] ![1, 256, 128] inb_S2x256x128_S1x256x128_0_0_0,
    k0_pay1 (k0_pay109 (k0_pay96 (View.readCov (Val := Elt Ideal) arg9.view [⟨Rect.unit (s := S2x256x128) ![0, 0, 0] S2x256x128.size inb_S2x256x128_S2x256x128_0_0_0, k0_pay93 (F := Ideal)⟩] (Rect.unit (s := S2x256x128) ![0, 0, 0] S1x256x128.size inb_S2x256x128_S1x256x128_0_0_0).toLoadRect)) (k0_pay103 q0 b0 k0_pay92 (arg5.view.readAt (Elt Ideal) (Rect.unit (s := S1x2048x128) (k0_off3 i) S1x256x128.size (k0_off3_inb i)).toLoadRect X5)))⟩ ::
  [⟨Rect.unit (s := S2x256x128) ![0, 0, 0] S2x256x128.size inb_S2x256x128_S2x256x128_0_0_0, k0_pay93 (F := Ideal)⟩]

/-- The stores to the accumulator before the loop. -/
def startA : List (View.Piece (Elt Ideal) S256x128 .f32) :=
  ⟨Rect.unit (s := S256x128) ![0, 0] ![256, 128] inb_S256x128_S256x128_0_0,
    ownAcc q0 q1 b0 b1 (arg7.view.readAt (Elt Ideal) (Rect.unit (s := S256x256) ![0, 0] S256x256.size inb_S256x256_S256x256_0_0).toLoadRect X7) (View.readCov (Val := Elt Ideal) arg9.view [⟨Rect.unit (s := S2x256x128) ![0, 0, 0] S2x256x128.size inb_S2x256x128_S2x256x128_0_0_0, k0_pay93 (F := Ideal)⟩] (Rect.unit (s := S2x256x128) ![0, 0, 0] S1x256x128.size inb_S2x256x128_S1x256x128_0_0_0).toLoadRect) (View.readCov (Val := Elt Ideal) arg9.view [⟨Rect.unit (s := S2x256x128) ![0, 0, 0] S2x256x128.size inb_S2x256x128_S2x256x128_0_0_0, k0_pay93 (F := Ideal)⟩] (Rect.unit (s := S2x256x128) ![1, 0, 0] S1x256x128.size inb_S2x256x128_S1x256x128_1_0_0).toLoadRect) (arg5.view.readAt (Elt Ideal) (Rect.unit (s := S1x2048x128) (k0_off3 i) S1x256x128.size (k0_off3_inb i)).toLoadRect X5) (arg6.view.readAt (Elt Ideal) (Rect.unit (s := S1x2048x128) (k0_off3 i) S1x256x128.size (k0_off3_inb i)).toLoadRect X6) (View.readCov (Val := Elt Ideal) arg10.view [⟨Rect.unit (s := S256x128) ![0, 0] S256x128.size inb_S256x128_S256x128_0_0, k0_pay94 (F := Ideal)⟩] (Rect.unit (s := S256x128) ![0, 0] ![256, 128] inb_S256x128_S256x128_0_0).toLoadRect)⟩ ::
  [⟨Rect.unit (s := S256x128) ![0, 0] S256x128.size inb_S256x128_S256x128_0_0, k0_pay94 (F := Ideal)⟩]

theorem zero_sums (r : Fin 256) (l : Fin 128) : (View.readCov (Val := Elt Ideal) arg9.view [⟨Rect.unit (s := S2x256x128) ![0, 0, 0] S2x256x128.size inb_S2x256x128_S2x256x128_0_0_0, k0_pay93 (F := Ideal)⟩] (Rect.unit (s := S2x256x128) ![0, 0, 0] S1x256x128.size inb_S2x256x128_S1x256x128_0_0_0).toLoadRect) (ix3 0 r l) = 0 ∧ (View.readCov (Val := Elt Ideal) arg9.view [⟨Rect.unit (s := S2x256x128) ![0, 0, 0] S2x256x128.size inb_S2x256x128_S2x256x128_0_0_0, k0_pay93 (F := Ideal)⟩] (Rect.unit (s := S2x256x128) ![1, 0, 0] S1x256x128.size inb_S2x256x128_S1x256x128_1_0_0).toLoadRect) (ix3 0 r l) = 0 := by
  constructor
  · refine (load_sum arg9 _ 0 _ r l).trans ?_
    rw [View.read_writes_full arg9.view]
    pointwise [k0_pay93]
  · refine (load_sum arg9 _ 1 _ r l).trans ?_
    rw [View.read_writes_full arg9.view]
    pointwise [k0_pay93]

theorem zero_acc (r : Fin 256) (l : Fin 128) : (View.readCov (Val := Elt Ideal) arg10.view [⟨Rect.unit (s := S256x128) ![0, 0] S256x128.size inb_S256x128_S256x128_0_0, k0_pay94 (F := Ideal)⟩] (Rect.unit (s := S256x128) ![0, 0] ![256, 128] inb_S256x128_S256x128_0_0).toLoadRect) (ix2 r l) = 0 := by
  refine (congrFun (View.readCov_full arg10.view _ _ _ _) _).trans ?_
  pointwise [k0_pay94]

theorem own_start (ht : ∀ x j : Fin 256, arg7.view.read (Elt Ideal) X7 (ix2 x j) = if j.val < x.val then 1 else 0) :
    Inv q0 q1 b0 b1 (arg5.view.read (Elt Ideal) X5) (arg6.view.read (Elt Ideal) X6) ((i 2).val * 256) ((i 2).val * 256)
      (arg9.view.read (Elt Ideal) (arg9.view.writes (Elt Ideal) arg9.view.junk (startS i arg5 arg9 q0 q1 b0 b1 X5)))
      (arg10.view.read (Elt Ideal) (arg10.view.writes (Elt Ideal) arg10.view.junk (startA i arg5 arg6 arg7 arg9 arg10 q0 q1 b0 b1 X5 X6 X7))) := by
  have h8 : (i 2).val < 8 := (i 2).isLt
  unfold startS startA
  rw [View.read_writes_full arg10.view]
  exact inv_own _ (fun x j => by rw [View.readAt_full arg7.view]; exact ht x j) _ _ _ _ _ _ (fun r l => (zero_sums arg9 r l).1) (fun r l => (zero_sums arg9 r l).2)
    (fun r l => zero_acc arg10 r l)
    (load_tile arg5 X5 _ _ (off3 i) (by omega) _) (load_tile arg6 X6 _ _ (off3 i) (by omega) _) _
    (fun r l => (put_rows arg9 _ _ _ _ _ _ r l).1) (fun r l => (put_rows arg9 _ _ _ _ _ _ r l).2)

end Start

theorem first_pos : 0 < S1.numel := by decide
theorem head_lt0 (i : grid0.Coords) : 2 * (i 1).val < 8 := by have : (i 1).val < 4 := (i 1).isLt; omega
theorem head_lt1 (i : grid0.Coords) : 2 * (i 1).val + 1 < 8 := by have : (i 1).val < 4 := (i 1).isLt; omega

section Run

variable (c : Dev nD) (i : grid0.Coords) (arg3 : Memref sig .tc .smem S8 .f32) (harg3 : arg3.IsWhole) (arg4 : Memref sig .tc .vmem S256x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S256x256 .bf16) (harg7 : arg7.IsWhole) (arg8 : Memref sig .tc .vmem S256x128 .f32) (harg8 : arg8.IsWhole) (arg9 : Memref sig .tc .vmem S2x256x128 .f32) (harg9 : arg9.IsWhole) (arg10 : Memref sig .tc .vmem S256x128 .f32) (harg10 : arg10.IsWhole)
  (x0 : Vec Ideal S8 .f32) (x1 : Vec Ideal S256x128 .f32) (x2 : Vec Ideal S1x2048x128 .f32) (x3 : Vec Ideal S1x2048x128 .f32) (x4 : Vec Ideal S256x256 .bf16)

theorem bias_at (off : Fin 1 → ℕ) (n : ℕ) (hn : n < 8) (h : off = ![n]) (inb : ∀ a, off a + S1.size a ≤ S8.size a) (p : 0 < S1.numel) :
    arg3.view.readAt (Elt Ideal) (Rect.unit (s := S8) off S1.size inb).toLoadRect (harg3.unread x0) (Shape.Idx.first p) = x0 (ix1 ⟨n, hn⟩) := by
  subst h
  rw [View.readAt_unit arg3.view _ inb rfl inb, harg3.read_unread]
  unfold VecWindow.window
  congr 1
  funext a
  refine Fin.ext ?_
  match a with
  | ⟨0, _⟩ =>
    have h : (Shape.Idx.first (s := S1) p 0).val < 1 := (Shape.Idx.first (s := S1) p 0).isLt
    show n + 1 * (Shape.Idx.first (s := S1) p 0).val = n
    omega

theorem query_at : arg4.view.readAt (Elt Ideal) (Rect.unit (s := S256x128) ![0, 0] S256x128.size inb_S256x128_S256x128_0_0).toLoadRect (harg4.unread x1) = x1 := by
  rw [View.readAt_full arg4.view, harg4.read_unread]

set_option maxHeartbeats 4000000 in
theorem out_A_eq (hc0 : ¬cond0_0 i) :
    out0_A_5 c i arg3 harg3 arg4 harg4 arg5 harg5 arg6 harg6 arg7 harg7 arg8 harg8 arg9 harg9 arg10 harg10 hc0 x0 x1 x2 x3 x4
      = arg10.view.read (Elt Ideal) (arg10.view.writes (Elt Ideal) arg10.view.junk ((st_k0_t1 (F := Ideal) Variants.none c none i arg3 harg3 arg4 harg4 arg5 harg5 arg6 harg6 arg7 harg7 arg8 harg8 arg9 harg9 arg10 harg10 (BitVec.ofNat 32 (i 2).val) k0_pay88 k0_pay89 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) (arg9.view.writes (Elt Ideal) arg9.view.junk (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (arg10.view.writes (Elt Ideal) arg10.view.junk (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) 0#32 ((i 2).val / 2)).2.2 ++ (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4)))) := by
  have h1 : Scf.trips (k0_t1_loop i).lb (k0_t1_loop i).ub (k0_t1_loop i).st = (i 2).val / 2 := trips1 i
  have h2 : Scf.trips (k0_t2_loop i).lb (k0_t2_loop i).ub (k0_t2_loop i).st = 0 := trips2 i
  unfold out0_A_5 kernelRun0_A
  dsimp only
  refine (View.read_writes_full _ _ _ _ _).trans ?_
  unfold kernelRun0_A.sl.v148
  rw [h2, h1]
  exact View.readAt_full arg10.view _ _

set_option maxHeartbeats 4000000 in
theorem out_B_eq (hc0 : cond0_0 i) :
    out0_B_5 c i arg3 harg3 arg4 harg4 arg5 harg5 arg6 harg6 arg7 harg7 arg8 harg8 arg9 harg9 arg10 harg10 hc0 x0 x1 x2 x3 x4
      = tailAcc (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (arg7.view.readAt (Elt Ideal) (Rect.unit (s := S256x256) ![0, 0] S256x256.size inb_S256x256_S256x256_0_0).toLoadRect (harg7.unread x4)) (View.readCov (Val := Elt Ideal) arg9.view ((st_k0_t1 (F := Ideal) Variants.none c none i arg3 harg3 arg4 harg4 arg5 harg5 arg6 harg6 arg7 harg7 arg8 harg8 arg9 harg9 arg10 harg10 (BitVec.ofNat 32 (i 2).val) k0_pay88 k0_pay89 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) (arg9.view.writes (Elt Ideal) arg9.view.junk (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (arg10.view.writes (Elt Ideal) arg10.view.junk (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) 0#32 ((i 2).val / 2)).2.1 ++ (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (Rect.unit (s := S2x256x128) ![0, 0, 0] S1x256x128.size inb_S2x256x128_S1x256x128_0_0_0).toLoadRect) (View.readCov (Val := Elt Ideal) arg9.view ((st_k0_t1 (F := Ideal) Variants.none c none i arg3 harg3 arg4 harg4 arg5 harg5 arg6 harg6 arg7 harg7 arg8 harg8 arg9 harg9 arg10 harg10 (BitVec.ofNat 32 (i 2).val) k0_pay88 k0_pay89 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) (arg9.view.writes (Elt Ideal) arg9.view.junk (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (arg10.view.writes (Elt Ideal) arg10.view.junk (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) 0#32 ((i 2).val / 2)).2.1 ++ (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (Rect.unit (s := S2x256x128) ![1, 0, 0] S1x256x128.size inb_S2x256x128_S1x256x128_1_0_0).toLoadRect)
          (arg5.view.readAt (Elt Ideal) (Rect.unit (s := S1x2048x128) ![0, 0, 0] S1x256x128.size inb_S1x2048x128_S1x256x128_0_0_0).toLoadRect (harg5.unread x2)) (arg6.view.readAt (Elt Ideal) (Rect.unit (s := S1x2048x128) ![0, 0, 0] S1x256x128.size inb_S1x2048x128_S1x256x128_0_0_0).toLoadRect (harg6.unread x3)) (View.readCov (Val := Elt Ideal) arg10.view ((st_k0_t1 (F := Ideal) Variants.none c none i arg3 harg3 arg4 harg4 arg5 harg5 arg6 harg6 arg7 harg7 arg8 harg8 arg9 harg9 arg10 harg10 (BitVec.ofNat 32 (i 2).val) k0_pay88 k0_pay89 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) (arg9.view.writes (Elt Ideal) arg9.view.junk (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (arg10.view.writes (Elt Ideal) arg10.view.junk (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) 0#32 ((i 2).val / 2)).2.2 ++ (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) (Rect.unit (s := S256x128) ![0, 0] ![256, 128] inb_S256x128_S256x128_0_0).toLoadRect) := by
  have h1 : Scf.trips (k0_t1_loop i).lb (k0_t1_loop i).ub (k0_t1_loop i).st = (i 2).val / 2 := trips1 i
  have h2 : Scf.trips (k0_t2_loop i).lb (k0_t2_loop i).ub (k0_t2_loop i).st = 0 := trips2 i
  unfold out0_B_5 kernelRun0_B
  dsimp only
  refine (View.read_writes_full _ _ _ _ _).trans ?_
  unfold kernelRun0_B.sl.v148 kernelRun0_B.sl.HS1_1_1
  refine (View.readCov_full arg10.view _ _ _ _).trans ?_
  unfold kernelRun0_B.sl.r_27 kernelRun0_B.sl.r_19 kernelRun0_B.sl.r_20 kernelRun0_B.sl.v152 kernelRun0_B.sl.v154 kernelRun0_B.sl.v236
  rw [h2, h1]
  rfl

theorem loop_state (ht : ∀ x j : Fin 256, x4 (ix2 x j) = if j.val < x.val then 1 else 0) :
    Inv (k0_pay90 x1) (k0_pay91 x1) (x0 (ix1 ⟨2 * (i 1).val, head_lt0 i⟩)) (x0 (ix1 ⟨2 * (i 1).val + 1, head_lt1 i⟩)) x2 x3
      ((i 2).val * 256) ((i 2).val * 256 - 512 * ((i 2).val / 2))
      (arg9.view.read (Elt Ideal) (arg9.view.writes (Elt Ideal) arg9.view.junk ((st_k0_t1 (F := Ideal) Variants.none c none i arg3 harg3 arg4 harg4 arg5 harg5 arg6 harg6 arg7 harg7 arg8 harg8 arg9 harg9 arg10 harg10 (BitVec.ofNat 32 (i 2).val) k0_pay88 k0_pay89 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) (arg9.view.writes (Elt Ideal) arg9.view.junk (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (arg10.view.writes (Elt Ideal) arg10.view.junk (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) 0#32 ((i 2).val / 2)).2.1 ++ (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2)))))
      (arg10.view.read (Elt Ideal) (arg10.view.writes (Elt Ideal) arg10.view.junk ((st_k0_t1 (F := Ideal) Variants.none c none i arg3 harg3 arg4 harg4 arg5 harg5 arg6 harg6 arg7 harg7 arg8 harg8 arg9 harg9 arg10 harg10 (BitVec.ofNat 32 (i 2).val) k0_pay88 k0_pay89 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) (arg9.view.writes (Elt Ideal) arg9.view.junk (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (arg10.view.writes (Elt Ideal) arg10.view.junk (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) 0#32 ((i 2).val / 2)).2.2 ++ (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))))) := by
  have e7 : ∀ x j : Fin 256, arg7.view.read (Elt Ideal) (harg7.unread x4) (ix2 x j) = if j.val < x.val then 1 else 0 := fun x j => by
    rw [harg7.read_unread]; exact ht x j
  have I := loop_inv Variants.none c none i arg3 harg3 arg4 harg4 arg5 harg5 arg6 harg6 arg7 harg7 arg8 harg8 arg9 harg9 arg10 harg10 (BitVec.ofNat 32 (i 2).val) (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) (arg9.view.writes (Elt Ideal) arg9.view.junk (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (arg10.view.writes (Elt Ideal) arg10.view.junk (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) 0#32 e7
    (own_start i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) e7) ((i 2).val / 2) (Nat.le_refl _)
  rw [View.writes_append, View.writes_append]
  have eb0 := bias_at arg3 harg3 x0 _ _ (head_lt0 i) (off1 i) (k0_off1_inb i) first_pos
  have eb1 := bias_at arg3 harg3 x0 _ _ (head_lt1 i) (off2 i) (k0_off2_inb i) first_pos
  have eq0 := query_at arg4 harg4 x1
  have e5 := harg5.read_unread (Val := Elt Ideal) x2
  have e6 := harg6.read_unread (Val := Elt Ideal) x3
  revert I
  generalize arg9.view.read (Elt Ideal) _ = S
  generalize arg10.view.read (Elt Ideal) _ = A'
  rw [eb0, eb1, eq0, e5, e6]
  exact id

/-- An even number of earlier tiles: the passes over pairs meet them all. -/
theorem out_A_at (hc0 : ¬cond0_0 i) (hp : (i 2).val % 2 = 0) (ht : ∀ x j : Fin 256, x4 (ix2 x j) = if j.val < x.val then 1 else 0) (r : Fin 256) (l : Fin 128) :
    out0_A_5 c i arg3 harg3 arg4 harg4 arg5 harg5 arg6 harg6 arg7 harg7 arg8 harg8 arg9 harg9 arg10 harg10 hc0 x0 x1 x2 x3 x4 (ix2 r l)
      = ∑ n ∈ Finset.Ico 0 ((i 2).val * 256 + r.val), weight (laneScore (k0_pay90 x1) (k0_pay91 x1) (x0 (ix1 ⟨2 * (i 1).val, head_lt0 i⟩)) (x0 (ix1 ⟨2 * (i 1).val + 1, head_lt1 i⟩)) x2 r l) ((i 2).val * 256 + r.val) n * x3 (ix3 0 (Fin.ofNat 2048 n) l) := by
  have I := (loop_state c i arg3 harg3 arg4 harg4 arg5 harg5 arg6 harg6 arg7 harg7 arg8 harg8 arg9 harg9 arg10 harg10 x0 x1 x2 x3 x4 ht).acc r l
  rw [out_A_eq, I, show (i 2).val * 256 - 512 * ((i 2).val / 2) = 0 by omega]

/-- An odd number: one tile is left. -/
theorem out_B_at (hc0 : cond0_0 i) (hp : (i 2).val % 2 = 1) (ht : ∀ x j : Fin 256, x4 (ix2 x j) = if j.val < x.val then 1 else 0) (r : Fin 256) (l : Fin 128) :
    out0_B_5 c i arg3 harg3 arg4 harg4 arg5 harg5 arg6 harg6 arg7 harg7 arg8 harg8 arg9 harg9 arg10 harg10 hc0 x0 x1 x2 x3 x4 (ix2 r l)
      = ∑ n ∈ Finset.Ico 0 ((i 2).val * 256 + r.val), weight (laneScore (k0_pay90 x1) (k0_pay91 x1) (x0 (ix1 ⟨2 * (i 1).val, head_lt0 i⟩)) (x0 (ix1 ⟨2 * (i 1).val + 1, head_lt1 i⟩)) x2 r l) ((i 2).val * 256 + r.val) n * x3 (ix3 0 (Fin.ofNat 2048 n) l) := by
  have I := loop_state c i arg3 harg3 arg4 harg4 arg5 harg5 arg6 harg6 arg7 harg7 arg8 harg8 arg9 harg9 arg10 harg10 x0 x1 x2 x3 x4 ht
  rw [show (i 2).val * 256 - 512 * ((i 2).val / 2) = 256 by omega] at I
  have t5 := load_tile arg5 (harg5.unread x2) _ 0 rfl (by omega) inb_S1x2048x128_S1x256x128_0_0_0
  have t6 := load_tile arg6 (harg6.unread x3) _ 0 rfl (by omega) inb_S1x2048x128_S1x256x128_0_0_0
  rw [harg5.read_unread] at t5
  rw [harg6.read_unread] at t6
  have e7 : ∀ x j : Fin 256, (arg7.view.readAt (Elt Ideal) (Rect.unit (s := S256x256) ![0, 0] S256x256.size inb_S256x256_S256x256_0_0).toLoadRect (harg7.unread x4)) (ix2 x j) = if j.val < x.val then 1 else 0 := fun x j => by
    rw [View.readAt_full arg7.view, harg7.read_unread]; exact ht x j
  have ea : View.readCov (Val := Elt Ideal) arg10.view ((st_k0_t1 (F := Ideal) Variants.none c none i arg3 harg3 arg4 harg4 arg5 harg5 arg6 harg6 arg7 harg7 arg8 harg8 arg9 harg9 arg10 harg10 (BitVec.ofNat 32 (i 2).val) k0_pay88 k0_pay89 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) (arg9.view.writes (Elt Ideal) arg9.view.junk (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (arg10.view.writes (Elt Ideal) arg10.view.junk (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) 0#32 ((i 2).val / 2)).2.2 ++ (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) (Rect.unit (s := S256x128) ![0, 0] ![256, 128] inb_S256x128_S256x128_0_0).toLoadRect = arg10.view.read (Elt Ideal) (arg10.view.writes (Elt Ideal) arg10.view.junk ((st_k0_t1 (F := Ideal) Variants.none c none i arg3 harg3 arg4 harg4 arg5 harg5 arg6 harg6 arg7 harg7 arg8 harg8 arg9 harg9 arg10 harg10 (BitVec.ofNat 32 (i 2).val) k0_pay88 k0_pay89 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4) (arg9.view.writes (Elt Ideal) arg9.view.junk (startS i arg5 arg9 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2))) (arg10.view.writes (Elt Ideal) arg10.view.junk (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4))) 0#32 ((i 2).val / 2)).2.2 ++ (startA i arg5 arg6 arg7 arg9 arg10 (k0_pay90 (arg4.view.readAt (Elt Ideal) (Rect.unit (s := S256x128) ![0, 0] S256x128.size inb_S256x128_S256x128_0_0).toLoadRect (harg4.unread x1))) (k0_pay91 (arg4.view.readAt (Elt Ideal) (Rect.unit (s := S256x128) ![0, 0] S256x128.size inb_S256x128_S256x128_0_0).toLoadRect (harg4.unread x1))) (arg3.view.readAt (Elt Ideal) (Rect.unit (s := S8) (k0_off1 i) S1.size (k0_off1_inb i)).toLoadRect (harg3.unread x0) (Shape.Idx.first (s := S1) first_pos)) (arg3.view.readAt (Elt Ideal) (Rect.unit (s := S8) (k0_off2 i) S1.size (k0_off2_inb i)).toLoadRect (harg3.unread x0) (Shape.Idx.first (s := S1) first_pos)) (harg5.unread x2) (harg6.unread x3) (harg7.unread x4)))) :=
    View.readAt_full arg10.view _ _
  rw [out_B_eq, ea]
  rw [bias_at arg3 harg3 x0 _ _ (head_lt0 i) (off1 i) (k0_off1_inb i) first_pos, bias_at arg3 harg3 x0 _ _ (head_lt1 i) (off2 i) (k0_off2_inb i) first_pos,
    query_at arg4 harg4 x1]
  rw [bias_at arg3 harg3 x0 _ _ (head_lt0 i) (off1 i) (k0_off1_inb i) first_pos, bias_at arg3 harg3 x0 _ _ (head_lt1 i) (off2 i) (k0_off2_inb i) first_pos,
    query_at arg4 harg4 x1] at I
  exact acc_tail _ e7 _ (by omega) _ _ I _ _ _ _ (fun r l => load_sum arg9 _ 0 _ r l) (fun r l => load_sum arg9 _ 1 _ r l) t5 t6 r l

end Run

end Cert.SbIdeal.Value
-- ==== Proof.SbValue.lean ====
/-
  The stick-breaking kernel's result array: every row is the weighted sum of the values of the keys before it.
-/
module

public import proofs.«01_k».proof.Proof.SbRun
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SbIdeal.Value

open Cert.SbIdeal Cert.SbIdeal.Gen

/-- The row of key `n` of the sequence that row `R` belongs to. -/
def keyRow (R : Fin 16384) (n : ℕ) : Fin 16384 := ⟨R.val / 2048 * 2048 + n % 2048, by omega⟩

/-- Column `x` of head `h`. -/
def headCol (h : Fin 8) (x : Fin 64) : Fin 512 := ⟨h.val * 64 + x.val, by omega⟩

/-- The head of a column. -/
def colHead (C : Fin 512) : Fin 8 := ⟨C.val / 64, by omega⟩

/-- The score of row `R` at key `n` for head `h`, the query scaled first. -/
def logit (B : FVec Ideal S8 .f32) (Q : FVec Ideal S16384x512 .f32) (K : FVec Ideal S2x16384x512 .f32)
    (R : Fin 16384) (h : Fin 8) (n : ℕ) : EReal :=
  ∑ x : Fin 64, Q (ix2 R (headCol h x)) * Ideal.ofBits .f32 0x3E000000#32 * K (ix3 0 (keyRow R n) (headCol h x)) + B (ix1 h)

/-- The attention's result at row `R` and column `C`: the values of the keys before the row, weighted. -/
def attend (B : FVec Ideal S8 .f32) (Q : FVec Ideal S16384x512 .f32) (K V : FVec Ideal S2x16384x512 .f32)
    (R : Fin 16384) (C : Fin 512) : EReal :=
  ∑ n ∈ Finset.Ico 0 (R.val % 2048), weight (logit B Q K R (colHead C)) (R.val % 2048) n * V (ix3 0 (keyRow R n) C)

/-- The attention's result. -/
def RES (B : FVec Ideal S8 .f32) (Q : FVec Ideal S16384x512 .f32) (K V : FVec Ideal S2x16384x512 .f32) :
    FVec Ideal S16384x512 .f32 := fun i => attend B Q K V (i 0) (i 1)

variable (m : (ℓ : Loc nD τ sig) → Buf (Elt Ideal) ℓ)

/-- Which block each window shows at point `t`. -/
theorem idx_at : ∀ t : Fin cfg0.N, win0_0.index t = ![0] ∧ win0_1.index t = ![t.val / 32 * 8 + t.val % 8, t.val / 8 % 4]
    ∧ win0_2.index t = ![0, t.val / 32, t.val / 8 % 4] ∧ win0_3.index t = ![0, t.val / 32, t.val / 8 % 4]
    ∧ win0_4.index t = ![0, 0] ∧ win0_5.index t = ![t.val / 32 * 8 + t.val % 8, t.val / 8 % 4] :=
  (by decide +kernel : ∀ t : Fin grid0.N, _)

/-- The biases. -/
abbrev aB (c : Dev nD) : FVec Ideal S8 .f32 := m ((c : Thread nD τ).loc main_arg0)
/-- The queries. -/
abbrev aQ (c : Dev nD) : FVec Ideal S16384x512 .f32 := m ((c : Thread nD τ).loc main_arg1)
/-- The keys. -/
abbrev aK (c : Dev nD) : FVec Ideal S2x16384x512 .f32 := m ((c : Thread nD τ).loc main_arg2)
/-- The values. -/
abbrev aV (c : Dev nD) : FVec Ideal S2x16384x512 .f32 := m ((c : Thread nD τ).loc main_arg3)

variable (c : Dev nD)

/-- One when `a` is the greater, zero otherwise. -/
theorem greater_at (a b : Fin 256) : FloatOps.uitofp (F := Ideal) FTy.bf16 (IntOp.cmpi CmpIPredicate.sgt (BitVec.ofNat 32 a.val) (BitVec.ofNat 32 b.val))
    = (if b.val < a.val then 1 else 0 : EReal) := by
  have e : IntOp.cmpi CmpIPredicate.sgt (BitVec.ofNat 32 a.val) (BitVec.ofNat 32 b.val) = if b.val < a.val then 1#1 else 0#1 := by
    refine Eq.trans ?_ (below a b)
    have e : k0_pay92 (ix2 a b) = IntOp.cmpi CmpIPredicate.slt (BitVec.ofNat 32 b.val) (BitVec.ofNat 32 a.val) := by pointwise [k0_pay92]
    rw [e]
    rfl
  rw [e]
  split_ifs
  · show (((1#1 : BitVec 1).toNat : ℝ) : EReal) = 1
    simp
  · show (((0#1 : BitVec 1).toNat : ℝ) : EReal) = 0
    simp

/-- The table of later keys, as computed before the call. -/
theorem table_at (x j : Fin 256) : (V m c main_v7 : FVec Ideal S256x256 .bf16) (ix2 x j) = (if j.val < x.val then 1 else 0 : EReal) := by
  unfold V
  after_results
  refine Eq.trans ?_ (greater_at x j)
  pointwise []

/-- The bias at point `t`. -/
theorem blk0 (t : Fin cfg0.N) (h : Fin 8) : (iblk m c 0 t : FVec Ideal S8 .f32) (ix1 h) = aB m c (ix1 h) := by
  blk_point [iblk, V_main_arg0, idx_at t]

/-- The queries at point `t`. -/
theorem blk1 (t : Fin cfg0.N) (r : Fin 256) (l : Fin 128) (R : Fin 16384) (hR : (R : ℕ) = (t.val / 32 * 8 + t.val % 8) * 256 + r)
    (C : Fin 512) (hC : (C : ℕ) = t.val / 8 % 4 * 128 + l) :
    (iblk m c 1 t : FVec Ideal S256x128 .f32) (ix2 r l) = aQ m c (ix2 R C) := by
  blk_point [iblk, V_main_arg1, idx_at t]

/-- The keys at point `t`. -/
theorem blk2 (t : Fin cfg0.N) (n : Fin 2048) (l : Fin 128) (R : Fin 16384) (hR : (R : ℕ) = t.val / 32 * 2048 + n)
    (C : Fin 512) (hC : (C : ℕ) = t.val / 8 % 4 * 128 + l) :
    (iblk m c 2 t : FVec Ideal S1x2048x128 .f32) (ix3 0 n l) = aK m c (ix3 0 R C) := by
  blk_point [iblk, V_main_arg2, idx_at t]

/-- The values at point `t`. -/
theorem blk3 (t : Fin cfg0.N) (n : Fin 2048) (l : Fin 128) (R : Fin 16384) (hR : (R : ℕ) = t.val / 32 * 2048 + n)
    (C : Fin 512) (hC : (C : ℕ) = t.val / 8 % 4 * 128 + l) :
    (iblk m c 3 t : FVec Ideal S1x2048x128 .f32) (ix3 0 n l) = aV m c (ix3 0 R C) := by
  blk_point [iblk, V_main_arg3, idx_at t]

/-- The table at point `t`. -/
theorem blk4 (t : Fin cfg0.N) (x j : Fin 256) :
    (iblk m c 4 t : FVec Ideal S256x256 .bf16) (ix2 x j) = (if j.val < x.val then 1 else 0 : EReal) := by
  rw [← table_at m c x j]
  blk_point [iblk, idx_at t]

/-- The first head's scaled query. -/
theorem pay90_at (X : Vec Ideal S256x128 .f32) (r : Fin 256) (l : Fin 128) :
    k0_pay90 X (ix2 r l) = if l.val < 64 then X (ix2 r l) * Ideal.ofBits .f32 0x3E000000#32 else 0 := by
  have e : k0_pay90 X (ix2 r l) = Scalar.select (k0_pay88 (ix2 0 l)) (X (ix2 r l) * Ideal.ofBits .f32 0x3E000000#32) 0 := by
    pointwise [k0_pay90, k0_pay87]
  rw [e]
  split_ifs with h
  · rw [lane_lo l h, select_one]
  · rw [lane_lo' l h, select_zero]

/-- The second head's scaled query. -/
theorem pay91_at (X : Vec Ideal S256x128 .f32) (r : Fin 256) (l : Fin 128) :
    k0_pay91 X (ix2 r l) = if l.val < 64 then 0 else X (ix2 r l) * Ideal.ofBits .f32 0x3E000000#32 := by
  have e : k0_pay91 X (ix2 r l) = Scalar.select (k0_pay89 (ix2 0 l)) (X (ix2 r l) * Ideal.ofBits .f32 0x3E000000#32) 0 := by
    pointwise [k0_pay91, k0_pay87]
  rw [e]
  split_ifs with h
  · rw [lane_hi' l h, select_zero]
  · rw [lane_hi l h, select_one]

/-- A sum over the lanes, split into the two heads'. -/
theorem sum_lanes (f : Fin 128 → EReal) : ∑ x : Fin 128, f x = ∑ x : Fin 64, f ⟨x.val, by omega⟩ + ∑ x : Fin 64, f ⟨64 + x.val, by omega⟩ := by
  rw [Fin.sum_univ_tiles 2 64 rfl, Fin.sum_univ_two]
  congr 1

/-- The score a lane of the block uses is the score of its row, head and key. -/
theorem score_at (t : Fin cfg0.N) (r : Fin 256) (l : Fin 128) (R : Fin 16384)
    (hR : (R : ℕ) = (t.val / 32 * 8 + t.val % 8) * 256 + r) (C : Fin 512) (hC : (C : ℕ) = t.val / 8 % 4 * 128 + l)
    (h0 h1 : Fin 8) (e0 : (h0 : ℕ) = 2 * (t.val / 8 % 4)) (e1 : (h1 : ℕ) = 2 * (t.val / 8 % 4) + 1) :
    laneScore (k0_pay90 (iblk m c 1 t)) (k0_pay91 (iblk m c 1 t)) ((iblk m c 0 t : FVec Ideal S8 .f32) (ix1 h0))
      ((iblk m c 0 t : FVec Ideal S8 .f32) (ix1 h1)) (iblk m c 2 t) r l
      = logit (aB m c) (aQ m c) (aK m c) R (colHead C) := by
  have ht : t.val < 256 := lt_of_lt_of_eq t.isLt N_0
  funext n
  have hk : (keyRow R n : ℕ) = t.val / 32 * 2048 + (Fin.ofNat 2048 n).val := by
    show R.val / 2048 * 2048 + n % 2048 = t.val / 32 * 2048 + n % 2048
    omega
  unfold laneScore
  by_cases hl : l.val < 64
  · have eh : colHead C = h0 := Fin.ext (by show C.val / 64 = _; omega)
    rw [if_pos hl, score, sum_lanes, blk0, logit, eh]
    congr 1
    refine (congrArg₂ (· + ·) ?_ (Finset.sum_eq_zero fun x _ => ?_)).trans (add_zero _)
    · refine Finset.sum_congr rfl fun x _ => ?_
      rw [pay90_at, if_pos x.isLt, blk1 m c t r _ R hR (headCol h0 x) (by show h0.val * 64 + x.val = _ + x.val; omega),
        blk2 m c t _ _ (keyRow R n) hk (headCol h0 x) (by show h0.val * 64 + x.val = _ + x.val; omega)]
    · rw [pay90_at, if_neg (by show ¬ 64 + x.val < 64; omega), zero_mul]
  · have eh : colHead C = h1 := Fin.ext (by show C.val / 64 = _; omega)
    rw [if_neg hl, score, sum_lanes, blk0, logit, eh]
    congr 1
    refine (congrArg₂ (· + ·) (Finset.sum_eq_zero fun x _ => ?_) ?_).trans (zero_add _)
    rotate_left
    · refine Finset.sum_congr rfl fun x _ => ?_
      rw [pay91_at, if_neg (by show ¬ 64 + x.val < 64; omega),
        blk1 m c t r _ R hR (headCol h1 x) (by show h1.val * 64 + x.val = _ + (64 + x.val); omega),
        blk2 m c t _ _ (keyRow R n) hk (headCol h1 x) (by show h1.val * 64 + x.val = _ + (64 + x.val); omega)]
    · rw [pay91_at, if_pos x.isLt, zero_mul]

/-- The three coordinates of a point. -/
theorem coord_at (t : Fin cfg0.N) : (grid0.coords t 1).val = t.val / 8 % 4 ∧ (grid0.coords t 2).val = t.val % 8 := by
  refine ⟨(Pipeline.Grid.coords_val t 1 (by decide : grid0.stride 1 = 8) rfl).trans ?_, (Pipeline.Grid.coords_val t 2 (by decide : grid0.stride 2 = 1) rfl).trans ?_⟩
  · rfl
  · exact congrArg (· % 8) (Nat.div_one _)

/-- The block stored at point `t`. -/
theorem out_at (t : Fin cfg0.N) (r : Fin 256) (l : Fin 128) (R : Fin 16384)
    (hR : (R : ℕ) = (t.val / 32 * 8 + t.val % 8) * 256 + r) (C : Fin 512) (hC : (C : ℕ) = t.val / 8 % 4 * 128 + l) :
    (outsAt0 m c t.val t.isLt : FVec Ideal S256x128 .f32) (ix2 r l) = attend (aB m c) (aQ m c) (aK m c) (aV m c) R C := by
  have ht : t.val < 256 := lt_of_lt_of_eq t.isLt N_0
  obtain ⟨c1, c2⟩ := coord_at t
  have hE : (grid0.coords t 2).val * 256 + r.val = R.val % 2048 := by omega
  have fin : ∀ X : EReal, X = ∑ n ∈ Finset.Ico 0 ((grid0.coords t 2).val * 256 + r.val),
        weight (laneScore (k0_pay90 (iblk m c 1 t)) (k0_pay91 (iblk m c 1 t)) ((iblk m c 0 t : FVec Ideal S8 .f32) (ix1 ⟨2 * (grid0.coords t 1).val, head_lt0 _⟩))
          ((iblk m c 0 t : FVec Ideal S8 .f32) (ix1 ⟨2 * (grid0.coords t 1).val + 1, head_lt1 _⟩)) (iblk m c 2 t) r l) ((grid0.coords t 2).val * 256 + r.val) n
          * (iblk m c 3 t : FVec Ideal S1x2048x128 .f32) (ix3 0 (Fin.ofNat 2048 n) l) →
      X = attend (aB m c) (aQ m c) (aK m c) (aV m c) R C := by
    intro X hX
    rw [hX, score_at m c t r l R hR C hC _ _ (by show 2 * (grid0.coords t 1).val = _; omega) (by show 2 * (grid0.coords t 1).val + 1 = _; omega), hE, attend]
    refine Finset.sum_congr rfl fun n _ => ?_
    rw [blk3 m c t _ l (keyRow R n) (by show R.val / 2048 * 2048 + n % 2048 = t.val / 32 * 2048 + n % 2048; omega) C hC]
  by_cases h0 : t.val % 2 = 1
  · rw [outsAt0_B m c t h0]
    exact fin _ (out_B_at c (grid0.coords t) _ _ _ _ _ _ _ _ _ _ _ _ _ _ _ _ _ _ _ _ _ _ (by omega) (blk4 m c t) r l)
  · rw [outsAt0_A m c t h0]
    exact fin _ (out_A_at c (grid0.coords t) _ _ _ _ _ _ _ _ _ _ _ _ _ _ _ _ _ _ _ _ _ _ (by omega) (blk4 m c t) r l)

/-- The kernel's result array. -/
theorem final : (dats m 0 c).arrAt 5 (cfgs 0).N = RES (aB m c) (aQ m c) (aK m c) (aV m c) := by
  refine (dats m 0 c).arrAt_eq_of_covers 5 _ (by decide +kernel) fun t hf y => ?_
  have ht : t.val < 256 := lt_of_lt_of_eq t.isLt N_0
  obtain ⟨r, l, rfl⟩ : ∃ (r : Fin 256) (l : Fin 128), y = ix2 r l := ⟨y 0, y 1, by blk_ext⟩
  obtain ⟨R, hR⟩ : ∃ R : Fin 16384, (R : ℕ) = (t.val / 32 * 8 + t.val % 8) * 256 + r := ⟨⟨(t.val / 32 * 8 + t.val % 8) * 256 + r, by omega⟩, rfl⟩
  obtain ⟨C, hC⟩ : ∃ C : Fin 512, (C : ℕ) = t.val / 8 % 4 * 128 + l := ⟨⟨t.val / 8 % 4 * 128 + l, by omega⟩, rfl⟩
  have e : ((cfg0.win 5).blk t).view.emb (ix2 r l) = (ix2 R C : S16384x512.Idx) := by
    blk_ext [idx_at t]
  rw [e]
  blk_simp
  rw [after0_5]
  exact out_at m c t r l R hR C hC

end Cert.SbIdeal.Value
end
-- ==== Proof.SbReference.lean ====
/-
  The reference of the stick-breaking attention, entry by entry.
-/
module

public import proofs.«01_k».proof.Proof.SbPoint
public import proofs.«01_k».proof.Proof.InProjMath
public import proofs.«01_k».proof.Proof.Gen.SbReferenceIdeal
public import proofs.«01_k».proof.Proof.Gen.SbReferenceIdeal.Run
public import Idealize.ShloMosaic.Lib.Pointwise
public import Idealize.ShloMosaic.Lib.Pipeline.ValueKit

@[expose] public section

set_option maxRecDepth 16384

noncomputable section

namespace Cert.SbReferenceIdeal.Attention

open Idealize.ShloMosaic Idealize.ShloMosaic.TcCoe Idealize.SL.Sem
open Cert.SbReferenceIdeal Cert.SbReferenceIdeal.Gen Cert.SbReferenceIdeal.Facts Cert.InProjMath
open Cert.SbIdeal.Value (soft)

/-- The logarithm of a nonpositive power of `e` plus one is real. -/
theorem log_one_add (r : ℝ) : Ideal.log (1 + Ideal.exp (r : EReal)) = ((Real.log (1 + Real.exp r) : ℝ) : EReal) := by
  show Ideal.log (1 + ((Real.exp r : ℝ) : EReal)) = _
  rw [show (1 : EReal) + ((Real.exp r : ℝ) : EReal) = ((1 + Real.exp r : ℝ) : EReal) by rw [EReal.coe_add]; rfl]
  show (if 1 + Real.exp r ≤ 0 then (⊥ : EReal) else ((Real.log (1 + Real.exp r) : ℝ) : EReal)) = _
  rw [if_neg (by have := Real.exp_pos r; linarith)]

theorem max_coe (a b : ℝ) : ((max a b : ℝ) : EReal) = max (a : EReal) (b : EReal) := EReal.coe_strictMono.monotone.map_max

theorem abs_coe (r : ℝ) : max (r : EReal) (-(r : EReal)) = ((|r| : ℝ) : EReal) := by
  rw [← EReal.coe_neg, ← max_coe]
  rfl

theorem soft_coe (r : ℝ) : soft (r : EReal) = ((max r 0 + Real.log (1 + Real.exp (-|r|)) : ℝ) : EReal) := by
  unfold soft
  rw [show (FloatOps.absf (F := Ideal) (φ := .f32) (r : EReal) : EReal) = ((|r| : ℝ) : EReal) from abs_coe r, zero_sub, ← EReal.coe_neg, log_one_add, EReal.coe_add, max_coe]
  rfl

/-- The scaled logarithm printed for one entry. -/
def plus (y : EReal) : EReal := max y 0 + Ideal.log1p (Ideal.exp (-(FloatOps.absf (F := Ideal) (φ := .f32) (y - 0))))

theorem plus_coe (r : ℝ) : plus (-(r : EReal)) = soft (r : EReal) - r := by
  unfold plus
  rw [sub_zero, ← EReal.coe_neg, show (FloatOps.absf (F := Ideal) (φ := .f32) ((-r : ℝ) : EReal) : EReal) = ((|-r| : ℝ) : EReal) from abs_coe (-r),
    ← EReal.coe_neg, Ideal.log1p, log_one_add, soft_coe, ← EReal.coe_sub, abs_neg,
    show (max ((-r : ℝ) : EReal) 0) = ((max (-r) 0 : ℝ) : EReal) by rw [max_coe]; rfl, ← EReal.coe_add]
  congr 1
  rcases le_total r 0 with h | h
  · rw [max_eq_left (by linarith), max_eq_right h]; ring
  · rw [max_eq_right (by linarith), max_eq_left h]; ring

/-- The logarithm of the logistic function, as printed. -/
def lsg (x : FVec Ideal S8x8x2048x2048 .f32) : FVec Ideal S8x8x2048x2048 .f32 :=
  Host.negf (select (cmpf .une (subf (Host.negf x) (broadcastInDim S8x8x2048x2048 ![] bcast_S_S8x8x2048x2048 (constant S_ .f32 0x00000000#32)))
      (subf (Host.negf x) (broadcastInDim S8x8x2048x2048 ![] bcast_S_S8x8x2048x2048 (constant S_ .f32 0x00000000#32))))
    (addf (Host.negf x) (broadcastInDim S8x8x2048x2048 ![] bcast_S_S8x8x2048x2048 (constant S_ .f32 0x00000000#32)))
    (addf (maximumf (Host.negf x) (broadcastInDim S8x8x2048x2048 ![] bcast_S_S8x8x2048x2048 (constant S_ .f32 0x00000000#32)))
      (Host.log1p (Host.exp (Host.negf (Host.absf (subf (Host.negf x) (broadcastInDim S8x8x2048x2048 ![] bcast_S_S8x8x2048x2048 (constant S_ .f32 0x00000000#32)))))))))

theorem lsg_at (x : FVec Ideal S8x8x2048x2048 .f32) (b h : Fin 8) (s n : Fin 2048) :
    lsg x (ix4 b h s n) = -plus (-(x (ix4 b h s n))) := by
  have e : lsg x (ix4 b h s n) = -(if -x (ix4 b h s n) ≠ -x (ix4 b h s n) then -x (ix4 b h s n)
      else max (-x (ix4 b h s n)) 0 + Ideal.log1p (Ideal.exp (-FloatOps.absf (F := Ideal) (φ := .f32) (-x (ix4 b h s n))))) := by
    pointwise [lsg]
  rw [e, if_neg (not_not.2 rfl), plus, sub_zero]

/-- The scores. -/
def zz (B : FVec Ideal S8 .f32) (Q : FVec Ideal S16384x512 .f32) (K : FVec Ideal S2x16384x512 .f32) : FVec Ideal S8x8x2048x2048 .f32 :=
  addf (mulf (Host.dotGeneral dot_S8x2048x8x64_S8x2048x8x64_S8x8x2048x2048_3_3_1_1_02_02 none (shapeCast _ Q shapeCasts_S16384x512_S8x2048x8x64) (shapeCast _ (shapeCast _ (extractStridedSlice S1x16384x512 ![0, 0, 0] K slices_S2x16384x512_S1x16384x512_0_0_0) shapeCasts_S1x16384x512_S16384x512) shapeCasts_S16384x512_S8x2048x8x64)) (broadcastInDim S8x8x2048x2048 ![] bcast_S_S8x8x2048x2048 (constant S_ .f32 0x3E000000#32))) (broadcastInDim S8x8x2048x2048 ![0, 1, 2, 3] bcast_S1x8x1x1_S8x8x2048x2048_0_1_2_3 (broadcastInDim S1x8x1x1 ![1] bcast_S8_S1x8x1x1_1 B))

theorem zz_at (B : FVec Ideal S8 .f32) (Q : FVec Ideal S16384x512 .f32) (K : FVec Ideal S2x16384x512 .f32) (b h : Fin 8) (s n : Fin 2048) :
    zz B Q K (ix4 b h s n) = (∑ x : Fin 64, Q (ix2 ⟨b.val * 2048 + s.val, by omega⟩ ⟨h.val * 64 + x.val, by omega⟩)
      * K (ix3 0 ⟨b.val * 2048 + n.val, by omega⟩ ⟨h.val * 64 + x.val, by omega⟩)) * Ideal.ofBits .f32 0x3E000000#32 + B (ix1 h) := by
  pointwise [zz]

/-- Which keys come before a row. -/
def mask : IVec S2048x2048 1 := cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- Before a row, or after it. -/
theorem before_at (a b : Fin 2048) : IntOp.cmpi CmpIPredicate.slt (BitVec.ofNat 32 a.val) (BitVec.ofNat 32 b.val) = if a.val < b.val then 1#1 else 0#1 := by
  have hj := a.isLt; have hr := b.isLt
  have e1 : (BitVec.ofNat 32 a.val).toInt = a.val := by
    have h : (BitVec.ofNat 32 a.val).toNat = a.val := by rw [BitVec.toNat_ofNat]; omega
    rw [BitVec.toInt_eq_toNat_of_lt (by rw [h]; omega), h]
  have e2 : (BitVec.ofNat 32 b.val).toInt = b.val := by
    have h : (BitVec.ofNat 32 b.val).toNat = b.val := by rw [BitVec.toNat_ofNat]; omega
    rw [BitVec.toInt_eq_toNat_of_lt (by rw [h]; omega), h]
  have e3 : BitVec.slt (BitVec.ofNat 32 a.val) (BitVec.ofNat 32 b.val) = decide (a.val < b.val) := by
    simp only [BitVec.slt, e1, e2, Nat.cast_lt]
  unfold IntOp.cmpi
  simp only [e3]
  by_cases h : a.val < b.val <;> simp [h]

theorem mask_at (s n : Fin 2048) : mask (ix2 s n) = if n.val < s.val then 1#1 else 0#1 := by
  refine Eq.trans ?_ (before_at n s)
  pointwise [mask]

/-- What is masked away becomes zero. -/
def masked (x : FVec Ideal S8x8x2048x2048 .f32) : FVec Ideal S8x8x2048x2048 .f32 :=
  select (broadcastInDim S8x8x2048x2048 ![2, 3] bcast_S2048x2048_S8x8x2048x2048_2_3 mask) x (broadcastInDim S8x8x2048x2048 ![] bcast_S_S8x8x2048x2048 (id (constant S_ .f32 0x00000000#32)))

theorem masked_at (x : FVec Ideal S8x8x2048x2048 .f32) (b h : Fin 8) (s n : Fin 2048) :
    masked x (ix4 b h s n) = if n.val < s.val then x (ix4 b h s n) else 0 := by
  have e : masked x (ix4 b h s n) = Scalar.select (mask (ix2 s n)) (x (ix4 b h s n)) 0 := by
    pointwise [masked, id]
  rw [e, mask_at]
  split_ifs <;> rfl

/-- Adding one after another is adding the sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window's sum, as a sum over the window's indices. -/
theorem window_sum {S T U : Shape} (window strides lo hi : Fin S.rank → Nat) (x : FVec Ideal S .f32) (init : U.Idx → Ideal .f32)
    (h : S.ReduceWindows window strides lo hi T) (hu : 0 < U.numel) (j : T.Idx) :
    Host.reduceWindowAdd (F := Ideal) window strides lo hi x init h hu j = (init (Shape.Idx.first hu) : EReal) + ∑ p : (⟨S.rank, window⟩ : Shape).Idx,
      (if hin : ∀ a, lo a ≤ (j (a.cast h.1.symm)).val * strides a + (p a).val ∧ (j (a.cast h.1.symm)).val * strides a + (p a).val - lo a < S.size a
        then x (fun a => ⟨(j (a.cast h.1.symm)).val * strides a + (p a).val - lo a, (hin a).2⟩) else init (Shape.Idx.first hu) : EReal) := by
  rw [← (⟨S.rank, window⟩ : Shape).rowMajor.symm.sum_comp, Fin.sum_univ_def, ← foldl_add]
  unfold Host.reduceWindowAdd
  rw [Ideal.hostReduceWindowAdd_def]
  unfold Ideal.hostReduceWindowAdd Host.reduceWindow
  refine congrArg (fun f => List.foldl f _ _) (funext fun r => funext fun n => ?_)
  dsimp only
  refine congrArg (r + ·) ?_
  split_ifs <;> rfl

/-- The window of a whole row. -/
abbrev Win : Shape := ⟨4, ![1, 1, 1, 2048]⟩

/-- A sum over the window's indices is a sum over a row's places. -/
theorem sum_win (g : Win.Idx → EReal) : ∑ p, g p = ∑ w : Fin 2048, g (ix4 (0 : Fin 1) (0 : Fin 1) (0 : Fin 1) w) := by
  refine (Fintype.sum_bijective (fun w : Fin 2048 => (ix4 (0 : Fin 1) (0 : Fin 1) (0 : Fin 1) w : Win.Idx)) ⟨fun w w' e => congrFun e 3, fun p => ⟨p 3, ?_⟩⟩ _ _ fun w => rfl).symm
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- The running sum of a row from its last key back. -/
def running (x : FVec Ideal S8x8x2048x2048 .f32) : FVec Ideal S8x8x2048x2048 .f32 :=
  Host.reduceWindowAdd ![1, 1, 1, 2048] ![1, 1, 1, 1] ![0, 0, 0, 0] ![0, 0, 0, 2047] x (broadcastInDim S_ ![] bcast_S_S_ (constant S_ .f32 0x00000000#32)) reduceWindows_S8x8x2048x2048_S8x8x2048x2048_w1s1p0_0_w1s1p0_0_w1s1p0_0_w2048s1p0_2047 h_S_

theorem running_at (x : FVec Ideal S8x8x2048x2048 .f32) (b h : Fin 8) (s k : Fin 2048) (y : ℕ → EReal) (hy : ∀ j : Fin 2048, x (ix4 b h s j) = y j.val) :
    running x (ix4 b h s k) = ∑ j ∈ Finset.Ico k.val 2048, y j := by
  have ez : (broadcastInDim S_ ![] bcast_S_S_ (constant S_ .f32 0x00000000#32) : FVec Ideal S_ .f32) (Shape.Idx.first h_S_) = (0 : EReal) := by
    show Ideal.ofBits .f32 0x00000000#32 = 0
    simp [Ideal.ofBits, Ideal.ieee]
  have e1 : running x (ix4 b h s k) = ∑ p : Win.Idx, (if hin : ∀ a : Fin 4, (![0, 0, 0, 0] : Fin 4 → ℕ) a ≤ (ix4 b h s k a).val * (![1, 1, 1, 1] : Fin 4 → ℕ) a + (p a).val
      ∧ (ix4 b h s k a).val * (![1, 1, 1, 1] : Fin 4 → ℕ) a + (p a).val - (![0, 0, 0, 0] : Fin 4 → ℕ) a < S8x8x2048x2048.size a
      then x (fun a => ⟨(ix4 b h s k a).val * (![1, 1, 1, 1] : Fin 4 → ℕ) a + (p a).val - (![0, 0, 0, 0] : Fin 4 → ℕ) a, (hin a).2⟩) else (0 : EReal)) := by
    refine (window_sum _ _ _ _ x _ _ h_S_ (ix4 b h s k)).trans ?_
    rw [ez, zero_add]
    rfl
  rw [e1, sum_win]
  have e2 : ∀ w : Fin 2048, (if hin : ∀ a : Fin 4, (![0, 0, 0, 0] : Fin 4 → ℕ) a ≤ (ix4 b h s k a).val * (![1, 1, 1, 1] : Fin 4 → ℕ) a + ((ix4 (0 : Fin 1) (0 : Fin 1) (0 : Fin 1) w : Win.Idx) a).val
      ∧ (ix4 b h s k a).val * (![1, 1, 1, 1] : Fin 4 → ℕ) a + ((ix4 (0 : Fin 1) (0 : Fin 1) (0 : Fin 1) w : Win.Idx) a).val - (![0, 0, 0, 0] : Fin 4 → ℕ) a < S8x8x2048x2048.size a
      then x (fun a => ⟨(ix4 b h s k a).val * (![1, 1, 1, 1] : Fin 4 → ℕ) a + ((ix4 (0 : Fin 1) (0 : Fin 1) (0 : Fin 1) w : Win.Idx) a).val - (![0, 0, 0, 0] : Fin 4 → ℕ) a, (hin a).2⟩) else (0 : EReal))
      = (fun n : ℕ => if n < 2048 - k.val then y (k.val + n) else 0) w.val := fun w => by
    show _ = if w.val < 2048 - k.val then y (k.val + w.val) else 0
    by_cases hw : w.val < 2048 - k.val
    · rw [if_pos hw, dif_pos]
      · refine Eq.trans (congrArg x ?_) (hy ⟨k.val + w.val, by omega⟩)
        funext a
        refine Fin.ext ?_
        match a with
        | ⟨0, _⟩ => show b.val * 1 + 0 - 0 = b.val; omega
        | ⟨1, _⟩ => show h.val * 1 + 0 - 0 = h.val; omega
        | ⟨2, _⟩ => show s.val * 1 + 0 - 0 = s.val; omega
        | ⟨3, _⟩ => show k.val * 1 + w.val - 0 = k.val + w.val; omega
      · intro a
        match a with
        | ⟨0, _⟩ => show 0 ≤ b.val * 1 + 0 ∧ b.val * 1 + 0 - 0 < 8; omega
        | ⟨1, _⟩ => show 0 ≤ h.val * 1 + 0 ∧ h.val * 1 + 0 - 0 < 8; omega
        | ⟨2, _⟩ => show 0 ≤ s.val * 1 + 0 ∧ s.val * 1 + 0 - 0 < 2048; omega
        | ⟨3, _⟩ => show 0 ≤ k.val * 1 + w.val ∧ k.val * 1 + w.val - 0 < 2048; omega
    · rw [if_neg hw, dif_neg]
      intro hin
      have h3 : 0 ≤ k.val * 1 + w.val ∧ k.val * 1 + w.val - 0 < 2048 := hin 3
      omega
  rw [Finset.sum_congr rfl fun w _ => e2 w, Fin.sum_univ_eq_sum_range (fun n : ℕ => if n < 2048 - k.val then y (k.val + n) else 0) 2048,
    ← Finset.sum_filter, Finset.sum_Ico_eq_sum_range]
  refine Finset.sum_congr (Finset.ext fun n => ?_) fun _ _ => rfl
  rw [Finset.mem_filter, Finset.mem_range, Finset.mem_range]
  omega

/-- The logarithm of what a row's later keys leave. -/
def after (x : FVec Ideal S8x8x2048x2048 .f32) : FVec Ideal S8x8x2048x2048 .f32 := subf (running x) x

/-- On a row of reals it is the sum over the later keys. -/
theorem after_at (x : FVec Ideal S8x8x2048x2048 .f32) (b h : Fin 8) (s k : Fin 2048) (y : ℕ → ℝ) (hy : ∀ j : Fin 2048, x (ix4 b h s j) = ((y j.val : ℝ) : EReal)) :
    after x (ix4 b h s k) = ((∑ j ∈ Finset.Ico (k.val + 1) 2048, y j : ℝ) : EReal) := by
  show running x (ix4 b h s k) - x (ix4 b h s k) = _
  rw [running_at x b h s k (fun n => (y n : EReal)) hy, hy, sum_coe, ← EReal.coe_sub, Finset.sum_eq_sum_Ico_succ_bot k.isLt, add_sub_cancel_left]

/-- The weighted values, laid out as rows. -/
def rows (V : FVec Ideal S2x16384x512 .f32) (a : FVec Ideal S8x8x2048x2048 .f32) : FVec Ideal S16384x512 .f32 :=
  shapeCast _ (transpose S8x2048x8x64 [0, 3, 1, 2] (Host.dotGeneral dot_S8x2048x8x64_S8x8x2048x2048_S8x8x64x2048_1_3_3_2_02_01 none (shapeCast _ (shapeCast _ (extractStridedSlice S1x16384x512 ![0, 0, 0] V slices_S2x16384x512_S1x16384x512_0_0_0) shapeCasts_S1x16384x512_S16384x512) shapeCasts_S16384x512_S8x2048x8x64) a) transposes_S8x8x64x2048_S8x2048x8x64_0_3_1_2) shapeCasts_S8x2048x8x64_S16384x512

theorem rows_at (V : FVec Ideal S2x16384x512 .f32) (a : FVec Ideal S8x8x2048x2048 .f32) (R : Fin 16384) (C : Fin 512) :
    rows V a (ix2 R C) = ∑ n : Fin 2048, V (ix3 0 ⟨R.val / 2048 * 2048 + n.val, by omega⟩ C)
      * a (ix4 ⟨R.val / 2048, by omega⟩ ⟨C.val / 64, by omega⟩ ⟨R.val % 2048, by omega⟩ n) := by
  pointwise [rows]

/-- The reference's result, in these terms. -/
theorem res_eq (m : (ℓ : Loc nD τ sig) → Buf (Elt Ideal) ℓ) (c : Dev nD) :
    Value.res_main_v30 m c = rows (m ((c.tc : Thread nD τ).loc main_arg3)) (masked (Host.exp (addf
      (lsg (zz (m ((c.tc : Thread nD τ).loc main_arg0)) (m ((c.tc : Thread nD τ).loc main_arg1)) (m ((c.tc : Thread nD τ).loc main_arg2))))
      (after (masked (lsg (Host.negf (zz (m ((c.tc : Thread nD τ).loc main_arg0)) (m ((c.tc : Thread nD τ).loc main_arg1)) (m ((c.tc : Thread nD τ).loc main_arg2)))))))))) := rfl

end Cert.SbReferenceIdeal.Attention

end
-- ==== Proof.SbAgree.lean ====
/-
  The stick-breaking attention's value claim: on real biases, queries and keys the reference's result is the array the
  kernel leaves.
-/
module

public import proofs.«01_k».proof.Proof.SbValue
public import proofs.«01_k».proof.Proof.SbReference
public import proofs.«01_k».proof.Defs

@[expose] public section

set_option maxRecDepth 16384

noncomputable section

open Idealize.ShloMosaic Idealize.ShloMosaic.TcCoe Idealize.SL.Sem

namespace Cert.SbAgree

open Cert.InProjMath
open Cert.SbIdeal (S8 S16384x512 S2x16384x512)
open Cert.SbIdeal.Value (soft weight keyRow headCol colHead logit attend RES)
open Cert.SbReferenceIdeal.Attention (plus plus_coe soft_coe zz zz_at lsg lsg_at masked masked_at after after_at rows rows_at)

/-- The scale is real. -/
theorem scale_coe : Ideal.ofBits .f32 0x3E000000#32 = (((1 : ℝ) / 8 : ℝ) : EReal) := by
  simp [Ideal.ofBits, Ideal.ieee, -EReal.coe_mul]; norm_num

/-- A sum of products scaled at the end is the sum of the products of scaled factors. -/
theorem scale_sum (f g : Fin 64 → EReal) (hf : ∀ x, IsReal (f x)) (hg : ∀ x, IsReal (g x)) (k : ℝ) :
    (∑ x, f x * g x) * (k : EReal) = ∑ x, f x * (k : EReal) * g x := by
  choose a ha using hf
  choose b hb using hg
  have e1 : ∑ x, f x * g x = ((∑ x, a x * b x : ℝ) : EReal) := by
    rw [← sum_coe]
    exact Finset.sum_congr rfl fun x _ => by rw [ha, hb, EReal.coe_mul]
  have e2 : ∑ x, f x * (k : EReal) * g x = ((∑ x, a x * k * b x : ℝ) : EReal) := by
    rw [← sum_coe]
    exact Finset.sum_congr rfl fun x _ => by rw [ha, hb, EReal.coe_mul, EReal.coe_mul]
  rw [e1, e2, ← EReal.coe_mul, Finset.sum_mul]
  exact congrArg _ (Finset.sum_congr rfl fun x _ => by ring)

theorem plus_eq (y : EReal) : plus y = soft y := by
  unfold plus soft
  rw [sub_zero, zero_sub]
  rfl

section Row

variable (B : FVec Ideal S8 .f32) (Q : FVec Ideal S16384x512 .f32) (K V : FVec Ideal S2x16384x512 .f32)
  (hB : ∀ i, IsReal (B i)) (hQ : ∀ i, IsReal (Q i)) (hK : ∀ r q, IsReal (K (ix3 0 r q))) (R : Fin 16384) (C : Fin 512)

include hB hQ hK

/-- Every score is real. -/
theorem logit_real (h : Fin 8) (n : ℕ) : IsReal (logit B Q K R h n) := by
  have hs : IsReal (∑ x : Fin 64, Q (ix2 R (headCol h x)) * Ideal.ofBits .f32 0x3E000000#32 * K (ix3 0 (keyRow R n) (headCol h x))) :=
    IsReal.sum fun x => ((hQ _).mul ⟨_, scale_coe⟩).mul (hK _ _)
  obtain ⟨a, ha⟩ := hs
  obtain ⟨b, hb⟩ := hB (ix1 h)
  exact ⟨a + b, by rw [logit, ha, hb, EReal.coe_add]⟩

/-- The reference's score is the kernel's. -/
theorem zz_logit (n : Fin 2048) : zz B Q K (ix4 ⟨R.val / 2048, by omega⟩ ⟨C.val / 64, by omega⟩ ⟨R.val % 2048, by omega⟩ n)
    = logit B Q K R (colHead C) n.val := by
  have eR : (⟨R.val / 2048 * 2048 + R.val % 2048, by omega⟩ : Fin 16384) = R := Fin.ext (by show R.val / 2048 * 2048 + R.val % 2048 = R.val; omega)
  have eK : (⟨R.val / 2048 * 2048 + n.val, by omega⟩ : Fin 16384) = keyRow R n.val := Fin.ext (by show R.val / 2048 * 2048 + n.val = R.val / 2048 * 2048 + n.val % 2048; omega)
  rw [zz_at, logit]
  simp only [eR, eK]
  rw [scale_coe, scale_sum _ _ (fun x => hQ _) (fun x => hK _ _)]
  rfl

/-- The logarithms of what the later keys leave add up. -/
theorem after_logit (n : Fin 2048) : after (masked (lsg (Host.negf (zz B Q K)))) (ix4 ⟨R.val / 2048, by omega⟩ ⟨C.val / 64, by omega⟩ ⟨R.val % 2048, by omega⟩ n)
    = -∑ k ∈ Finset.Ico (n.val + 1) (R.val % 2048), soft (logit B Q K R (colHead C) k) := by
  have hs : ∀ k, ∃ u : ℝ, soft (logit B Q K R (colHead C) k) = (u : EReal) := fun k => by
    obtain ⟨a, ha⟩ := logit_real B Q K hB hQ hK R (colHead C) k
    exact ⟨_, by rw [ha, soft_coe]⟩
  choose u hu using hs
  rw [after_at _ _ _ _ _ (fun k => if k < R.val % 2048 then -u k else 0) fun j => ?_, Finset.sum_congr rfl fun k _ => hu k, sum_coe, ← EReal.coe_neg,
    ← Finset.sum_neg_distrib, ← Finset.sum_filter]
  · refine congrArg _ (Finset.sum_congr (Finset.ext fun k => ?_) fun _ _ => rfl)
    simp only [Finset.mem_filter, Finset.mem_Ico]
    omega
  · have e1 : lsg (Host.negf (zz B Q K)) (ix4 ⟨R.val / 2048, by omega⟩ ⟨C.val / 64, by omega⟩ ⟨R.val % 2048, by omega⟩ j) = ((-u j.val : ℝ) : EReal) := by
      rw [lsg_at, plus_eq]
      show -soft (-(-(zz B Q K (ix4 ⟨R.val / 2048, by omega⟩ ⟨C.val / 64, by omega⟩ ⟨R.val % 2048, by omega⟩ j)))) = _
      rw [neg_neg, zz_logit B Q K hB hQ hK R C j, hu, EReal.coe_neg]
    rw [masked_at, e1]
    show (if j.val < R.val % 2048 then _ else _) = _
    by_cases h1 : j.val < R.val % 2048 <;> simp [h1]

/-- The reference's row is the kernel's. -/
theorem row_eq : rows V (masked (Host.exp (addf (lsg (zz B Q K)) (after (masked (lsg (Host.negf (zz B Q K)))))))) (ix2 R C)
    = attend B Q K V R C := by
  rw [rows_at, attend]
  have e : ∀ n : Fin 2048, V (ix3 0 ⟨R.val / 2048 * 2048 + n.val, by omega⟩ C)
        * masked (Host.exp (addf (lsg (zz B Q K)) (after (masked (lsg (Host.negf (zz B Q K)))))))
          (ix4 ⟨R.val / 2048, by omega⟩ ⟨C.val / 64, by omega⟩ ⟨R.val % 2048, by omega⟩ n)
      = (fun k : ℕ => if k < R.val % 2048 then weight (logit B Q K R (colHead C)) (R.val % 2048) k * V (ix3 0 (keyRow R k) C) else 0) n.val := fun n => by
    have eK : (⟨R.val / 2048 * 2048 + n.val, by omega⟩ : Fin 16384) = keyRow R n.val := Fin.ext (by show R.val / 2048 * 2048 + n.val = R.val / 2048 * 2048 + n.val % 2048; omega)
    rw [masked_at, eK]
    show _ * (if n.val < R.val % 2048 then _ else _) = if n.val < R.val % 2048 then _ else _
    by_cases h : n.val < R.val % 2048
    · rw [if_pos h, if_pos h, mul_comm]
      congr 1
      show Ideal.exp (lsg (zz B Q K) (ix4 ⟨R.val / 2048, by omega⟩ ⟨C.val / 64, by omega⟩ ⟨R.val % 2048, by omega⟩ n)
        + after (masked (lsg (Host.negf (zz B Q K)))) (ix4 ⟨R.val / 2048, by omega⟩ ⟨C.val / 64, by omega⟩ ⟨R.val % 2048, by omega⟩ n)) = _
      rw [after_logit B Q K hB hQ hK R C n, lsg_at, zz_logit B Q K hB hQ hK R C n, weight]
      obtain ⟨a, ha⟩ := logit_real B Q K hB hQ hK R (colHead C) n.val
      rw [ha, plus_coe, soft_coe, ← EReal.coe_sub, ← EReal.coe_sub, ← EReal.coe_neg, neg_sub]
      rfl
    · rw [if_neg h, if_neg h, mul_zero]
  rw [Finset.sum_congr rfl fun n _ => e n, Fin.sum_univ_eq_sum_range (fun k : ℕ => if k < R.val % 2048 then weight (logit B Q K R (colHead C)) (R.val % 2048) k * V (ix3 0 (keyRow R k) C) else 0) 2048,
    ← Finset.sum_filter]
  have es : (Finset.range 2048).filter (fun k => k < R.val % 2048) = Finset.Ico 0 (R.val % 2048) := by
    ext k
    simp only [Finset.mem_filter, Finset.mem_range, Finset.mem_Ico]
    omega
  rw [es]

end Row

end Cert.SbAgree

namespace Cert.Proof

open Cert.InProjMath Cert.SbIdeal.Value Cert.SbIdeal.Gen Cert.SbReferenceIdeal.Gen

instance pre_finite_sb_facts : Cert.Pre_finite_sb.Facts := ⟨by decide, by decide, by decide, by decide⟩

/-- The comparison the precondition makes of one entry. -/
def Bounded (a : EReal) : Prop := BitVec.ofBool (decide (max a (-a) < Ideal.ofBits .f32 0x7F800000#32)) = 1#1

/-- The precondition, read entry by entry: the biases, the queries and the keys are real. -/
theorem real_sb (m : (ℓ : Loc Cert.SbIdeal.nD Cert.SbIdeal.τ Cert.SbIdeal.sig) → Buf (Elt Ideal) ℓ)
    (h : Cert.Pre_SbIdeal_finite_sb m) (c : Dev Cert.SbIdeal.nD) :
    (∀ i, IsReal (aB m c i)) ∧ (∀ i, IsReal (aQ m c i)) ∧ ∀ r q, IsReal (aK m c (ix3 0 r q)) := by
  have key : ∀ a : EReal, Bounded a → IsReal a := fun a e => by
    unfold Bounded at e
    refine isReal_of_abs_lt ?_
    rw [← ofBits_inf]
    by_contra hn
    simp [hn] at e
  refine ⟨fun i => key _ (congrFun (h c).1 i), fun i => key _ (congrFun (h c).2.1 i), fun r q => ?_⟩
  have e : (shapeCast Cert.Pre_finite_sb.S16384x512 (extractStridedSlice Cert.Pre_finite_sb.S1x16384x512 ![0, 0, 0] (aK m c)
      Cert.Pre_finite_sb.Facts.slices_S2x16384x512_S1x16384x512_0_0_0) Cert.Pre_finite_sb.Facts.shapeCasts_S1x16384x512_S16384x512 :
      FVec Ideal Cert.Pre_finite_sb.S16384x512 .f32) (ix2 r q) = aK m c (ix3 0 r q) := by
    pointwise []
  rw [← e]
  exact key _ (congrFun (h c).2.2 (ix2 r q))

set_option maxHeartbeats 4000000 in
/-- From one memory of real biases, queries and keys, the kernel's result is the reference's. -/
theorem sb_algebraic : Cert.algebraic_SbIdeal_SbReferenceIdeal_pre_finite_sb := by
  intro m g m' g' hpre hagree
  refine ⟨fun c => RES (aB m c) (aQ m c) (aK m c) (aV m c), ?_, ?_⟩
  · exact (θ_run _ _ _).mono (fun _ h c => ⟨((h.1 c).1 5).trans (final m c), h.2.1 c⟩)
      (θ_run_and (Cert.SbIdeal.Gen.run_main m g) (Cert.SbIdeal.Gen.frame m g))
  · refine (θ_run _ _ _).mono (fun _ h c => ⟨(h c).1.trans ?_, (h c).2⟩) (Cert.SbReferenceIdeal.Value.run (F := Ideal) m' g')
    obtain ⟨hB, hQ, hK⟩ := real_sb m hpre c
    rw [Cert.SbReferenceIdeal.Attention.res_eq, (hagree c).1, (hagree c).2.1, (hagree c).2.2.1, (hagree c).2.2.2]
    funext i
    obtain ⟨R, C, rfl⟩ : ∃ (R : Fin 16384) (C : Fin 512), i = ix2 R C := ⟨i 0, i 1, by blk_ext⟩
    exact Cert.SbAgree.row_eq _ _ _ _ hB hQ hK R C

end Cert.Proof

end
-- ==== Proof.lean ====
/-
  The assembled claim: every program runs to its end with its arguments unchanged and its counters at zero, the
  idealized kernels print the kernels' own text, and the retention, the feed-forward network, the merge of the branches,
  the input projection and the stick-breaking attention of the prompts each compute what the reference's mathematics does.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Ffn.Frame
public import proofs.«01_k».proof.Proof.Gen.FfnIdeal.Frame
public import proofs.«01_k».proof.Proof.Gen.FfnReferenceIdeal
public import proofs.«01_k».proof.Proof.Gen.Merge.Frame
public import proofs.«01_k».proof.Proof.Gen.MergeIdeal.Frame
public import proofs.«01_k».proof.Proof.Gen.MergeReferenceIdeal
public import proofs.«01_k».proof.Proof.Gen.ReferenceIdeal.StepRun
public import proofs.«01_k».proof.Proof.Gen.FfnReferenceIdeal.Run
public import proofs.«01_k».proof.Proof.Gen.MergeReferenceIdeal.Run
public import proofs.«01_k».proof.Proof.Gen.InProjReferenceIdeal
public import proofs.«01_k».proof.Proof.Gen.InProjReferenceIdeal.Run
public import proofs.«01_k».proof.Proof.RetentionValue
public import proofs.«01_k».proof.Proof.FfnValue
public import proofs.«01_k».proof.Proof.MergeValue
public import proofs.«01_k».proof.Proof.Gen.Sb.Frame
public import proofs.«01_k».proof.Proof.Gen.SbIdeal.Frame
public import proofs.«01_k».proof.Proof.Gen.SbReferenceIdeal
public import proofs.«01_k».proof.Proof.Gen.SbReferenceIdeal.Run
public import proofs.«01_k».proof.Proof.InProjFrame
public import proofs.«01_k».proof.Proof.InProjIdealFrame
public import proofs.«01_k».proof.Proof.InProjReference
public import proofs.«01_k».proof.Proof.SbAgree
public import Idealize.ShloMosaic.Lib.Quiescent
public import Idealize.ShloMosaic.Adequacy
public import Idealize.ShloMosaic.Init

@[expose] public section

noncomputable section

namespace Cert.Proof

open Idealize.ShloMosaic Idealize.SL.Sem

/-- The retention's reference runs to its end, its arguments unchanged. -/
theorem retention_reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The feed-forward reference runs to its end, its arguments unchanged. -/
theorem ffn_reference_frame : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The merge's reference runs to its end, its arguments unchanged. -/
theorem merge_reference_frame : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The input projection's reference runs to its end, its arguments unchanged. -/
theorem in_proj_reference_frame : Cert.quiescent_InProjReferenceIdeal := fun m ρ _ =>
  (θ_run Cert.InProjReferenceIdeal.defs _ _).mono (fun r h => ⟨fun c => (h c).2.2.2.2.2, sem_eq_zero_of_no_sems (by decide) r.2⟩)
    (Cert.InProjReferenceIdeal.Value.run (F := Ideal) m ρ)

/-- The stick-breaking attention's reference runs to its end, its arguments unchanged. -/
theorem sb_reference_frame : Cert.quiescent_SbReferenceIdeal := fun m ρ _ =>
  (θ_run Cert.SbReferenceIdeal.defs _ _).mono (fun r h => ⟨fun c => (h c).2, sem_eq_zero_of_no_sems (by decide) r.2⟩)
    (Cert.SbReferenceIdeal.Value.run (F := Ideal) m ρ)

/-- Every claim about the five calls. -/
theorem claim : Cert.Claim :=
  ⟨Cert.Kernel.Gen.facts, Cert.KernelIdeal.Gen.facts, Cert.ReferenceIdeal.Gen.facts, Cert.Ffn.Gen.facts,
    Cert.FfnIdeal.Gen.facts, Cert.FfnReferenceIdeal.Gen.facts, Cert.Merge.Gen.facts, Cert.MergeIdeal.Gen.facts,
    Cert.MergeReferenceIdeal.Gen.facts, Cert.InProj.Gen.facts, Cert.InProjIdeal.Gen.facts, Cert.InProjReferenceIdeal.Gen.facts,
    Cert.Sb.Gen.facts, Cert.SbIdeal.Gen.facts, Cert.SbReferenceIdeal.Gen.facts, pre_finite_in_facts, pre_finite_sb_facts,
    fun m ρ _ => Cert.Kernel.Gen.frame m ρ, fun m ρ _ => Cert.KernelIdeal.Gen.frame m ρ, retention_reference_frame,
    fun m ρ _ => Cert.Ffn.Gen.frame m ρ, fun m ρ _ => Cert.FfnIdeal.Gen.frame m ρ, ffn_reference_frame,
    fun m ρ _ => Cert.Merge.Gen.frame m ρ, fun m ρ _ => Cert.MergeIdeal.Gen.frame m ρ, merge_reference_frame,
    fun m ρ _ => Cert.InProj.Kernel.frame m ρ, fun m ρ _ => Cert.InProjIdeal.Kernel.frame m ρ,
    fun m ρ _ => Cert.InProjIdeal.Kernel.frame m ρ, in_proj_reference_frame,
    fun m ρ _ => in_proj_reference_frame m ρ trivial,
    fun m ρ _ => Cert.Sb.Gen.frame m ρ, fun m ρ _ => Cert.SbIdeal.Gen.frame m ρ, fun m ρ _ => Cert.SbIdeal.Gen.frame m ρ,
    sb_reference_frame, fun m ρ _ => sb_reference_frame m ρ trivial,
    trivial, retention_algebraic, trivial, ffn_algebraic, trivial, merge_algebraic, trivial, in_proj_algebraic,
    trivial, sb_algebraic⟩

end Cert.Proof

end
